-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "score" .f32 0x3E38AA3B#32 (((8 * (Real.log 2))⁻¹ : ℝ) : EReal)
  ∧ IdealRules.named_const.Statement Cert.KernelIdeal.κ "masked" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v181) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_v189) = v4 c
          ∧ r.2.mem ((c.tc : Thread Cert.ReferenceIdeal.nD Cert.ReferenceIdeal.τ).loc Cert.ReferenceIdeal.main_v190) = v5 c
          ∧ r.2.mem ((c.tc : Thread Cert.ReferenceIdeal.nD Cert.ReferenceIdeal.τ).loc Cert.ReferenceIdeal.main_v191) = v6 c
          ∧ r.2.mem ((c.tc : Thread Cert.ReferenceIdeal.nD Cert.ReferenceIdeal.τ).loc Cert.ReferenceIdeal.main_v193) = v7 c
          ∧ r.2.mem ((c.tc : Thread Cert.ReferenceIdeal.nD Cert.ReferenceIdeal.τ).loc Cert.ReferenceIdeal.main_v194) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x768x2880 : Shape := ⟨3, ![2, 768, 2880]⟩
abbrev S2x768x576 : Shape := ⟨3, ![2, 768, 576]⟩
abbrev S2 : Shape := ⟨1, ![2]⟩
abbrev S_ : Shape := ⟨0, ![]⟩

class Facts : Prop where
  bitsLt_bf16_f32 : FTy.bits .bf16 < FTy.bits .f32
  bcast_S_S2x768x2880 : S_.BroadcastsInDim S2x768x2880 (![] : Fin 0 → Fin S2x768x2880.rank)
  reducesTo_S2x768x2880_S_d0_1_2 : S2x768x2880.ReducesTo [0, 1, 2] S_
  h_S_ : 0 < S_.numel
  bcast_S_S2x768x576 : S_.BroadcastsInDim S2x768x576 (![] : Fin 0 → Fin S2x768x576.rank)
  reducesTo_S2x768x576_S_d0_1_2 : S2x768x576.ReducesTo [0, 1, 2] S_
  bcast_S_S2 : S_.BroadcastsInDim S2 (![] : Fin 0 → Fin S2.rank)
  reducesTo_S2_S_d0 : S2.ReducesTo [0] S_

variable [Facts]

def fn_part1 {F : FTy → Type} [FloatOps F] (main_arg3 : IVec S2 32) (main_v16 : IVec S_ 1) (main_c_4 : IVec S_ 32) : IVec S_ 1 :=
  let main_v17 : IVec S2 32 := broadcastInDim S2 ![] bcast_S_S2 main_c_4
  let main_v18 : IVec S2 1 := cmpi .sle main_arg3 main_v17
  let main_c_5 : IVec S_ 1 := constantI S_ 1 1#1
  let main_v19 : IVec S_ 1 := (fun x v => Host.reduce IntOp.andi x v reducesTo_S2_S_d0 h_S_) main_v18 main_c_5
  let main_v20 : IVec S_ 1 := andi main_v16 main_v19
  main_v20

def fn {F : FTy → Type} [FloatOps F] (main_arg0 : FVec F S2x768x2880 .bf16) (main_arg1 : FVec F S2x768x576 .bf16) (main_arg2 : FVec F S2x768x576 .bf16) (main_arg3 : IVec S2 32) : IVec S_ 1 :=
  let main_v0 : FVec F S2x768x2880 .f32 := (extf .f32 · bitsLt_bf16_f32) main_arg0
  let main_v1 : FVec F S2x768x2880 .f32 := Host.absf main_v0
  let main_cst : FVec F S_ .f32 := constant S_ .f32 0x7F7F0000#32
  let main_v2 : FVec F S2x768x2880 .f32 := broadcastInDim S2x768x2880 ![] bcast_S_S2x768x2880 main_cst
  let main_v3 : IVec S2x768x2880 1 := cmpf .ole main_v1 main_v2
  let main_c : IVec S_ 1 := constantI S_ 1 1#1
  let main_v4 : IVec S_ 1 := (fun x v => Host.reduce IntOp.andi x v reducesTo_S2x768x2880_S_d0_1_2 h_S_) main_v3 main_c
  let main_v5 : FVec F S2x768x576 .f32 := (extf .f32 · bitsLt_bf16_f32) main_arg1
  let main_v6 : FVec F S2x768x576 .f32 := Host.absf main_v5
  let main_cst_0 : FVec F S_ .f32 := constant S_ .f32 0x7F7F0000#32
  let main_v7 : FVec F S2x768x576 .f32 := broadcastInDim S2x768x576 ![] bcast_S_S2x768x576 main_cst_0
  let main_v8 : IVec S2x768x576 1 := cmpf .ole main_v6 main_v7
  let main_c_1 : IVec S_ 1 := constantI S_ 1 1#1
  let main_v9 : IVec S_ 1 := (fun x v => Host.reduce IntOp.andi x v reducesTo_S2x768x576_S_d0_1_2 h_S_) main_v8 main_c_1
  let main_v10 : IVec S_ 1 := andi main_v4 main_v9
  let main_v11 : FVec F S2x768x576 .f32 := (extf .f32 · bitsLt_bf16_f32) main_arg2
  let main_v12 : FVec F S2x768x576 .f32 := Host.absf main_v11
  let main_cst_2 : FVec F S_ .f32 := constant S_ .f32 0x7F7F0000#32
  let main_v13 : FVec F S2x768x576 .f32 := broadcastInDim S2x768x576 ![] bcast_S_S2x768x576 main_cst_2
  let main_v14 : IVec S2x768x576 1 := cmpf .ole main_v12 main_v13
  let main_c_3 : IVec S_ 1 := constantI S_ 1 1#1
  let main_v15 : IVec S_ 1 := (fun x v => Host.reduce IntOp.andi x v reducesTo_S2x768x576_S_d0_1_2 h_S_) main_v14 main_c_3
  let main_v16 : IVec S_ 1 := andi main_v10 main_v15
  let main_c_4 : IVec S_ 32 := constantI S_ 32 768#32
  fn_part1 (F := F) main_arg3 main_v16 main_c_4
-- ==== Kernel.lean ====
abbrev S2x768x2880 : Shape := ⟨3, ![2, 768, 2880]⟩
abbrev S2x768x576 : Shape := ⟨3, ![2, 768, 576]⟩
abbrev S2 : Shape := ⟨1, ![2]⟩
abbrev S2x2880x768 : Shape := ⟨3, ![2, 2880, 768]⟩
abbrev S2x576x768 : Shape := ⟨3, ![2, 576, 768]⟩
abbrev S2x45x64x768 : Shape := ⟨4, ![2, 45, 64, 768]⟩
abbrev S6x2x45 : Shape := ⟨3, ![6, 2, 45]⟩
abbrev S6x45x2x64 : Shape := ⟨4, ![6, 45, 2, 64]⟩
abbrev S2x9x64x768 : Shape := ⟨4, ![2, 9, 64, 768]⟩
abbrev S9x2x12 : Shape := ⟨3, ![9, 2, 12]⟩
abbrev S9x2x64 : Shape := ⟨3, ![9, 2, 64]⟩
abbrev S2x320x768 : Shape := ⟨3, ![2, 320, 768]⟩
abbrev S2x64x768 : Shape := ⟨3, ![2, 64, 768]⟩
abbrev S2x5x64x768 : Shape := ⟨4, ![2, 5, 64, 768]⟩
abbrev S6x5x2x64 : Shape := ⟨4, ![6, 5, 2, 64]⟩
abbrev S2x1x64x768 : Shape := ⟨4, ![2, 1, 64, 768]⟩
abbrev S1x2x12 : Shape := ⟨3, ![1, 2, 12]⟩
abbrev S1x2x64 : Shape := ⟨3, ![1, 2, 64]⟩
abbrev S2x768x64 : Shape := ⟨3, ![2, 768, 64]⟩
abbrev S2x768x128 : Shape := ⟨3, ![2, 768, 128]⟩
abbrev S5x768x128 : Shape := ⟨3, ![5, 768, 128]⟩
abbrev S1x128 : Shape := ⟨2, ![1, 128]⟩
abbrev S64x128 : Shape := ⟨2, ![64, 128]⟩
abbrev S128x128 : Shape := ⟨2, ![128, 128]⟩
abbrev S2x45 : Shape := ⟨2, ![2, 45]⟩
abbrev S1 : Shape := ⟨1, ![1]⟩
abbrev S1x768 : Shape := ⟨2, ![1, 768]⟩
abbrev S1x64x768 : Shape := ⟨3, ![1, 64, 768]⟩
abbrev S64x768 : Shape := ⟨2, ![64, 768]⟩
abbrev S64 : Shape := ⟨1, ![64]⟩
abbrev S64x1 : Shape := ⟨2, ![64, 1]⟩
abbrev S768 : Shape := ⟨1, ![768]⟩
abbrev S1x1 : Shape := ⟨2, ![1, 1]⟩
abbrev S1x255 : Shape := ⟨2, ![1, 255]⟩
abbrev S1x12 : Shape := ⟨2, ![1, 12]⟩
abbrev S1x1x64x768 : Shape := ⟨4, ![1, 1, 64, 768]⟩
abbrev S768x64 : Shape := ⟨2, ![768, 64]⟩
abbrev S1x768x64 : Shape := ⟨3, ![1, 768, 64]⟩
abbrev S64x255 : Shape := ⟨2, ![64, 255]⟩
abbrev S1x64x128 : Shape := ⟨3, ![1, 64, 128]⟩
abbrev S1x1x1 : Shape := ⟨3, ![1, 1, 1]⟩
abbrev S1x1x64x128 : Shape := ⟨4, ![1, 1, 64, 128]⟩
abbrev S1x2x45 : Shape := ⟨3, ![1, 2, 45]⟩
abbrev S2x12 : Shape := ⟨2, ![2, 12]⟩
abbrev S128x64 : Shape := ⟨2, ![128, 64]⟩
abbrev S2x64 : Shape := ⟨2, ![2, 64]⟩
abbrev S1x1x2x64 : Shape := ⟨4, ![1, 1, 2, 64]⟩
abbrev S768x128 : Shape := ⟨2, ![768, 128]⟩
abbrev S8x128 : Shape := ⟨2, ![8, 128]⟩
abbrev S1x128x64 : Shape := ⟨3, ![1, 128, 64]⟩
abbrev S1x64x1 : Shape := ⟨3, ![1, 64, 1]⟩
abbrev S8x8x128 : Shape := ⟨3, ![8, 8, 128]⟩
abbrev S128 : Shape := ⟨1, ![128]⟩
abbrev S1x128x128 : Shape := ⟨3, ![1, 128, 128]⟩
abbrev S16x8x128 : Shape := ⟨3, ![16, 8, 128]⟩
abbrev S320x128 : Shape := ⟨2, ![320, 128]⟩
abbrev S1x320x128 : Shape := ⟨3, ![1, 320, 128]⟩

abbrev nBuf : Space → Nat
  | .hbm => 15
  | .vmem => 26
  | .smem => 1
  | _ => 0

abbrev bufTy : (tb : Table) → Fin (tcTables nBuf tb) → BufTy
  | .hbm, ⟨0, _⟩ => ⟨S2x768x2880, .bf16⟩
  | .hbm, ⟨1, _⟩ => ⟨S2x768x576, .bf16⟩
  | .hbm, ⟨2, _⟩ => ⟨S2x768x576, .bf16⟩
  | .hbm, ⟨3, _⟩ => ⟨S2x2880x768, .bf16⟩
  | .hbm, ⟨4, _⟩ => ⟨S2x576x768, .bf16⟩
  | .hbm, ⟨5, _⟩ => ⟨S2x576x768, .bf16⟩
  | .hbm, ⟨6, _⟩ => ⟨S2x2880x768, .bf16⟩
  | .hbm, ⟨7, _⟩ => ⟨S2x45x64x768, .fp8e4m3⟩
  | .hbm, ⟨8, _⟩ => ⟨S6x2x45, .f32⟩
  | .hbm, ⟨9, _⟩ => ⟨S6x45x2x64, .bf16⟩
  | .hbm, ⟨10, _⟩ => ⟨S2x9x64x768, .fp8e4m3⟩
  | .hbm, ⟨11, _⟩ => ⟨S9x2x12, .f32⟩
  | .hbm, ⟨12, _⟩ => ⟨S9x2x64, .bf16⟩
  | .hbm, ⟨13, _⟩ => ⟨S2x9x64x768, .fp8e4m3⟩
  | .hbm, ⟨14, _⟩ => ⟨S9x2x64, .f32⟩
  | .local _ .vmem, ⟨0, _⟩ => ⟨S2x320x768, .bf16⟩
  | .local _ .vmem, ⟨1, _⟩ => ⟨S2x320x768, .bf16⟩
  | .local _ .vmem, ⟨2, _⟩ => ⟨S2x64x768, .bf16⟩
  | .local _ .vmem, ⟨3, _⟩ => ⟨S2x64x768, .bf16⟩
  | .local _ .vmem, ⟨4, _⟩ => ⟨S2x64x768, .bf16⟩
  | .local _ .vmem, ⟨5, _⟩ => ⟨S2x64x768, .bf16⟩
  | .local _ .vmem, ⟨6, _⟩ => ⟨S2x320x768, .bf16⟩
  | .local _ .vmem, ⟨7, _⟩ => ⟨S2x320x768, .bf16⟩
  | .local _ .vmem, ⟨8, _⟩ => ⟨S2x5x64x768, .fp8e4m3⟩
  | .local _ .vmem, ⟨9, _⟩ => ⟨S2x5x64x768, .fp8e4m3⟩
  | .local _ .vmem, ⟨10, _⟩ => ⟨S6x2x45, .f32⟩
  | .local _ .vmem, ⟨11, _⟩ => ⟨S6x5x2x64, .bf16⟩
  | .local _ .vmem, ⟨12, _⟩ => ⟨S6x5x2x64, .bf16⟩
  | .local _ .vmem, ⟨13, _⟩ => ⟨S2x1x64x768, .fp8e4m3⟩
  | .local _ .vmem, ⟨14, _⟩ => ⟨S2x1x64x768, .fp8e4m3⟩
  | .local _ .vmem, ⟨15, _⟩ => ⟨S1x2x12, .f32⟩
  | .local _ .vmem, ⟨16, _⟩ => ⟨S1x2x12, .f32⟩
  | .local _ .vmem, ⟨17, _⟩ => ⟨S1x2x64, .bf16⟩
  | .local _ .vmem, ⟨18, _⟩ => ⟨S1x2x64, .bf16⟩
  | .local _ .vmem, ⟨19, _⟩ => ⟨S2x1x64x768, .fp8e4m3⟩
  | .local _ .vmem, ⟨20, _⟩ => ⟨S2x1x64x768, .fp8e4m3⟩
  | .local _ .vmem, ⟨21, _⟩ => ⟨S1x2x64, .f32⟩
  | .local _ .vmem, ⟨22, _⟩ => ⟨S1x2x64, .f32⟩
  | .local _ .vmem, ⟨23, _⟩ => ⟨S2x768x64, .fp8e4m3⟩
  | .local _ .vmem, ⟨24, _⟩ => ⟨S2x768x128, .f32⟩
  | .local _ .vmem, ⟨25, _⟩ => ⟨S5x768x128, .f32⟩
  | .local _ .smem, ⟨0, _⟩ => ⟨S2, .i32⟩
  | _, _ => ⟨S2x768x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![9], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_cond2 (v6347 : BitVec 32) : BitVec 1 :=
  let c0_i32_2340 : BitVec 32 := 0#32
  let v6448 : BitVec 1 := Scalar.cmpi .sgt v6347 c0_i32_2340
  let v6449 : BitVec 32 := Scalar.extui v6448
  let c0_i32_2341 : BitVec 32 := 0#32
  let v6450 : BitVec 1 := Scalar.cmpi .ne v6449 c0_i32_2341
  v6450

def k0_cond3 (v6347 : BitVec 32) : BitVec 1 :=
  let c0_i32_2342 : BitVec 32 := 0#32
  let v6451 : BitVec 1 := Scalar.cmpi .sle v6347 c0_i32_2342
  let v6452 : BitVec 32 := Scalar.extui v6451
  let c0_i32_2343 : BitVec 32 := 0#32
  let v6453 : BitVec 1 := Scalar.cmpi .ne v6452 c0_i32_2343
  v6453

def k0_cond4 (v6347 : BitVec 32) : BitVec 1 :=
  let c128_i32_2344 : BitVec 32 := 128#32
  let v6454 : BitVec 1 := Scalar.cmpi .sgt v6347 c128_i32_2344
  let v6455 : BitVec 32 := Scalar.extui v6454
  let c0_i32_2345 : BitVec 32 := 0#32
  let v6456 : BitVec 1 := Scalar.cmpi .ne v6455 c0_i32_2345
  v6456

def k0_cond5 (v6347 : BitVec 32) : BitVec 1 :=
  let c128_i32_2346 : BitVec 32 := 128#32
  let v6457 : BitVec 1 := Scalar.cmpi .sle v6347 c128_i32_2346
  let v6458 : BitVec 32 := Scalar.extui v6457
  let c0_i32_2347 : BitVec 32 := 0#32
  let v6459 : BitVec 1 := Scalar.cmpi .ne v6458 c0_i32_2347
  v6459

def k0_cond6 (v6347 : BitVec 32) : BitVec 1 :=
  let c256_i32_2348 : BitVec 32 := 256#32
  let v6460 : BitVec 1 := Scalar.cmpi .sgt v6347 c256_i32_2348
  let v6461 : BitVec 32 := Scalar.extui v6460
  let c0_i32_2349 : BitVec 32 := 0#32
  let v6462 : BitVec 1 := Scalar.cmpi .ne v6461 c0_i32_2349
  v6462

def k0_cond7 (v6347 : BitVec 32) : BitVec 1 :=
  let c256_i32_2350 : BitVec 32 := 256#32
  let v6463 : BitVec 1 := Scalar.cmpi .sle v6347 c256_i32_2350
  let v6464 : BitVec 32 := Scalar.extui v6463
  let c0_i32_2351 : BitVec 32 := 0#32
  let v6465 : BitVec 1 := Scalar.cmpi .ne v6464 c0_i32_2351
  v6465

def k0_cond8 (v6347 : BitVec 32) : BitVec 1 :=
  let c384_i32_2352 : BitVec 32 := 384#32
  let v6466 : BitVec 1 := Scalar.cmpi .sgt v6347 c384_i32_2352
  let v6467 : BitVec 32 := Scalar.extui v6466
  let c0_i32_2353 : BitVec 32 := 0#32
  let v6468 : BitVec 1 := Scalar.cmpi .ne v6467 c0_i32_2353
  v6468

def k0_cond9 (v6347 : BitVec 32) : BitVec 1 :=
  let c384_i32_2354 : BitVec 32 := 384#32
  let v6469 : BitVec 1 := Scalar.cmpi .sle v6347 c384_i32_2354
  let v6470 : BitVec 32 := Scalar.extui v6469
  let c0_i32_2355 : BitVec 32 := 0#32
  let v6471 : BitVec 1 := Scalar.cmpi .ne v6470 c0_i32_2355
  v6471

def k0_cond10 (v6347 : BitVec 32) : BitVec 1 :=
  let c512_i32_2356 : BitVec 32 := 512#32
  let v6472 : BitVec 1 := Scalar.cmpi .sgt v6347 c512_i32_2356
  let v6473 : BitVec 32 := Scalar.extui v6472
  let c0_i32_2357 : BitVec 32 := 0#32
  let v6474 : BitVec 1 := Scalar.cmpi .ne v6473 c0_i32_2357
  v6474

def k0_cond11 (v6347 : BitVec 32) : BitVec 1 :=
  let c512_i32_2358 : BitVec 32 := 512#32
  let v6475 : BitVec 1 := Scalar.cmpi .sle v6347 c512_i32_2358
  let v6476 : BitVec 32 := Scalar.extui v6475
  let c0_i32_2359 : BitVec 32 := 0#32
  let v6477 : BitVec 1 := Scalar.cmpi .ne v6476 c0_i32_2359
  v6477

def k0_cond12 (v6347 : BitVec 32) : BitVec 1 :=
  let c640_i32_2360 : BitVec 32 := 640#32
  let v6478 : BitVec 1 := Scalar.cmpi .sgt v6347 c640_i32_2360
  let v6479 : BitVec 32 := Scalar.extui v6478
  let c0_i32_2361 : BitVec 32 := 0#32
  let v6480 : BitVec 1 := Scalar.cmpi .ne v6479 c0_i32_2361
  v6480

def k0_cond13 (v6347 : BitVec 32) : BitVec 1 :=
  let c640_i32_2362 : BitVec 32 := 640#32
  let v6481 : BitVec 1 := Scalar.cmpi .sle v6347 c640_i32_2362
  let v6482 : BitVec 32 := Scalar.extui v6481
  let c0_i32_2363 : BitVec 32 := 0#32
  let v6483 : BitVec 1 := Scalar.cmpi .ne v6482 c0_i32_2363
  v6483

def k0_cond14 (v6484 : BitVec 32) : BitVec 1 :=
  let c0_i32_2417 : BitVec 32 := 0#32
  let v6585 : BitVec 1 := Scalar.cmpi .sgt v6484 c0_i32_2417
  let v6586 : BitVec 32 := Scalar.extui v6585
  let c0_i32_2418 : BitVec 32 := 0#32
  let v6587 : BitVec 1 := Scalar.cmpi .ne v6586 c0_i32_2418
  v6587

def k0_cond15 (v6484 : BitVec 32) : BitVec 1 :=
  let c0_i32_2419 : BitVec 32 := 0#32
  let v6588 : BitVec 1 := Scalar.cmpi .sle v6484 c0_i32_2419
  let v6589 : BitVec 32 := Scalar.extui v6588
  let c0_i32_2420 : BitVec 32 := 0#32
  let v6590 : BitVec 1 := Scalar.cmpi .ne v6589 c0_i32_2420
  v6590

def k0_cond16 (v6484 : BitVec 32) : BitVec 1 :=
  let c128_i32_2421 : BitVec 32 := 128#32
  let v6591 : BitVec 1 := Scalar.cmpi .sgt v6484 c128_i32_2421
  let v6592 : BitVec 32 := Scalar.extui v6591
  let c0_i32_2422 : BitVec 32 := 0#32
  let v6593 : BitVec 1 := Scalar.cmpi .ne v6592 c0_i32_2422
  v6593

def k0_cond17 (v6484 : BitVec 32) : BitVec 1 :=
  let c128_i32_2423 : BitVec 32 := 128#32
  let v6594 : BitVec 1 := Scalar.cmpi .sle v6484 c128_i32_2423
  let v6595 : BitVec 32 := Scalar.extui v6594
  let c0_i32_2424 : BitVec 32 := 0#32
  let v6596 : BitVec 1 := Scalar.cmpi .ne v6595 c0_i32_2424
  v6596

def k0_cond18 (v6484 : BitVec 32) : BitVec 1 :=
  let c256_i32_2425 : BitVec 32 := 256#32
  let v6597 : BitVec 1 := Scalar.cmpi .sgt v6484 c256_i32_2425
  let v6598 : BitVec 32 := Scalar.extui v6597
  let c0_i32_2426 : BitVec 32 := 0#32
  let v6599 : BitVec 1 := Scalar.cmpi .ne v6598 c0_i32_2426
  v6599

def k0_cond19 (v6484 : BitVec 32) : BitVec 1 :=
  let c256_i32_2427 : BitVec 32 := 256#32
  let v6600 : BitVec 1 := Scalar.cmpi .sle v6484 c256_i32_2427
  let v6601 : BitVec 32 := Scalar.extui v6600
  let c0_i32_2428 : BitVec 32 := 0#32
  let v6602 : BitVec 1 := Scalar.cmpi .ne v6601 c0_i32_2428
  v6602

def k0_cond20 (v6484 : BitVec 32) : BitVec 1 :=
  let c384_i32_2429 : BitVec 32 := 384#32
  let v6603 : BitVec 1 := Scalar.cmpi .sgt v6484 c384_i32_2429
  let v6604 : BitVec 32 := Scalar.extui v6603
  let c0_i32_2430 : BitVec 32 := 0#32
  let v6605 : BitVec 1 := Scalar.cmpi .ne v6604 c0_i32_2430
  v6605

def k0_cond21 (v6484 : BitVec 32) : BitVec 1 :=
  let c384_i32_2431 : BitVec 32 := 384#32
  let v6606 : BitVec 1 := Scalar.cmpi .sle v6484 c384_i32_2431
  let v6607 : BitVec 32 := Scalar.extui v6606
  let c0_i32_2432 : BitVec 32 := 0#32
  let v6608 : BitVec 1 := Scalar.cmpi .ne v6607 c0_i32_2432
  v6608

def k0_cond22 (v6484 : BitVec 32) : BitVec 1 :=
  let c512_i32_2433 : BitVec 32 := 512#32
  let v6609 : BitVec 1 := Scalar.cmpi .sgt v6484 c512_i32_2433
  let v6610 : BitVec 32 := Scalar.extui v6609
  let c0_i32_2434 : BitVec 32 := 0#32
  let v6611 : BitVec 1 := Scalar.cmpi .ne v6610 c0_i32_2434
  v6611

def k0_cond23 (v6484 : BitVec 32) : BitVec 1 :=
  let c512_i32_2435 : BitVec 32 := 512#32
  let v6612 : BitVec 1 := Scalar.cmpi .sle v6484 c512_i32_2435
  let v6613 : BitVec 32 := Scalar.extui v6612
  let c0_i32_2436 : BitVec 32 := 0#32
  let v6614 : BitVec 1 := Scalar.cmpi .ne v6613 c0_i32_2436
  v6614

def k0_cond24 (v6484 : BitVec 32) : BitVec 1 :=
  let c640_i32_2437 : BitVec 32 := 640#32
  let v6615 : BitVec 1 := Scalar.cmpi .sgt v6484 c640_i32_2437
  let v6616 : BitVec 32 := Scalar.extui v6615
  let c0_i32_2438 : BitVec 32 := 0#32
  let v6617 : BitVec 1 := Scalar.cmpi .ne v6616 c0_i32_2438
  v6617

def k0_cond25 (v6484 : BitVec 32) : BitVec 1 :=
  let c640_i32_2439 : BitVec 32 := 640#32
  let v6618 : BitVec 1 := Scalar.cmpi .sle v6484 c640_i32_2439
  let v6619 : BitVec 32 := Scalar.extui v6618
  let c0_i32_2440 : BitVec 32 := 0#32
  let v6620 : BitVec 1 := Scalar.cmpi .ne v6619 c0_i32_2440
  v6620

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x320x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x320x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x5x64x768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x2x45 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6x5x2x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x64x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x12 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x64x768 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "masked" => some ⊥
  | "score" => some (((8 * (Real.log 2))⁻¹ : ℝ) : EReal)
  | _ => none
-- ==== ReferenceIdeal.lean ====
abbrev S2x768x2880 : Shape := ⟨3, ![2, 768, 2880]⟩
abbrev S2x768x576 : Shape := ⟨3, ![2, 768, 576]⟩
abbrev S2 : Shape := ⟨1, ![2]⟩
abbrev S768 : Shape := ⟨1, ![768]⟩
abbrev S1x768 : Shape := ⟨2, ![1, 768]⟩
abbrev S2x1 : Shape := ⟨2, ![2, 1]⟩
abbrev S2x768 : Shape := ⟨2, ![2, 768]⟩
abbrev S2x6x128x45x64 : Shape := ⟨5, ![2, 6, 128, 45, 64]⟩
abbrev S2x6x128 : Shape := ⟨3, ![2, 6, 128]⟩
abbrev S2x6x128x1x1 : Shape := ⟨5, ![2, 6, 128, 1, 1]⟩
abbrev S_ : Shape := ⟨0, ![]⟩
abbrev S2x6x1x1 : Shape := ⟨4, ![2, 6, 1, 1]⟩
abbrev S2x6x45x64 : Shape := ⟨4, ![2, 6, 45, 64]⟩
abbrev S2x6x1x45x64 : Shape := ⟨5, ![2, 6, 1, 45, 64]⟩
abbrev S2x6x45 : Shape := ⟨3, ![2, 6, 45]⟩
abbrev S2x6x1x45x1 : Shape := ⟨5, ![2, 6, 1, 45, 1]⟩
abbrev S254 : Shape := ⟨1, ![254]⟩
abbrev S2x6x1x45x1x1 : Shape := ⟨6, ![2, 6, 1, 45, 1, 1]⟩
abbrev S1x1x1x1x1x254 : Shape := ⟨6, ![1, 1, 1, 1, 1, 254]⟩
abbrev S2x6x1x45x1x254 : Shape := ⟨6, ![2, 6, 1, 45, 1, 254]⟩
abbrev S2x768x9x64 : Shape := ⟨4, ![2, 768, 9, 64]⟩
abbrev S2x768x1x1 : Shape := ⟨4, ![2, 768, 1, 1]⟩
abbrev S2x1x1 : Shape := ⟨3, ![2, 1, 1]⟩
abbrev S2x9x64 : Shape := ⟨3, ![2, 9, 64]⟩
abbrev S2x1x9x64 : Shape := ⟨4, ![2, 1, 9, 64]⟩
abbrev S2x12x64x9x64 : Shape := ⟨5, ![2, 12, 64, 9, 64]⟩
abbrev S2x12x9 : Shape := ⟨3, ![2, 12, 9]⟩
abbrev S2x12x1x9x1 : Shape := ⟨5, ![2, 12, 1, 9, 1]⟩
abbrev S2x12x1x9x1x1 : Shape := ⟨6, ![2, 12, 1, 9, 1, 1]⟩
abbrev S2x12x1x9x1x254 : Shape := ⟨6, ![2, 12, 1, 9, 1, 254]⟩
abbrev S2x1x9x64x1 : Shape := ⟨5, ![2, 1, 9, 64, 1]⟩
abbrev S1x1x1x1x254 : Shape := ⟨5, ![1, 1, 1, 1, 254]⟩
abbrev S2x1x9x64x254 : Shape := ⟨5, ![2, 1, 9, 64, 254]⟩
abbrev S2x768x9x5x64 : Shape := ⟨5, ![2, 768, 9, 5, 64]⟩
abbrev S2x6x128x45 : Shape := ⟨4, ![2, 6, 128, 45]⟩
abbrev S2x768x45 : Shape := ⟨3, ![2, 768, 45]⟩
abbrev S2x768x9x5 : Shape := ⟨4, ![2, 768, 9, 5]⟩
abbrev S2x9x5x768 : Shape := ⟨4, ![2, 9, 5, 768]⟩
abbrev S2x12x64x9 : Shape := ⟨4, ![2, 12, 64, 9]⟩
abbrev S2x768x9 : Shape := ⟨3, ![2, 768, 9]⟩
abbrev S2x9x768 : Shape := ⟨3, ![2, 9, 768]⟩
abbrev S2x768x45x64 : Shape := ⟨4, ![2, 768, 45, 64]⟩
abbrev S2x9x768x768x5 : Shape := ⟨5, ![2, 9, 768, 768, 5]⟩
abbrev S2x9x5x768x768 : Shape := ⟨5, ![2, 9, 5, 768, 768]⟩
abbrev S2x9x1x1x768 : Shape := ⟨5, ![2, 9, 1, 1, 768]⟩
abbrev S2x9x5x768x1 : Shape := ⟨5, ![2, 9, 5, 768, 1]⟩
abbrev S1x1x768 : Shape := ⟨3, ![1, 1, 768]⟩
abbrev S1x768x1 : Shape := ⟨3, ![1, 768, 1]⟩
abbrev S1x768x768 : Shape := ⟨3, ![1, 768, 768]⟩
abbrev S2x1x768 : Shape := ⟨3, ![2, 1, 768]⟩
abbrev S2x768x768 : Shape := ⟨3, ![2, 768, 768]⟩
abbrev S2x1x1x768x768 : Shape := ⟨5, ![2, 1, 1, 768, 768]⟩
abbrev S2x9x5x768x64 : Shape := ⟨5, ![2, 9, 5, 768, 64]⟩
abbrev S2x9x1x1x64 : Shape := ⟨5, ![2, 9, 1, 1, 64]⟩
abbrev S2x1x1x768x1 : Shape := ⟨5, ![2, 1, 1, 768, 1]⟩
abbrev S2x9x5x64x768 : Shape := ⟨5, ![2, 9, 5, 64, 768]⟩
abbrev S2x2880x768 : Shape := ⟨3, ![2, 2880, 768]⟩
abbrev S2x45x64x6x128 : Shape := ⟨5, ![2, 45, 64, 6, 128]⟩
abbrev S2x45x64x768 : Shape := ⟨4, ![2, 45, 64, 768]⟩
abbrev S6x2x45 : Shape := ⟨3, ![6, 2, 45]⟩
abbrev S6x45x2x64 : Shape := ⟨4, ![6, 45, 2, 64]⟩
abbrev S2x9x64x12x64 : Shape := ⟨5, ![2, 9, 64, 12, 64]⟩
abbrev S2x9x64x768 : Shape := ⟨4, ![2, 9, 64, 768]⟩
abbrev S9x2x12 : Shape := ⟨3, ![9, 2, 12]⟩
abbrev S9x2x64 : Shape := ⟨3, ![9, 2, 64]⟩

abbrev nBuf : Space → Nat
  | .hbm => 309
  | .vmem => 0
  | .smem => 0
  | _ => 0

abbrev hbmTy0_0 (i : Nat) : BufTy := match i % 128 with
  | 0 => ⟨S2x768x2880, .bf16⟩
  | 1 => ⟨S2x768x576, .bf16⟩
  | 2 => ⟨S2x768x576, .bf16⟩
  | 3 => ⟨S2, .i32⟩
  | 4 => ⟨S768, .i32⟩
  | 5 => ⟨S1x768, .i32⟩
  | 6 => ⟨S2x1, .i32⟩
  | 7 => ⟨S2x768, .i32⟩
  | 8 => ⟨S2x768, .i32⟩
  | 9 => ⟨S2x768, .i1⟩
  | 10 => ⟨S2x6x128x45x64, .bf16⟩
  | 11 => ⟨S2x6x128x45x64, .f32⟩
  | 12 => ⟨S2x6x128, .i1⟩
  | 13 => ⟨S2x6x128x1x1, .i1⟩
  | 14 => ⟨S2x6x128x1x1, .f32⟩
  | 15 => ⟨S_, .f32⟩
  | 16 => ⟨S2x6x1x1, .f32⟩
  | 17 => ⟨S_, .f32⟩
  | 18 => ⟨S_, .f32⟩
  | 19 => ⟨S2x6x128x45x64, .i1⟩
  | 20 => ⟨S2x6x128x45x64, .f32⟩
  | 21 => ⟨S2x6x128x45x64, .f32⟩
  | 22 => ⟨S_, .f32⟩
  | 23 => ⟨S2x6x45x64, .f32⟩
  | 24 => ⟨S_, .f32⟩
  | 25 => ⟨S2x6x1x1, .f32⟩
  | 26 => ⟨S2x6x1x1, .f32⟩
  | 27 => ⟨S2x6x45x64, .f32⟩
  | 28 => ⟨S2x6x45x64, .f32⟩
  | 29 => ⟨S2x6x45x64, .bf16⟩
  | 30 => ⟨S2x6x45x64, .f32⟩
  | 31 => ⟨S2x6x1x45x64, .f32⟩
  | 32 => ⟨S2x6x128x45x64, .f32⟩
  | 33 => ⟨S2x6x128x45x64, .f32⟩
  | 34 => ⟨S_, .f32⟩
  | 35 => ⟨S_, .f32⟩
  | 36 => ⟨S2x6x128x45x64, .i1⟩
  | 37 => ⟨S2x6x128x45x64, .f32⟩
  | 38 => ⟨S2x6x128x45x64, .f32⟩
  | 39 => ⟨S2x6x128x45x64, .f32⟩
  | 40 => ⟨S_, .f32⟩
  | 41 => ⟨S2x6x45, .f32⟩
  | 42 => ⟨S2x6x1x45x1, .f32⟩
  | 43 => ⟨S_, .f32⟩
  | 44 => ⟨S2x6x1x45x1, .f32⟩
  | 45 => ⟨S2x6x1x45x1, .f32⟩
  | 46 => ⟨S254, .i32⟩
  | 47 => ⟨S_, .i32⟩
  | 48 => ⟨S254, .i32⟩
  | 49 => ⟨S254, .i32⟩
  | 50 => ⟨S_, .i32⟩
  | 51 => ⟨S254, .i32⟩
  | 52 => ⟨S254, .i32⟩
  | 53 => ⟨S254, .f32⟩
  | 54 => ⟨S2x6x1x45x1x1, .f32⟩
  | 55 => ⟨S1x1x1x1x1x254, .f32⟩
  | 56 => ⟨S2x6x1x45x1x254, .f32⟩
  | 57 => ⟨S2x6x1x45x1x254, .f32⟩
  | 58 => ⟨S2x6x1x45x1x254, .i1⟩
  | 59 => ⟨S_, .f32⟩
  | 60 => ⟨S_, .f32⟩
  | 61 => ⟨S2x6x1x45x1x254, .f32⟩
  | 62 => ⟨S2x6x1x45x1x254, .f32⟩
  | 63 => ⟨S2x6x1x45x1x254, .f32⟩
  | 64 => ⟨S_, .f32⟩
  | 65 => ⟨S2x6x1x45x1, .f32⟩
  | 66 => ⟨S2x6x1x45x1, .i1⟩
  | 67 => ⟨S_, .f32⟩
  | 68 => ⟨S2x6x1x45x1, .f32⟩
  | 69 => ⟨S_, .f32⟩
  | 70 => ⟨S_, .f32⟩
  | 71 => ⟨S2x6x1x45x1, .f32⟩
  | 72 => ⟨S2x6x1x45x1, .f32⟩
  | 73 => ⟨S2x6x128x45x64, .f32⟩
  | 74 => ⟨S2x6x128x45x64, .f32⟩
  | 75 => ⟨S_, .f32⟩
  | 76 => ⟨S_, .f32⟩
  | 77 => ⟨S_, .f32⟩
  | 78 => ⟨S2x6x128x45x64, .f32⟩
  | 79 => ⟨S2x6x128x45x64, .f32⟩
  | 80 => ⟨S_, .f32⟩
  | 81 => ⟨S2x6x128x45x64, .f32⟩
  | 82 => ⟨S2x6x128x45x64, .f32⟩
  | 83 => ⟨S2x6x45, .f32⟩
  | 84 => ⟨S2x768x9x64, .bf16⟩
  | 85 => ⟨S2x768x9x64, .f32⟩
  | 86 => ⟨S2x768x1x1, .i1⟩
  | 87 => ⟨S2x768, .f32⟩
  | 88 => ⟨S_, .f32⟩
  | 89 => ⟨S2, .f32⟩
  | 90 => ⟨S2x1x1, .f32⟩
  | 91 => ⟨S_, .f32⟩
  | 92 => ⟨S_, .f32⟩
  | 93 => ⟨S2x768x9x64, .i1⟩
  | 94 => ⟨S2x768x9x64, .f32⟩
  | 95 => ⟨S2x768x9x64, .f32⟩
  | 96 => ⟨S_, .f32⟩
  | 97 => ⟨S2x9x64, .f32⟩
  | 98 => ⟨S_, .f32⟩
  | 99 => ⟨S2x1x1, .f32⟩
  | 100 => ⟨S2x1x1, .f32⟩
  | 101 => ⟨S2x9x64, .f32⟩
  | 102 => ⟨S2x9x64, .f32⟩
  | 103 => ⟨S2x9x64, .bf16⟩
  | 104 => ⟨S2x9x64, .f32⟩
  | 105 => ⟨S2x1x9x64, .f32⟩
  | 106 => ⟨S2x768x9x64, .f32⟩
  | 107 => ⟨S2x768x9x64, .f32⟩
  | 108 => ⟨S_, .f32⟩
  | 109 => ⟨S_, .f32⟩
  | 110 => ⟨S2x768x9x64, .i1⟩
  | 111 => ⟨S2x768x9x64, .f32⟩
  | 112 => ⟨S2x768x9x64, .f32⟩
  | 113 => ⟨S2x12x64x9x64, .f32⟩
  | 114 => ⟨S2x12x64x9x64, .f32⟩
  | 115 => ⟨S_, .f32⟩
  | 116 => ⟨S2x12x9, .f32⟩
  | 117 => ⟨S2x12x1x9x1, .f32⟩
  | 118 => ⟨S_, .f32⟩
  | 119 => ⟨S2x12x1x9x1, .f32⟩
  | 120 => ⟨S2x12x1x9x1, .f32⟩
  | 121 => ⟨S254, .i32⟩
  | 122 => ⟨S_, .i32⟩
  | 123 => ⟨S254, .i32⟩
  | 124 => ⟨S254, .i32⟩
  | 125 => ⟨S_, .i32⟩
  | 126 => ⟨S254, .i32⟩
  | 127 => ⟨S254, .i32⟩
  | _ => ⟨S2x768x2880, .bf16⟩

abbrev hbmTy0_1 (i : Nat) : BufTy := match i % 128 with
  | 0 => ⟨S254, .f32⟩
  | 1 => ⟨S2x12x1x9x1x1, .f32⟩
  | 2 => ⟨S1x1x1x1x1x254, .f32⟩
  | 3 => ⟨S2x12x1x9x1x254, .f32⟩
  | 4 => ⟨S2x12x1x9x1x254, .f32⟩
  | 5 => ⟨S2x12x1x9x1x254, .i1⟩
  | 6 => ⟨S_, .f32⟩
  | 7 => ⟨S_, .f32⟩
  | 8 => ⟨S2x12x1x9x1x254, .f32⟩
  | 9 => ⟨S2x12x1x9x1x254, .f32⟩
  | 10 => ⟨S2x12x1x9x1x254, .f32⟩
  | 11 => ⟨S_, .f32⟩
  | 12 => ⟨S2x12x1x9x1, .f32⟩
  | 13 => ⟨S2x12x1x9x1, .i1⟩
  | 14 => ⟨S_, .f32⟩
  | 15 => ⟨S2x12x1x9x1, .f32⟩
  | 16 => ⟨S_, .f32⟩
  | 17 => ⟨S_, .f32⟩
  | 18 => ⟨S2x12x1x9x1, .f32⟩
  | 19 => ⟨S2x12x1x9x1, .f32⟩
  | 20 => ⟨S2x12x64x9x64, .f32⟩
  | 21 => ⟨S2x12x64x9x64, .f32⟩
  | 22 => ⟨S_, .f32⟩
  | 23 => ⟨S_, .f32⟩
  | 24 => ⟨S_, .f32⟩
  | 25 => ⟨S2x12x64x9x64, .f32⟩
  | 26 => ⟨S2x12x64x9x64, .f32⟩
  | 27 => ⟨S_, .f32⟩
  | 28 => ⟨S2x12x64x9x64, .f32⟩
  | 29 => ⟨S2x12x64x9x64, .f32⟩
  | 30 => ⟨S2x12x9, .f32⟩
  | 31 => ⟨S2x768x9x64, .bf16⟩
  | 32 => ⟨S2x768x9x64, .f32⟩
  | 33 => ⟨S_, .f32⟩
  | 34 => ⟨S_, .f32⟩
  | 35 => ⟨S2x768x9x64, .i1⟩
  | 36 => ⟨S2x768x9x64, .f32⟩
  | 37 => ⟨S2x768x9x64, .f32⟩
  | 38 => ⟨S2x768x9x64, .f32⟩
  | 39 => ⟨S_, .f32⟩
  | 40 => ⟨S2x9x64, .f32⟩
  | 41 => ⟨S2x1x9x64, .f32⟩
  | 42 => ⟨S_, .f32⟩
  | 43 => ⟨S2x1x9x64, .f32⟩
  | 44 => ⟨S2x1x9x64, .f32⟩
  | 45 => ⟨S254, .i32⟩
  | 46 => ⟨S_, .i32⟩
  | 47 => ⟨S254, .i32⟩
  | 48 => ⟨S254, .i32⟩
  | 49 => ⟨S_, .i32⟩
  | 50 => ⟨S254, .i32⟩
  | 51 => ⟨S254, .i32⟩
  | 52 => ⟨S254, .f32⟩
  | 53 => ⟨S2x1x9x64x1, .f32⟩
  | 54 => ⟨S1x1x1x1x254, .f32⟩
  | 55 => ⟨S2x1x9x64x254, .f32⟩
  | 56 => ⟨S2x1x9x64x254, .f32⟩
  | 57 => ⟨S2x1x9x64x254, .i1⟩
  | 58 => ⟨S_, .f32⟩
  | 59 => ⟨S_, .f32⟩
  | 60 => ⟨S2x1x9x64x254, .f32⟩
  | 61 => ⟨S2x1x9x64x254, .f32⟩
  | 62 => ⟨S2x1x9x64x254, .f32⟩
  | 63 => ⟨S_, .f32⟩
  | 64 => ⟨S2x1x9x64, .f32⟩
  | 65 => ⟨S2x1x9x64, .i1⟩
  | 66 => ⟨S_, .f32⟩
  | 67 => ⟨S2x1x9x64, .f32⟩
  | 68 => ⟨S_, .f32⟩
  | 69 => ⟨S_, .f32⟩
  | 70 => ⟨S2x1x9x64, .f32⟩
  | 71 => ⟨S2x1x9x64, .f32⟩
  | 72 => ⟨S2x768x9x64, .f32⟩
  | 73 => ⟨S2x768x9x64, .f32⟩
  | 74 => ⟨S_, .f32⟩
  | 75 => ⟨S_, .f32⟩
  | 76 => ⟨S_, .f32⟩
  | 77 => ⟨S2x768x9x64, .f32⟩
  | 78 => ⟨S2x768x9x64, .f32⟩
  | 79 => ⟨S_, .f32⟩
  | 80 => ⟨S2x768x9x64, .f32⟩
  | 81 => ⟨S2x768x9x64, .f32⟩
  | 82 => ⟨S2x9x64, .f32⟩
  | 83 => ⟨S2x768x9x5x64, .f32⟩
  | 84 => ⟨S2x768x9x64, .f32⟩
  | 85 => ⟨S2x6x128x45, .f32⟩
  | 86 => ⟨S2x768x45, .f32⟩
  | 87 => ⟨S2x768x9x5, .f32⟩
  | 88 => ⟨S2x9x5x768, .f32⟩
  | 89 => ⟨S2x12x64x9, .f32⟩
  | 90 => ⟨S2x768x9, .f32⟩
  | 91 => ⟨S2x9x768, .f32⟩
  | 92 => ⟨S2x6x45x64, .f32⟩
  | 93 => ⟨S2x6x128x45x64, .f32⟩
  | 94 => ⟨S2x768x45x64, .f32⟩
  | 95 => ⟨S2x768x9x5x64, .f32⟩
  | 96 => ⟨S2x9x768x768x5, .f32⟩
  | 97 => ⟨S2x9x5x768x768, .f32⟩
  | 98 => ⟨S2x9x768x768x5, .f32⟩
  | 99 => ⟨S2x9x5x768x768, .f32⟩
  | 100 => ⟨S2x9x1x1x768, .f32⟩
  | 101 => ⟨S2x9x5x768x1, .f32⟩
  | 102 => ⟨S2x9x5x768x768, .f32⟩
  | 103 => ⟨S2x9x5x768x768, .f32⟩
  | 104 => ⟨S2x9x5x768x768, .f32⟩
  | 105 => ⟨S2x9x5x768x768, .f32⟩
  | 106 => ⟨S2x9x5x768x768, .f32⟩
  | 107 => ⟨S_, .f32⟩
  | 108 => ⟨S2x9x5x768x768, .f32⟩
  | 109 => ⟨S2x9x5x768x768, .f32⟩
  | 110 => ⟨S1x1x768, .i32⟩
  | 111 => ⟨S1x768x1, .i32⟩
  | 112 => ⟨S1x768x768, .i32⟩
  | 113 => ⟨S1x768x768, .i32⟩
  | 114 => ⟨S1x768x768, .i1⟩
  | 115 => ⟨S2x1x768, .i1⟩
  | 116 => ⟨S2x768x768, .i1⟩
  | 117 => ⟨S2x768x768, .i1⟩
  | 118 => ⟨S2x768x768, .i1⟩
  | 119 => ⟨S2x1x1x768x768, .i1⟩
  | 120 => ⟨S_, .f32⟩
  | 121 => ⟨S_, .f32⟩
  | 122 => ⟨S2x9x5x768x768, .i1⟩
  | 123 => ⟨S2x9x5x768x768, .f32⟩
  | 124 => ⟨S2x9x5x768x768, .f32⟩
  | 125 => ⟨S_, .f32⟩
  | 126 => ⟨S2x9x5x768, .f32⟩
  | 127 => ⟨S2x9x5x768x1, .f32⟩
  | _ => ⟨S2x768x2880, .bf16⟩

abbrev hbmTy0_2 (i : Nat) : BufTy := match i % 128 with
  | 0 => ⟨S2x9x5x768x768, .f32⟩
  | 1 => ⟨S2x9x5x768x768, .f32⟩
  | 2 => ⟨S2x9x5x768x768, .f32⟩
  | 3 => ⟨S_, .f32⟩
  | 4 => ⟨S_, .f32⟩
  | 5 => ⟨S2x9x5x768x768, .i1⟩
  | 6 => ⟨S2x9x5x768x768, .f32⟩
  | 7 => ⟨S2x9x5x768x768, .f32⟩
  | 8 => ⟨S_, .f32⟩
  | 9 => ⟨S2x9x5x768, .f32⟩
  | 10 => ⟨S_, .f32⟩
  | 11 => ⟨S2x9x5x768x768, .f32⟩
  | 12 => ⟨S2x9x5x768x768, .f32⟩
  | 13 => ⟨S_, .f32⟩
  | 14 => ⟨S_, .f32⟩
  | 15 => ⟨S_, .f32⟩
  | 16 => ⟨S2x9x5x768x768, .f32⟩
  | 17 => ⟨S2x9x5x768x768, .f32⟩
  | 18 => ⟨S_, .f32⟩
  | 19 => ⟨S2x9x5x768x768, .f32⟩
  | 20 => ⟨S2x9x5x768x768, .f32⟩
  | 21 => ⟨S2x9x5x768x64, .f32⟩
  | 22 => ⟨S_, .f32⟩
  | 23 => ⟨S2x9x64, .f32⟩
  | 24 => ⟨S2x9x64, .f32⟩
  | 25 => ⟨S2x9x1x1x64, .f32⟩
  | 26 => ⟨S2x9x5x768x64, .f32⟩
  | 27 => ⟨S2x9x5x768x64, .f32⟩
  | 28 => ⟨S2x9x5x768x1, .f32⟩
  | 29 => ⟨S2x9x5x768x64, .f32⟩
  | 30 => ⟨S2x9x5x768x64, .f32⟩
  | 31 => ⟨S2x1x1x768x1, .i1⟩
  | 32 => ⟨S_, .f32⟩
  | 33 => ⟨S_, .f32⟩
  | 34 => ⟨S2x9x5x768x64, .i1⟩
  | 35 => ⟨S2x9x5x768x64, .f32⟩
  | 36 => ⟨S2x9x5x768x64, .f32⟩
  | 37 => ⟨S2x9x5x64x768, .f32⟩
  | 38 => ⟨S2x2880x768, .f32⟩
  | 39 => ⟨S2x2880x768, .bf16⟩
  | 40 => ⟨S2x45x64x6x128, .f32⟩
  | 41 => ⟨S2x45x64x768, .f32⟩
  | 42 => ⟨S2x45x64x768, .fp8e4m3⟩
  | 43 => ⟨S6x2x45, .f32⟩
  | 44 => ⟨S6x45x2x64, .bf16⟩
  | 45 => ⟨S2x9x64x12x64, .f32⟩
  | 46 => ⟨S2x9x64x768, .f32⟩
  | 47 => ⟨S2x9x64x768, .fp8e4m3⟩
  | 48 => ⟨S9x2x12, .f32⟩
  | 49 => ⟨S9x2x64, .bf16⟩
  | 50 => ⟨S2x9x64x768, .f32⟩
  | 51 => ⟨S2x9x64x768, .fp8e4m3⟩
  | 52 => ⟨S9x2x64, .f32⟩
  | _ => ⟨S2x768x2880, .bf16⟩

abbrev hbmTy (i : Nat) : BufTy := match i / 128 with
  | 0 => hbmTy0_0 i
  | 1 => hbmTy0_1 i
  | 2 => hbmTy0_2 i
  | _ => ⟨S2x768x2880, .bf16⟩

abbrev bufTy : (tb : Table) → Fin (tcTables nBuf tb) → BufTy
  | .hbm, ⟨i, _⟩ => hbmTy i
  | _, _ => ⟨S2x768x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_cst_10 : Ref sig .tc := ⟨.hbm, 69, rfl⟩
abbrev main_call3_v0 : Ref sig .tc := ⟨.hbm, 70, rfl⟩
abbrev main_call3_v1 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_11 : Ref sig .tc := ⟨.hbm, 75, rfl⟩
abbrev main_cst_12 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_v53 : Ref sig .tc := ⟨.hbm, 89, rfl⟩
abbrev main_v54 : Ref sig .tc := ⟨.hbm, 90, rfl⟩
abbrev main_cst_14 : Ref sig .tc := ⟨.hbm, 91, rfl⟩
abbrev main_call5_v0 : Ref sig .tc := ⟨.hbm, 92, rfl⟩
abbrev main_call5_v1 : Ref sig .tc := ⟨.hbm, 93, rfl⟩
abbrev main_call5_v2 : Ref sig .tc := ⟨.hbm, 94, rfl⟩
abbrev main_v55 : Ref sig .tc := ⟨.hbm, 95, rfl⟩
abbrev main_cst_15 : Ref sig .tc := ⟨.hbm, 96, rfl⟩
abbrev main_v56 : Ref sig .tc := ⟨.hbm, 97, rfl⟩
abbrev main_cst_16 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_cst_17 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩
abbrev main_cst_19 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_20 : Ref sig .tc := ⟨.hbm, 122, rfl⟩
abbrev main_v74 : Ref sig .tc := ⟨.hbm, 123, rfl⟩
abbrev main_v75 : Ref sig .tc := ⟨.hbm, 124, rfl⟩
abbrev main_c_21 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_22 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v84 : Ref sig .tc := ⟨.hbm, 138, rfl⟩
abbrev main_cst_23 : Ref sig .tc := ⟨.hbm, 139, rfl⟩
abbrev main_v85 : Ref sig .tc := ⟨.hbm, 140, rfl⟩
abbrev main_v86 : Ref sig .tc := ⟨.hbm, 141, rfl⟩
abbrev main_cst_24 : Ref sig .tc := ⟨.hbm, 142, rfl⟩
abbrev main_v87 : Ref sig .tc := ⟨.hbm, 143, rfl⟩
abbrev main_cst_25 : Ref sig .tc := ⟨.hbm, 144, rfl⟩
abbrev main_call8_v0 : Ref sig .tc := ⟨.hbm, 145, rfl⟩
abbrev main_call8_v1 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_26 : Ref sig .tc := ⟨.hbm, 150, rfl⟩
abbrev main_cst_27 : Ref sig .tc := ⟨.hbm, 151, rfl⟩
abbrev main_call9_v0 : Ref sig .tc := ⟨.hbm, 152, rfl⟩
abbrev main_call9_v1 : Ref sig .tc := ⟨.hbm, 153, rfl⟩
abbrev main_call9_v2 : Ref sig .tc := ⟨.hbm, 154, rfl⟩
abbrev main_call9_v3 : Ref sig .tc := ⟨.hbm, 155, rfl⟩
abbrev main_call9_v4 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_cst_28 : Ref sig .tc := ⟨.hbm, 161, rfl⟩
abbrev main_call10_v0 : Ref sig .tc := ⟨.hbm, 162, rfl⟩
abbrev main_call10_v1 : Ref sig .tc := ⟨.hbm, 163, rfl⟩
abbrev main_call10_v2 : Ref sig .tc := ⟨.hbm, 164, rfl⟩
abbrev main_v95 : Ref sig .tc := ⟨.hbm, 165, rfl⟩
abbrev main_v96 : Ref sig .tc := ⟨.hbm, 166, rfl⟩
abbrev main_cst_29 : Ref sig .tc := ⟨.hbm, 167, rfl⟩
abbrev main_v97 : Ref sig .tc := ⟨.hbm, 168, rfl⟩
abbrev main_v98 : Ref sig .tc := ⟨.hbm, 169, rfl⟩
abbrev main_cst_30 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_c_31 : Ref sig .tc := ⟨.hbm, 174, rfl⟩
abbrev main_v102 : Ref sig .tc := ⟨.hbm, 175, rfl⟩
abbrev main_v103 : Ref sig .tc := ⟨.hbm, 176, rfl⟩
abbrev main_c_32 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_33 : Ref sig .tc := ⟨.hbm, 186, rfl⟩
abbrev main_call11_v0 : Ref sig .tc := ⟨.hbm, 187, rfl⟩
abbrev main_call11_v1 : Ref sig .tc := ⟨.hbm, 188, rfl⟩
abbrev main_call11_v2 : Ref sig .tc := ⟨.hbm, 189, rfl⟩
abbrev main_v112 : Ref sig .tc := ⟨.hbm, 190, rfl⟩
abbrev main_cst_34 : Ref sig .tc := ⟨.hbm, 191, rfl⟩
abbrev main_v113 : Ref sig .tc := ⟨.hbm, 192, rfl⟩
abbrev main_v114 : Ref sig .tc := ⟨.hbm, 193, rfl⟩
abbrev main_cst_35 : Ref sig .tc := ⟨.hbm, 194, rfl⟩
abbrev main_v115 : Ref sig .tc := ⟨.hbm, 195, rfl⟩
abbrev main_cst_36 : Ref sig .tc := ⟨.hbm, 196, rfl⟩
abbrev main_call12_v0 : Ref sig .tc := ⟨.hbm, 197, rfl⟩
abbrev main_call12_v1 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_cst_37 : Ref sig .tc := ⟨.hbm, 202, rfl⟩
abbrev main_cst_38 : Ref sig .tc := ⟨.hbm, 203, rfl⟩
abbrev main_call13_v0 : Ref sig .tc := ⟨.hbm, 204, rfl⟩
abbrev main_call13_v1 : Ref sig .tc := ⟨.hbm, 205, rfl⟩
abbrev main_call13_v2 : Ref sig .tc := ⟨.hbm, 206, rfl⟩
abbrev main_call13_v3 : Ref sig .tc := ⟨.hbm, 207, rfl⟩
abbrev main_call13_v4 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_cst_39 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_cst_40 : Ref sig .tc := ⟨.hbm, 248, rfl⟩
abbrev main_call14_v0 : Ref sig .tc := ⟨.hbm, 249, rfl⟩
abbrev main_call14_v1 : Ref sig .tc := ⟨.hbm, 250, rfl⟩
abbrev main_call14_v2 : Ref sig .tc := ⟨.hbm, 251, rfl⟩
abbrev main_v157 : Ref sig .tc := ⟨.hbm, 252, rfl⟩
abbrev main_cst_41 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_cst_42 : Ref sig .tc := ⟨.hbm, 259, rfl⟩
abbrev main_call15_v0 : Ref sig .tc := ⟨.hbm, 260, rfl⟩
abbrev main_call15_v1 : Ref sig .tc := ⟨.hbm, 261, rfl⟩
abbrev main_call15_v2 : Ref sig .tc := ⟨.hbm, 262, rfl⟩
abbrev main_v163 : Ref sig .tc := ⟨.hbm, 263, rfl⟩
abbrev main_cst_43 : Ref sig .tc := ⟨.hbm, 264, rfl⟩
abbrev main_v164 : Ref sig .tc := ⟨.hbm, 265, rfl⟩
abbrev main_cst_44 : Ref sig .tc := ⟨.hbm, 266, rfl⟩
abbrev main_v165 : Ref sig .tc := ⟨.hbm, 267, rfl⟩
abbrev main_v166 : Ref sig .tc := ⟨.hbm, 268, rfl⟩
abbrev main_cst_45 : Ref sig .tc := ⟨.hbm, 269, rfl⟩
abbrev main_cst_46 : Ref sig .tc := ⟨.hbm, 270, rfl⟩
abbrev main_call16_v0 : Ref sig .tc := ⟨.hbm, 271, rfl⟩
abbrev main_call16_v1 : Ref sig .tc := ⟨.hbm, 272, rfl⟩
abbrev main_call16_v2 : Ref sig .tc := ⟨.hbm, 273, rfl⟩
abbrev main_call16_v3 : Ref sig .tc := ⟨.hbm, 274, rfl⟩
abbrev main_call16_v4 : Ref sig .tc := ⟨.hbm, 275, rfl⟩
abbrev main_v167 : Ref sig .tc := ⟨.hbm, 276, rfl⟩
abbrev main_v168 : Ref sig .tc := ⟨.hbm, 277, rfl⟩
abbrev main_cst_47 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_cst_48 : Ref sig .tc := ⟨.hbm, 288, rfl⟩
abbrev main_call17_v0 : Ref sig .tc := ⟨.hbm, 289, rfl⟩
abbrev main_call17_v1 : Ref sig .tc := ⟨.hbm, 290, rfl⟩
abbrev main_call17_v2 : Ref sig .tc := ⟨.hbm, 291, rfl⟩
abbrev main_v178 : Ref sig .tc := ⟨.hbm, 292, rfl⟩
abbrev main_v179 : Ref sig .tc := ⟨.hbm, 293, rfl⟩
abbrev main_v180 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩

abbrev nD : Nat := 1
abbrev τ : Topo := Topo.v7x

variable {F : FTy → Type} [FloatOps F]
-- ==== Proof.Cmd.lean ====
module
public import proofs.«01_k».proof.KernelIdeal.P01

@[expose] public section

/-!
# Straight-line programs as data

The kernel's body is a long list of loads, pure computations and stores. `Cmd` is a small language for such
bodies: it names the buffers by `Rin` (the three input windows) and `Rf` (the output windows and the scratch
buffers), and reads lengths from the prefetched table. `denote` turns a `Cmd` into the program the printer
prints, for any bundle of buffer references; `run` says what it does to the buffers' contents.
-/

noncomputable section
namespace Cert.Proof

open Cert.KernelIdeal
open Idealize.ShloMosaic Idealize.SL.Sem
open Idealize.ShloMosaic.TcCoe

/-- The buffers a body only reads: the blocks of x, k and v. -/
inductive Rin | x | k | v
  deriving DecidableEq

/-- The buffers a body writes: the nine results' blocks and the three scratch buffers. -/
inductive Rf | out | qc | qs | mq | kc | ks | mk | vc | vs | kt | corr | w
  deriving DecidableEq

/-- An input block's shape. -/
abbrev Rin.shape : Rin → Shape
  | .x => S2x320x768
  | .k => S2x64x768
  | .v => S2x64x768

/-- A written buffer's shape. -/
abbrev Rf.shape : Rf → Shape
  | .out => S2x320x768
  | .qc => S2x5x64x768
  | .qs => S6x2x45
  | .mq => S6x5x2x64
  | .kc => S2x1x64x768
  | .ks => S1x2x12
  | .mk => S1x2x64
  | .vc => S2x1x64x768
  | .vs => S1x2x64
  | .kt => S2x768x64
  | .corr => S2x768x128
  | .w => S5x768x128

/-- A written buffer's element type. -/
abbrev Rf.elt : Rf → EltTy
  | .out => .bf16
  | .qc => .fp8e4m3
  | .qs => .f32
  | .mq => .bf16
  | .kc => .fp8e4m3
  | .ks => .f32
  | .mk => .bf16
  | .vc => .fp8e4m3
  | .vs => .f32
  | .kt => .fp8e4m3
  | .corr => .f32
  | .w => .f32

/-- Programs over these buffers. -/
inductive Cmd (F : FTy → Type) : Type → Type 1 where
  | ret {α : Type} (a : α) : Cmd F α
  | bind {α β : Type} (c : Cmd F α) (f : α → Cmd F β) : Cmd F β
  | len (R : Rect S2) (h : R.shape.numel = 1) : Cmd F (BitVec 32)
  | rload (r : Rin) (R : Rect r.shape) (h : 0 < R.shape.numel) : Cmd F (R.shape.Idx → Elt F .bf16)
  | load (r : Rf) (R : Rect r.shape) (h : 0 < R.shape.numel) : Cmd F (R.shape.Idx → Elt F r.elt)
  | store (r : Rf) (R : Rect r.shape) (w : R.shape.Idx → Elt F r.elt) (h : 0 < R.shape.numel)
      (hp : R.PackedRows r.elt.packing) : Cmd F PUnit
  | ite (p : Prop) (d : Decidable p) (c e : Cmd F PUnit) : Cmd F PUnit
  | scope {α : Type} (c : Cmd F α) : Cmd F α

/-- A store, preceded by the load of the same place the printer leaves before every store. -/
def Cmd.put {F : FTy → Type} (r : Rf) (R : Rect r.shape) (w : R.shape.Idx → Elt F r.elt) (h : 0 < R.shape.numel)
    (hp : R.PackedRows r.elt.packing) : Cmd F PUnit :=
  .bind (.load r R h) fun _ => .store r R w h hp

/-- The element `i` of a family built from its first and its others. -/
def fcons {α : Type} {n : Nat} (a : α) (t : Fin n → α) : Fin (n + 1) → α
  | ⟨0, _⟩ => a
  | ⟨i + 1, h⟩ => t ⟨i, Nat.lt_of_succ_lt_succ h⟩

/-- Runs `f` at every index below `n` in turn and keeps the results. -/
def Cmd.tab {F : FTy → Type} {α : Type} : (n : Nat) → (Fin n → Cmd F α) → Cmd F (Fin n → α)
  | 0, _ => .ret fun i => i.elim0
  | n + 1, f => .bind (f 0) fun a => .bind (Cmd.tab n fun i => f i.succ) fun t => .ret (fcons a t)

/-- Runs `f` at every element of a list in turn, each given what the one before it returned. -/
def Cmd.fold {F : FTy → Type} {ι β : Type} : List ι → (β → ι → Cmd F β) → β → Cmd F β
  | [], _, b => .ret b
  | i :: l, f, b => .bind (f b i) fun b' => Cmd.fold l f b'

/-- Runs `f` at every element of a list in turn. -/
def Cmd.each {F : FTy → Type} {ι : Type} : List ι → (ι → Cmd F PUnit) → Cmd F PUnit
  | [], _ => .ret ⟨⟩
  | i :: l, f => .bind (f i) fun _ => Cmd.each l f

instance {F : FTy → Type} : Monad (Cmd F) where
  pure := Cmd.ret
  bind := Cmd.bind

/-- A bundle of references to the buffers. -/
structure Ms (sig : RefSig) where
  tb : Memref sig .tc .smem S2 .i32
  inp : (r : Rin) → Memref sig .tc .vmem r.shape .bf16
  m : (r : Rf) → Memref sig .tc .vmem r.shape r.elt

/-- Each of them is a whole buffer. -/
structure Ms.Whole {sig : RefSig} (A : Ms sig) : Prop where
  tb : A.tb.IsWhole
  inp : ∀ r, (A.inp r).IsWhole
  m : ∀ r, (A.m r).IsWhole

section
variable {F : FTy → Type} {nD : Nat} {τ : Topo} {sig : RefSig} {Lb : Labels}

/-- The evidence that a store of whole rows is exact. -/
theorem stores_ok {A : Ms sig} (hA : A.Whole) (r : Rf) (R : Rect r.shape) (h : 0 < R.shape.numel)
    (hp : R.PackedRows r.elt.packing) : ((A.m r).access R).Stores Finset.univ :=
  View.stores_vmem h ((hA.m r).storeExact_slice rfl _ hp) (fun _ => rfl)

/-- The program a command stands for, followed by `K`, with what follows a condition repeated in its branches. -/
def denoteK (A : Ms sig) (hA : A.Whole) {α : Type} (c : Cmd F α) :
    {β : Type} → (α → Prog (TpuEff nD τ sig (Elt F) Lb .tc) β) → Prog (TpuEff nD τ sig (Elt F) Lb .tc) β :=
  Cmd.rec (motive := fun α _ => {β : Type} → (α → Prog (TpuEff nD τ sig (Elt F) Lb .tc) β) → Prog (TpuEff nD τ sig (Elt F) Lb .tc) β)
    (fun a _ K => K a)
    (fun _ _ ihc ihf _ K => ihc fun a => ihf a K)
    (fun R h _ K => Prog.bind (smemLoad (p := .tc) (Val := Elt F) A.tb R h rfl : Prog (TpuEff nD τ sig (Elt F) Lb .tc) (Elt F .i32)) K)
    (fun r R h _ K => .op (.load (A.inp r) R.toLoadRect (View.loadsAt_vmem h)) fun x => K x)
    (fun r R h _ K => .op (.load (A.m r) R.toLoadRect (View.loadsAt_vmem h)) fun x => K x)
    (fun r R w h hp _ K => .op (.store (A.m r) R w Finset.univ (stores_ok hA r R h hp) (.inl rfl)) fun x => K x)
    (fun p d _ _ ihc ihe _ K => @dite _ p d (fun _ => ihc K) (fun _ => ihe K))
    (fun _ ih _ K => ih K) c

/-- The program a command stands for. -/
def denote (A : Ms sig) (hA : A.Whole) {α : Type} (c : Cmd F α) : Prog (TpuEff nD τ sig (Elt F) Lb .tc) α :=
  Cmd.rec (motive := fun α _ => Prog (TpuEff nD τ sig (Elt F) Lb .tc) α)
    (fun a => .ret a)
    (fun _ _ ihc ihf => Prog.bind ihc ihf)
    (fun R h => (smemLoad (p := .tc) (Val := Elt F) A.tb R h rfl : Prog (TpuEff nD τ sig (Elt F) Lb .tc) (Elt F .i32)))
    (fun r R h => Prog.lift (.load (A.inp r) R.toLoadRect (View.loadsAt_vmem h)))
    (fun r R h => Prog.lift (.load (A.m r) R.toLoadRect (View.loadsAt_vmem h)))
    (fun r R w h hp => Prog.lift (.store (A.m r) R w Finset.univ (stores_ok hA r R h hp) (.inl rfl)))
    (fun p d _ _ ihc ihe => @dite _ p d (fun _ => ihc) (fun _ => ihe))
    (fun c _ => denoteK A hA c .ret) c

/-- The two agree. -/
theorem denoteK_eq (A : Ms sig) (hA : A.Whole) {α : Type} (c : Cmd F α) {β : Type}
    (K : α → Prog (TpuEff nD τ sig (Elt F) Lb .tc) β) : denoteK A hA c K = Prog.bind (denote A hA c) K := by
  induction c generalizing β with
  | ret a => rfl
  | bind c f ihc ihf =>
    show denoteK A hA c (fun a => denoteK A hA (f a) K) = Prog.bind (Prog.bind (denote A hA c) fun a => denote A hA (f a)) K
    rw [ihc]
    exact (congrArg _ (funext fun a => ihf a K)).trans (Prog.bind_assoc _ _ _).symm
  | len R h => rfl
  | rload r R h => rfl
  | load r R h => rfl
  | store r R w h hp => rfl
  | ite p d c e ihc ihe =>
    show @dite _ p d (fun _ => denoteK A hA c K) (fun _ => denoteK A hA e K) = Prog.bind (@dite _ p d (fun _ => denote A hA c) (fun _ => denote A hA e)) K
    cases d with
    | isTrue h => exact ihc K
    | isFalse h => exact ihe K
  | scope c ih =>
    show denoteK A hA c K = Prog.bind (denoteK A hA c .ret) K
    rw [ih, ih]
    exact (Prog.bind_assoc (denote A hA c) Prog.ret K).symm

end
end Cert.Proof
end
-- ==== Proof.Pure.lean ====
module
public import proofs.«01_k».proof.Proof.Cmd

@[expose] public section

/-!
# What the body computes, value by value

The pure computations of the kernel's body, each written once for every batch row, head, query block and key
tile: masked means, the power of two scale of a maximum, the codes, and the pieces of the attention.
-/

noncomputable section
namespace Cert.Proof

open Cert.KernelIdeal
open Idealize.ShloMosaic Idealize.SL.Sem
open Idealize.ShloMosaic.TcCoe

section
variable {F : FTy → Type} [FloatOps F]

/-- The word of a natural number. -/
abbrev i32 (n : Nat) : BitVec 32 := BitVec.ofNat 32 n

/-- A constant vector of a float's bits. -/
abbrev cst (S : Shape) (b : BitVec 32) : FVec F S .f32 := broadcast S (Scalar.ofBits .f32 b)

/-- A constant vector of an integer. -/
abbrev csti (S : Shape) (n : Nat) : IVec S 32 := broadcast S (i32 n)

abbrev lane128 : IVec S1x128 32 := iota .tc S1x128 32 [1] (by decide)
abbrev lane64x128 : IVec S64x128 32 := iota .tc S64x128 32 [1] (by decide)
abbrev keyIx : IVec S128x128 32 := iota .tc S128x128 32 [0] (by decide)
abbrev queryIx : IVec S128x128 32 := iota .tc S128x128 32 [1] (by decide)
abbrev lane45 : IVec S2x45 32 := iota .tc S2x45 32 [1] (by decide)
abbrev sub45 : IVec S2x45 32 := iota .tc S2x45 32 [0] (by decide)

/-- The exponent counted from a scaled maximum, for one value. -/
def exp1 (a : FVec F S1x1 .f32) : IVec S1x1 32 :=
  let y := mulf a (cst S1x1 0x3B124925#32)
  let thr : FVec F S1x255 .f32 := bitcastToFloat .f32 (shli (addi (iota .tc S1x255 32 [1] (by decide)) (csti S1x255 1)) (csti S1x255 23))
  let biased : IVec S1x1 32 := shapeCast S1x1 (multiReductionI .add [1] S1 (extui 32 (cmpf .oge (broadcastTo S1x255 y (by decide)) thr) (by decide)) 0#32 (by decide) rfl) (by decide)
  select (cmpi .eq biased (csti S1x1 0)) (csti S1x1 0) (subi biased (csti S1x1 126))

/-- The scale of a maximum: two to the exponent, -/
def up1 (a : FVec F S1x1 .f32) : FVec F S1x1 .f32 :=
  bitcastToFloat .f32 (shli (addi (exp1 a) (csti S1x1 127)) (csti S1x1 23))

/-- and its inverse. -/
def down1 (a : FVec F S1x1 .f32) : FVec F S1x1 .f32 :=
  bitcastToFloat .f32 (shli (subi (csti S1x1 127) (exp1 a)) (csti S1x1 23))

/-- The exponents of the 64 maxima of v's dimensions. -/
def exp64 (a : FVec F S64x1 .f32) : IVec S64x1 32 :=
  let y := mulf a (cst S64x1 0x3B124925#32)
  let thr : FVec F S1x255 .f32 := bitcastToFloat .f32 (shli (addi (iota .tc S1x255 32 [1] (by decide)) (csti S1x255 1)) (csti S1x255 23))
  let biased : IVec S64x1 32 := shapeCast S64x1 (multiReductionI .add [1] S64 (extui 32 (cmpf .oge (broadcastTo S64x255 y (by decide)) (broadcastTo S64x255 thr (by decide))) (by decide)) 0#32 (by decide) rfl) (by decide)
  select (cmpi .eq biased (csti S64x1 0)) (csti S64x1 0) (subi biased (csti S64x1 126))

def up64 (a : FVec F S64x1 .f32) : FVec F S64x1 .f32 :=
  bitcastToFloat .f32 (shli (addi (exp64 a) (csti S64x1 127)) (csti S64x1 23))

def down64 (a : FVec F S64x1 .f32) : FVec F S64x1 .f32 :=
  bitcastToFloat .f32 (shli (subi (csti S64x1 127) (exp64 a)) (csti S64x1 23))

/-- Clips to the fp8 range. -/
def clip448 {S : Shape} (a : FVec F S .f32) : FVec F S .f32 :=
  minimumf (cst S 0x43E00000#32) (maximumf (cst S 0xC3E00000#32) a)

/-! ## The keys and values of a row -/

/-- The count a mean divides by. -/
def cnt (n : BitVec 32) : F .f32 := Scalar.maximumf (Scalar.sitofp .f32 n) (Scalar.ofBits .f32 0x3F800000#32)

/-- The mask of the valid positions, at every dimension. -/
def valid (n : BitVec 32) : IVec S64x768 1 :=
  broadcastTo S64x768 (shapeCast S1x768 (cmpi .slt (iota .tc S1x768 32 [1] (by decide)) (broadcast S1x768 n)) (by decide)) (by decide)

/-- A block of k or v, zero beyond the row's length. -/
def masked (n : BitVec 32) (blk : Vec F S1x64x768 .bf16) : FVec F S64x768 .f32 :=
  select (valid n) (extf .f32 (shapeCast S64x768 blk (by decide)) (by decide)) (cst S64x768 0x00000000#32)

/-- The keys' mean. -/
def kmean (n : BitVec 32) (blk : Vec F S1x64x768 .bf16) : FVec F S64x1 .f32 :=
  extf .f32 (truncf .bf16 (divf (shapeCast S64x1 (multiReduction .add [1] S64 (masked n blk) 0x00000000#32 (by decide) (.inl rfl) rfl) (by decide)) (broadcast S64x1 (cnt n))) (by decide)) (by decide)

/-- The keys less their mean. -/
def kdev (n : BitVec 32) (blk : Vec F S1x64x768 .bf16) : FVec F S64x768 .f32 :=
  select (valid n) (subf (masked n blk) (broadcastTo S64x768 (kmean n blk) (by decide))) (cst S64x768 0x00000000#32)

/-- Their largest magnitude at each position. -/
def kabs (n : BitVec 32) (blk : Vec F S1x64x768 .bf16) : FVec F S1x768 .f32 :=
  shapeCast S1x768 (multiReduction .maximumf [0] S768 (absf (kdev n blk)) 0xFF800000#32 (by decide) (.inl rfl) rfl) (by decide)

theorem slices_lane (t : Fin 6) : S1x768.Slices ![0, t.val * 128] S1x128 := by revert t; decide

/-- The half of a tile's lanes that group `g` is. -/
def half (g : Fin 12) : IVec S1x128 1 :=
  if g.val % 2 = 0 then cmpi .slt lane128 (csti S1x128 64) else cmpi .sge lane128 (csti S1x128 64)

/-- The largest magnitude of group `g`'s 64 keys. -/
def kmax (n : BitVec 32) (blk : Vec F S1x64x768 .bf16) (g : Fin 12) : FVec F S1x1 .f32 :=
  shapeCast S1x1 (multiReduction .maximumf [1] S1
    (select (half g) (extractStridedSlice S1x128 ![0, g.val / 2 * 128] (kabs n blk) (slices_lane ⟨g.val / 2, by omega⟩)) (cst S1x128 0x00000000#32))
    0xFF800000#32 (by decide) (.inl rfl) rfl) (by decide)

/-- Its scale. -/
def kup (n : BitVec 32) (blk : Vec F S1x64x768 .bf16) (g : Fin 12) : FVec F S1x1 .f32 := up1 (kmax n blk g)

/-- The twelve scales of a row as one row of lanes. -/
def ksrow (n : BitVec 32) (blk : Vec F S1x64x768 .bf16) : FVec F S1x12 .f32 :=
  [0, 1, 2, 3, 4, 5, 6, 7, 8, 9, 10, 11].foldl (fun r (g : Fin 12) =>
    select (cmpi .eq (iota .tc S1x12 32 [1] (by decide)) (csti S1x12 g)) (broadcastTo S1x12 (shapeCast S1x1 (kup n blk g) (by decide)) (by decide)) r)
    (cst S1x12 0x00000000#32)

/-- The inverse scales of a tile's two groups along its lanes. -/
def kinvTile (n : BitVec 32) (blk : Vec F S1x64x768 .bf16) (t : Fin 6) : FVec F S1x128 .f32 :=
  select (cmpi .slt lane128 (csti S1x128 64))
    (broadcastTo S1x128 (shapeCast S1x1 (down1 (kmax n blk ⟨2 * t.val, by omega⟩)) (by decide)) (by decide))
    (broadcastTo S1x128 (shapeCast S1x1 (down1 (kmax n blk ⟨2 * t.val + 1, by omega⟩)) (by decide)) (by decide))

/-- The inverse scales along the positions. -/
def kinv (n : BitVec 32) (blk : Vec F S1x64x768 .bf16) : FVec F S1x768 .f32 :=
  concatenate S1x768 1 [⟨S1x128, kinvTile n blk 0⟩, ⟨S1x128, kinvTile n blk 1⟩, ⟨S1x128, kinvTile n blk 2⟩,
    ⟨S1x128, kinvTile n blk 3⟩, ⟨S1x128, kinvTile n blk 4⟩, ⟨S1x128, kinvTile n blk 5⟩]
    (show Shape.Concatenates [S1x128, S1x128, S1x128, S1x128, S1x128, S1x128] S1x768 1 by decide)

/-- The keys' codes, before they are rounded to fp8. -/
def kq (n : BitVec 32) (blk : Vec F S1x64x768 .bf16) : FVec F S64x768 .f32 :=
  clip448 (mulf (kdev n blk) (broadcastTo S64x768 (kinv n blk) (by decide)))

/-- The largest magnitude of each dimension of v. -/
def vmax (n : BitVec 32) (blk : Vec F S1x64x768 .bf16) : FVec F S64x1 .f32 :=
  shapeCast S64x1 (multiReduction .maximumf [1] S64 (absf (masked n blk)) 0xFF800000#32 (by decide) (.inl rfl) rfl) (by decide)

/-- v's codes, before they are rounded to fp8. -/
def vq (n : BitVec 32) (blk : Vec F S1x64x768 .bf16) : FVec F S64x768 .f32 :=
  clip448 (mulf (masked n blk) (broadcastTo S64x768 (down64 (vmax n blk)) (by decide)))

/-! ## The queries of one block and head -/

/-- The mask of the valid queries of block `j`. -/
def qvalid1 (n : BitVec 32) (j : Fin 6) : IVec S1x128 1 :=
  cmpi .slt (addi lane128 (csti S1x128 (j.val * 128))) (broadcast S1x128 n)

def qvalid (n : BitVec 32) (j : Fin 6) : IVec S64x128 1 :=
  broadcastTo S64x128 (shapeCast S1x128 (qvalid1 n j) (by decide)) (by decide)

/-- The count a block's mean divides by. -/
def qcnt (n : BitVec 32) (j : Fin 6) : F .f32 :=
  Scalar.maximumf (Scalar.sitofp .f32 (Scalar.minsi 128#32 (Scalar.maxsi 0#32 (Scalar.subi n (i32 (j.val * 128)))))) (Scalar.ofBits .f32 0x3F800000#32)

/-- The block's queries, zero beyond the row's length. -/
def qmasked (n : BitVec 32) (j : Fin 6) (blk : Vec F S1x64x128 .bf16) : FVec F S64x128 .f32 :=
  select (qvalid n j) (extf .f32 (shapeCast S64x128 blk (by decide)) (by decide)) (cst S64x128 0x00000000#32)

def qmean (n : BitVec 32) (j : Fin 6) (blk : Vec F S1x64x128 .bf16) : FVec F S64x1 .f32 :=
  extf .f32 (truncf .bf16 (divf (shapeCast S64x1 (multiReduction .add [1] S64 (qmasked n j blk) 0x00000000#32 (by decide) (.inl rfl) rfl) (by decide)) (broadcast S64x1 (qcnt n j))) (by decide)) (by decide)

def qdev (n : BitVec 32) (j : Fin 6) (blk : Vec F S1x64x128 .bf16) : FVec F S64x128 .f32 :=
  select (qvalid n j) (subf (qmasked n j blk) (broadcastTo S64x128 (qmean n j blk) (by decide))) (cst S64x128 0x00000000#32)

/-- The largest magnitude of the block. -/
def qmax (n : BitVec 32) (j : Fin 6) (blk : Vec F S1x64x128 .bf16) : FVec F S1x1 .f32 :=
  broadcast S1x1 (extractAt ![0, 0, 0] (shapeCast S1x1x1 (multiReduction .maximumf [1, 2] S1 (shapeCast S1x64x128 (absf (qdev n j blk)) (by decide)) 0xFF800000#32 (by decide) (.inl rfl) rfl) (by decide)) (by decide))

def qup (n : BitVec 32) (j : Fin 6) (blk : Vec F S1x64x128 .bf16) : FVec F S1x1 .f32 := up1 (qmax n j blk)

/-- The queries' codes, before they are rounded to fp8. -/
def qq (n : BitVec 32) (j : Fin 6) (blk : Vec F S1x64x128 .bf16) : FVec F S64x128 .f32 :=
  clip448 (mulf (qdev n j blk) (broadcastTo S64x128 (down1 (qmax n j blk)) (by decide)))

/-! ## What is gathered over the rows -/

/-- What the first phase loads of a row: its length, its keys, its values and its queries by block and head. -/
structure Row (F : FTy → Type) where
  n : BitVec 32
  k : Vec F S1x64x768 .bf16
  v : Vec F S1x64x768 .bf16
  x : Fin 6 → Fin 5 → Vec F S1x64x128 .bf16

/-- The lane the mean of row `b`, block `j`, head `h` is kept at. -/
abbrev col (b : Fin 2) (j : Fin 6) (h : Fin 5) : Nat := (j.val * 5 + h.val) * 2 + b.val

/-- Puts a column at one lane of a 64 by 128 array. -/
def setCol (m : FVec F S64x128 .f32) (i : Nat) (a : FVec F S64x1 .f32) : FVec F S64x128 .f32 :=
  select (cmpi .eq lane64x128 (csti S64x128 i)) (broadcastTo S64x128 (shapeCast S64x1 a (by decide)) (by decide)) m

/-- The keys' means and v's scales of both rows, by lane. -/
def small (L : Fin 2 → Row F) : FVec F S64x128 .f32 :=
  [0, 1].foldl (fun m (b : Fin 2) => setCol (setCol m b.val (kmean (L b).n (L b).k)) (2 + b.val) (up64 (vmax (L b).n (L b).v)))
    (cst S64x128 0x00000000#32)

abbrev blocks : List (Fin 6) := [0, 1, 2, 3, 4, 5]
abbrev heads : List (Fin 5) := [0, 1, 2, 3, 4]

/-- The queries' means, by lane. -/
def means (L : Fin 2 → Row F) : FVec F S64x128 .f32 :=
  [0, 1].foldl (fun m (b : Fin 2) => blocks.foldl (fun m j => heads.foldl (fun m h =>
    setCol m (col b j h) (qmean (L b).n j ((L b).x j h))) m) m) (cst S64x128 0x00000000#32)

/-- The queries' scales of a block, at this kv head's five lanes of both rows. -/
def qsrow (kv : BitVec 32) (L : Fin 2 → Row F) (j : Fin 6) : FVec F S2x45 .f32 :=
  [0, 1].foldl (fun m (b : Fin 2) => heads.foldl (fun m h =>
    select (andi (cmpi .eq lane45 (broadcast S2x45 (Scalar.addi (Scalar.muli kv 5#32) (i32 h.val)))) (cmpi .eq sub45 (csti S2x45 b.val)))
      (broadcastTo S2x45 (shapeCast S1x1 (qup (L b).n j ((L b).x j h)) (by decide)) (by decide)) m) m) (cst S2x45 0x00000000#32)

end
end Cert.Proof
end
-- ==== Proof.Body.lean ====
module
public import proofs.«01_k».proof.Proof.Pure

@[expose] public section

/-!
# The body, as loops

The kernel's unrolled body written as the loops it unrolls: the quantisers over the rows, blocks and heads, then
the correction term and the causal attention of every row and query block.
-/

noncomputable section
namespace Cert.Proof

open Cert.KernelIdeal
open Idealize.ShloMosaic Idealize.SL.Sem
open Idealize.ShloMosaic.TcCoe

/-! ## The rectangles -/

abbrev rLen (b : Fin 2) : Rect S2 := Rect.unit ![b.val] S1.size (by revert b; decide)
abbrev rX (b : Fin 2) (j : Fin 6) (h : Fin 5) : Rect S2x320x768 :=
  Rect.unit ![b.val, h.val * 64, j.val * 128] S1x64x128.size (by revert b j h; decide)
abbrev rK (b : Fin 2) : Rect S2x64x768 := Rect.unit ![b.val, 0, 0] S1x64x768.size (by revert b; decide)
abbrev rZero (b : Fin 2) (j : Fin 6) : Rect S2x320x768 :=
  Rect.unit ![b.val, 0, j.val * 128] S1x320x128.size (by revert b j; decide)
abbrev rQc (b : Fin 2) (j : Fin 6) (h : Fin 5) : Rect S2x5x64x768 :=
  Rect.unit ![b.val, h.val, 0, j.val * 128] S1x1x64x128.size (by revert b j h; decide)
abbrev rQsAll : Rect S6x2x45 := Rect.unit ![0, 0, 0] S6x2x45.size (by decide)
abbrev rQs (j : Fin 6) : Rect S6x2x45 := Rect.unit ![j.val, 0, 0] S1x2x45.size (by revert j; decide)
abbrev rMq (j : Fin 6) (h : Fin 5) : Rect S6x5x2x64 :=
  Rect.unit ![j.val, h.val, 0, 0] S1x1x2x64.size (by revert j h; decide)
abbrev rKc (b : Fin 2) : Rect S2x1x64x768 := Rect.unit ![b.val, 0, 0, 0] S1x1x64x768.size (by revert b; decide)
abbrev rVt (b : Fin 2) (c : Fin 6) : Rect S2x1x64x768 :=
  Rect.unit ![b.val, 0, 0, c.val * 128] S1x1x64x128.size (by revert b c; decide)
abbrev rKs : Rect S1x2x12 := Rect.unit ![0, 0, 0] S1x2x12.size (by decide)
abbrev rMk : Rect S1x2x64 := Rect.unit ![0, 0, 0] S1x2x64.size (by decide)
abbrev rVs : Rect S1x2x64 := Rect.unit ![0, 0, 0] S1x2x64.size (by decide)
abbrev rKt (b : Fin 2) : Rect S2x768x64 := Rect.unit ![b.val, 0, 0] S1x768x64.size (by revert b; decide)
abbrev rKtt (b : Fin 2) (c : Fin 6) : Rect S2x768x64 :=
  Rect.unit ![b.val, c.val * 128, 0] S1x128x64.size (by revert b c; decide)
abbrev rCorr (b : Fin 2) (g : Fin 12) : Rect S2x768x128 :=
  Rect.unit ![b.val, g.val * 64, 0] S1x64x128.size (by revert b g; decide)

theorem inbCol (b : Fin 2) (j : Fin 6) (h : Fin 5) (g : Fin 12) :
    ∀ a, (![b.val, g.val * 64, col b j h] : Fin 3 → Nat) a + S1x64x1.size a ≤ S2x768x128.size a := by
  have hb := b.isLt; have hj := j.isLt; have hh := h.isLt; have hg := g.isLt
  have h1 : col b j h = (j.val * 5 + h.val) * 2 + b.val := rfl
  intro a
  match a with
  | ⟨0, _⟩ => show b.val + 1 ≤ 2; omega
  | ⟨1, _⟩ => show g.val * 64 + 64 ≤ 768; omega
  | ⟨2, _⟩ => show col b j h + 1 ≤ 128; omega

abbrev rCol (b : Fin 2) (j : Fin 6) (h : Fin 5) (g : Fin 12) : Rect S2x768x128 :=
  Rect.unit ![b.val, g.val * 64, col b j h] S1x64x1.size (inbCol b j h g)
abbrev rW (h : Fin 5) (g : Fin 12) : Rect S5x768x128 :=
  Rect.unit ![h.val, g.val * 64, 0] S1x64x128.size (by revert h g; decide)
abbrev rWt (h : Fin 5) (c : Fin 6) : Rect S5x768x128 :=
  Rect.unit ![h.val, c.val * 128, 0] S1x128x128.size (by revert h c; decide)

/-! The rectangles are not empty, and those stored to are whole words. -/

theorem one_rLen (b : Fin 2) : (rLen b).shape.numel = 1 := (show S1.numel = 1 by decide)
theorem h_rX (b : Fin 2) (j : Fin 6) (h : Fin 5) : 0 < (rX b j h).shape.numel := (show 0 < S1x64x128.numel by decide)
theorem p_rX (b : Fin 2) (j : Fin 6) (h : Fin 5) : (rX b j h).PackedRows (Rf.elt .out).packing := by revert b j h; decide
theorem h_rK (b : Fin 2) : 0 < (rK b).shape.numel := (show 0 < S1x64x768.numel by decide)
theorem h_rZero (b : Fin 2) (j : Fin 6) : 0 < (rZero b j).shape.numel := (show 0 < S1x320x128.numel by decide)
theorem p_rZero (b : Fin 2) (j : Fin 6) : (rZero b j).PackedRows (Rf.elt .out).packing := by revert b j; decide
theorem h_rQc (b : Fin 2) (j : Fin 6) (h : Fin 5) : 0 < (rQc b j h).shape.numel := (show 0 < S1x1x64x128.numel by decide)
theorem p_rQc (b : Fin 2) (j : Fin 6) (h : Fin 5) : (rQc b j h).PackedRows (Rf.elt .qc).packing := by revert b j h; decide
theorem h_rQsAll : 0 < (rQsAll).shape.numel := (show 0 < S6x2x45.numel by decide)
theorem p_rQsAll : (rQsAll).PackedRows (Rf.elt .qs).packing := by decide
theorem h_rQs (j : Fin 6) : 0 < (rQs j).shape.numel := (show 0 < S1x2x45.numel by decide)
theorem p_rQs (j : Fin 6) : (rQs j).PackedRows (Rf.elt .qs).packing := by revert j; decide
theorem h_rMq (j : Fin 6) (h : Fin 5) : 0 < (rMq j h).shape.numel := (show 0 < S1x1x2x64.numel by decide)
theorem p_rMq (j : Fin 6) (h : Fin 5) : (rMq j h).PackedRows (Rf.elt .mq).packing := by revert j h; decide
theorem h_rKc (b : Fin 2) : 0 < (rKc b).shape.numel := (show 0 < S1x1x64x768.numel by decide)
theorem p_rKc (b : Fin 2) : (rKc b).PackedRows (Rf.elt .kc).packing := by revert b; decide
theorem h_rVt (b : Fin 2) (c : Fin 6) : 0 < (rVt b c).shape.numel := (show 0 < S1x1x64x128.numel by decide)
theorem h_rKs : 0 < (rKs).shape.numel := (show 0 < S1x2x12.numel by decide)
theorem p_rKs : (rKs).PackedRows (Rf.elt .ks).packing := by decide
theorem h_rMk : 0 < (rMk).shape.numel := (show 0 < S1x2x64.numel by decide)
theorem p_rMk : (rMk).PackedRows (Rf.elt .mk).packing := by decide
theorem h_rVs : 0 < rVs.shape.numel := (show 0 < S1x2x64.numel by decide)
theorem p_rVs : rVs.PackedRows (Rf.elt .vs).packing := by decide
theorem h_rKt (b : Fin 2) : 0 < (rKt b).shape.numel := (show 0 < S1x768x64.numel by decide)
theorem p_rKt (b : Fin 2) : (rKt b).PackedRows (Rf.elt .kt).packing := by revert b; decide
theorem h_rKtt (b : Fin 2) (c : Fin 6) : 0 < (rKtt b c).shape.numel := (show 0 < S1x128x64.numel by decide)
theorem h_rCorr (b : Fin 2) (g : Fin 12) : 0 < (rCorr b g).shape.numel := (show 0 < S1x64x128.numel by decide)
theorem p_rCorr (b : Fin 2) (g : Fin 12) : (rCorr b g).PackedRows (Rf.elt .corr).packing := by revert b g; decide
theorem h_rCol (b : Fin 2) (j : Fin 6) (h : Fin 5) (g : Fin 12) : 0 < (rCol b j h g).shape.numel := (show 0 < S1x64x1.numel by decide)
theorem h_rW (h : Fin 5) (g : Fin 12) : 0 < (rW h g).shape.numel := (show 0 < S1x64x128.numel by decide)
theorem p_rW (h : Fin 5) (g : Fin 12) : (rW h g).PackedRows (Rf.elt .w).packing := by revert h g; decide
theorem h_rWt (h : Fin 5) (c : Fin 6) : 0 < (rWt h c).shape.numel := (show 0 < S1x128x128.numel by decide)

section
variable {F : FTy → Type} [FloatOps F]

/-! ## The quantisers -/

/-- One block and head's queries: load, quantise, store the codes. -/
def query (n : BitVec 32) (b : Fin 2) (j : Fin 6) (h : Fin 5) : Cmd F (Vec F S1x64x128 .bf16) := do
  let x ← Cmd.rload .x (rX b j h) (h_rX b j h)
  Cmd.put .qc (rQc b j h) (shapeCast S1x1x64x128 (truncf .fp8e4m3 (qq n j x) (by decide)) (by decide)) (h_rQc b j h) (p_rQc b j h)
  Cmd.ret x

/-- One row's keys, values and queries. -/
def row (b : Fin 2) : Cmd F (Row F) := do
  let n ← Cmd.len (rLen b) (one_rLen b)
  let k ← Cmd.rload .k (rK b) (h_rK b)
  Cmd.put .kc (rKc b) (shapeCast S1x1x64x768 (truncf .fp8e4m3 (kq n k) (by decide)) (by decide)) (h_rKc b) (p_rKc b)
  Cmd.put .kt (rKt b) (shapeCast S1x768x64 (truncf .fp8e4m3 (transpose S768x64 [1, 0] (kq n k) (by decide)) (by decide)) (by decide)) (h_rKt b) (p_rKt b)
  let v ← Cmd.rload .v (rK b) (h_rK b)
  Cmd.put .vc (rKc b) (shapeCast S1x1x64x768 (truncf .fp8e4m3 (vq n v) (by decide)) (by decide)) (h_rKc b) (p_rKc b)
  let x ← Cmd.tab 6 fun j => Cmd.tab 5 fun h => query n b j h
  Cmd.ret ⟨n, k, v, x⟩

/-- The scales and means of both rows. -/
def gather (kv : BitVec 32) (L : Fin 2 → Row F) : Cmd F PUnit := do
  Cmd.each blocks fun j => do
    let s ← Cmd.load .qs (rQs j) (h_rQs j)
    Cmd.put .qs (rQs j) (shapeCast S1x2x45 (addf (shapeCast S2x45 s (show S1x2x45.ShapeCasts S2x45 by decide) : FVec F S2x45 .f32) (qsrow kv L j)) (by decide)) (h_rQs j) (p_rQs j)
  Cmd.put .ks rKs (shapeCast S1x2x12 (concatenate S2x12 0 [⟨S1x12, ksrow (L 0).n (L 0).k⟩, ⟨S1x12, ksrow (L 1).n (L 1).k⟩]
    (show Shape.Concatenates [S1x12, S1x12] S2x12 0 by decide)) (by decide)) (h_rKs) (p_rKs)
  Cmd.put .mk rMk (shapeCast S1x2x64 (truncf .bf16 (extractStridedSlice S2x64 ![0, 0] (transpose S128x64 [1, 0] (small L) (by decide)) (by decide)) (by decide)) (by decide)) (h_rMk) (p_rMk)
  Cmd.put .vs rVs (shapeCast S1x2x64 (extractStridedSlice S2x64 ![2, 0] (transpose S128x64 [1, 0] (small L) (by decide)) (by decide)) (by decide)) (h_rVs) (p_rVs)
  Cmd.each blocks fun j => Cmd.each heads fun h =>
    Cmd.put .mq (rMq j h) (shapeCast S1x1x2x64 (truncf .bf16 (extractStridedSlice S2x64 ![(j.val * 5 + h.val) * 2, 0] (transpose S128x64 [1, 0] (means L) (by decide)) (by revert j h; decide)) (by decide)) (by decide)) (h_rMq j h) (p_rMq j h)

/-! ## The attention -/

abbrev groups : List (Fin 12) := [0, 1, 2, 3, 4, 5, 6, 7, 8, 9, 10, 11]

/-- The matrix product's dimensions. -/
abbrev dotCorr : DotDims S768x64 S64x128 S768x128 where
  lhsContracting := [1]
  rhsContracting := [0]
  lhsNonContracting := [0]
  rhsNonContracting := [1]
  lhsBatch := []
  rhsBatch := []
  wf := by decide

/-- The matrix product's dimensions. -/
abbrev dotScore : DotDims S128x64 S64x128 S128x128 where
  lhsContracting := [1]
  rhsContracting := [0]
  lhsNonContracting := [0]
  rhsNonContracting := [1]
  lhsBatch := []
  rhsBatch := []
  wf := by decide

/-- The matrix product's dimensions. -/
abbrev dotOut : DotDims S64x128 S128x128 S64x128 where
  lhsContracting := [1]
  rhsContracting := [0]
  lhsNonContracting := [0]
  rhsNonContracting := [1]
  lhsBatch := []
  rhsBatch := []
  wf := by decide

/-- The keys' product with the queries' means. -/
def corrAll (mq : FVec F S64x128 .bf16) (kt : Vec F S1x768x64 .fp8e4m3) : FVec F S768x128 .f32 :=
  matmul dotCorr none (extf .bf16 (shapeCast S768x64 kt (by decide) : FVec F S768x64 .fp8e4m3) (by decide))
    mq (constant S768x128 .f32 0x00000000#32)

/-- The correction of group `g`: that product, scaled. -/
def corrOf (score : F .f32) (C : FVec F S768x128 .f32) (ks : Fin 12 → FVec F S1x1 .f32) (g : Fin 12) : FVec F S64x128 .f32 :=
  mulf (extractStridedSlice S64x128 ![g.val * 64, 0] C (by revert g; decide))
    (broadcastTo S64x128 (mulf (ks g) (broadcast S1x1 score)) (by decide))

/-- A tile's raw scores. -/
def rawScore (kt : Vec F S1x128x64 .fp8e4m3) (q : Vec F S1x1x64x128 .fp8e4m3) : FVec F S128x128 .f32 :=
  matmul dotScore none (shapeCast S128x64 kt (by decide) : FVec F S128x64 .fp8e4m3)
    (shapeCast S64x128 q (by decide) : FVec F S64x128 .fp8e4m3) (constant S128x128 .f32 0x00000000#32)

/-- Half `u` of a 128 row array. -/
abbrev halfRows {t : EltTy} (a : Vec F S128x128 t) (u : Fin 2) : Vec F S64x128 t :=
  extractStridedSlice S64x128 ![u.val * 64, 0] a (by revert u; decide)

/-- The weights' logarithms of 64 keys: scaled scores plus the correction, masked on the diagonal tile. -/
def logits (score msk : F .f32) (key query : IVec S128x128 32) (s : FVec F S128x128 .f32) (qs ks : FVec F S1x1 .f32) (diag : Bool) (u : Fin 2)
    (cc : Vec F S1x64x1 .f32) : FVec F S64x128 .f32 :=
  let w := addf (mulf (halfRows (t := .f32) s u) (broadcastTo S64x128 (mulf (mulf qs ks) (broadcast S1x1 score)) (by decide)))
    (broadcastTo S64x128 (shapeCast S64x1 cc (by decide) : FVec F S64x1 .f32) (by decide))
  if diag then select (extractStridedSlice S64x128 ![u.val * 64, 0] (cmpi .sle key query) (by revert u; decide)) w (broadcast S64x128 msk) else w

/-- The running maximum of eight sublanes. -/
def maxStep (m : FVec F S8x128 .f32) (w : FVec F S64x128 .f32) : FVec F S8x128 .f32 :=
  maximumf m (multiReduction .maximumf [0] S8x128 (shapeCast S8x8x128 w (by decide)) 0xFF800000#32 (by decide) (.inl rfl) rfl)

/-- The level the weights are taken at: the maximum less eight. -/
def level (m : FVec F S8x128 .f32) : FVec F S1x128 .f32 :=
  subf (shapeCast S1x128 (multiReduction .maximumf [0] S128 m 0xFF800000#32 (by decide) (.inl rfl) rfl) (by decide)) (cst S1x128 0x41000000#32)

/-- A tile's weights. -/
def weights (w : Vec F S1x128x128 .f32) (m : FVec F S1x128 .f32) : FVec F S128x128 .f32 :=
  exp2 (subf (shapeCast S128x128 w (by decide)) (broadcastTo S128x128 m (by decide)))

def accStep (a : FVec F S8x128 .f32) (p : FVec F S128x128 .f32) : FVec F S8x128 .f32 :=
  addf a (multiReduction .add [0] S8x128 (shapeCast S16x8x128 p (by decide)) 0x00000000#32 (by decide) (.inl rfl) rfl)

def outStep (o : FVec F S64x128 .f32) (vc : Vec F S1x1x64x128 .fp8e4m3) (p : FVec F S128x128 .f32) : FVec F S64x128 .f32 :=
  addf o (matmul dotOut none (shapeCast S64x128 vc (by decide) : FVec F S64x128 .fp8e4m3)
    (truncf .fp8e4m3 p (by decide) : FVec F S128x128 .fp8e4m3) (constant S64x128 .f32 0x00000000#32))

/-- The block's result. -/
def finish (lane : IVec S1x128 32) (n : BitVec 32) (j : Fin 6) (vs : FVec F S64x1 .f32) (a : FVec F S8x128 .f32) (o : FVec F S64x128 .f32) : FVec F S64x128 .f32 :=
  select (broadcastTo S64x128 (shapeCast S1x128 (cmpi .slt (addi lane (csti S1x128 (j.val * 128))) (broadcast S1x128 n)) (by decide)) (by decide))
    (divf (mulf o (broadcastTo S64x128 vs (by decide)))
      (broadcastTo S64x128 (shapeCast S1x128 (multiReduction .add [0] S128 a 0x00000000#32 (by decide) (.inl rfl) rfl) (by decide)) (by decide)))
    (cst S64x128 0x00000000#32)

/-- The key tiles a query block sees. -/
abbrev tiles (j : Fin 6) : List (Fin 6) := blocks.take (j.val + 1)

abbrev grp (c : Fin 6) (u : Fin 2) : Fin 12 := ⟨c.val * 2 + u.val, by omega⟩

/-- What the attention of one row is given: the constants, the row's length and its scales. -/
structure Att (F : FTy → Type) where
  score : F .f32
  msk : F .f32
  lane : IVec S1x128 32
  key : IVec S128x128 32
  query : IVec S128x128 32
  n : BitVec 32
  ks : Fin 12 → FVec F S1x1 .f32
  qs : Fin 6 → Fin 5 → FVec F S1x1 .f32
  vs : FVec F S64x1 .f32

/-- One head of one query block. -/
def head (S : Att F) (b : Fin 2) (j : Fin 6) (h : Fin 5) : Cmd F PUnit := do
  let q ← Cmd.load .qc (rQc b j h) (h_rQc b j h)
  let m ← Cmd.fold (tiles j) (fun m c => do
    let kt ← Cmd.load .kt (rKtt b c) (h_rKtt b c)
    Cmd.fold [0, 1] (fun m (u : Fin 2) => do
      let cc ← Cmd.load .corr (rCol b j h (grp c u)) (h_rCol b j h (grp c u))
      let w := logits S.score S.msk S.key S.query (rawScore kt q) (S.qs j h) (S.ks (grp c u)) (c.val == j.val) u cc
      Cmd.put .w (rW h (grp c u)) (shapeCast S1x64x128 w (by decide)) (h_rW h (grp c u)) (p_rW h (grp c u))
      Cmd.ret (maxStep m w)) m) (broadcast S8x128 S.msk)
  let ao ← Cmd.fold (tiles j) (fun (ao : FVec F S8x128 .f32 × FVec F S64x128 .f32) c => do
    let w ← Cmd.load .w (rWt h c) (h_rWt h c)
    let vc ← Cmd.load .vc (rVt b c) (h_rVt b c)
    Cmd.ret (accStep ao.1 (weights w (level m)), outStep ao.2 vc (weights w (level m)))) (cst S8x128 0x00000000#32, cst S64x128 0x00000000#32)
  Cmd.put .out (rX b j h) (shapeCast S1x64x128 (truncf .bf16 (finish S.lane S.n j S.vs ao.1 ao.2) (by decide)) (by decide)) (h_rX b j h) (p_rX b j h)

/-- Whether a query block has a valid query, -/
abbrev busy (n : BitVec 32) (j : Fin 6) : Prop :=
  Scalar.cmpi .ne (Scalar.extui (Scalar.cmpi .sgt n (i32 (j.val * 128)))) 0#32 = 1#1
/-- or none. -/
abbrev idle (n : BitVec 32) (j : Fin 6) : Prop :=
  Scalar.cmpi .ne (Scalar.extui (Scalar.cmpi .sle n (i32 (j.val * 128)))) 0#32 = 1#1

/-- A query block with a valid query, -/
def work (S : Att F) (b : Fin 2) (j : Fin 6) : Cmd F PUnit :=
  Cmd.ite (busy S.n j) inferInstance (Cmd.each heads fun h => head S b j h) (Cmd.ret ⟨⟩)

/-- and one with none. -/
def rest (n : BitVec 32) (b : Fin 2) (j : Fin 6) : Cmd F PUnit :=
  Cmd.ite (idle n j) inferInstance
    (Cmd.put .out (rZero b j) (shapeCast S1x320x128 (broadcast S320x128 (Scalar.ofBits .bf16 0x0000#16 : F .bf16)) (by decide)) (h_rZero b j) (p_rZero b j))
    (Cmd.ret ⟨⟩)

/-- Stores a group's correction. -/
def putCorr (score : F .f32) (b : Fin 2) (C : FVec F S768x128 .f32) (ks : Fin 12 → FVec F S1x1 .f32) (g : Fin 12) : Cmd F PUnit :=
  Cmd.put .corr (rCorr b g) (shapeCast S1x64x128 (corrOf score C ks g) (by decide)) (h_rCorr b g) (p_rCorr b g)

/-- The last corrections of row 0 and its first block. -/
def cut1 (S : Att F) (C : FVec F S768x128 .f32) (st : Vec F S1x64x128 .f32) : Cmd F (BitVec 32) := do
  Cmd.store .corr (rCorr 0 7) st (h_rCorr 0 7) (p_rCorr 0 7)
  Cmd.each [8, 9, 10, 11] (putCorr S.score 0 C S.ks)
  work S 0 0
  Cmd.ret 0#32

/-- A row's other blocks. -/
def cut2 (S : Att F) (b : Fin 2) (r : BitVec 32) : Cmd F (BitVec 32) := do
  rest S.n b 0
  work S b 1
  rest S.n b 1
  work S b 2
  rest S.n b 2
  work S b 3
  rest S.n b 3
  work S b 4
  rest S.n b 4
  work S b 5
  Cmd.ret r

/-- Row 0's last block and row 1's first corrections. -/
def cut3 (score : F .f32) (n : BitVec 32) (mq : FVec F S64x128 .bf16) (ks : Fin 12 → FVec F S1x1 .f32) :
    Cmd F (Σ' (_ : Elt F .i32) (_ : FVec F S768x128 .f32), FVec F S64x128 .f32) := do
  rest n 0 5
  let n1 ← Cmd.len (rLen 1) (one_rLen 1)
  let kt ← Cmd.load .kt (rKt 1) (h_rKt 1)
  Cmd.each [0, 1, 2] (putCorr score 1 (corrAll mq kt) ks)
  Cmd.ret ⟨n1, corrAll mq kt, corrOf score (corrAll mq kt) ks 3⟩

/-- Row 1's last corrections and its first block. -/
def cut4 (S : Att F) (C : FVec F S768x128 .f32) (c8 : FVec F S64x128 .f32) : Cmd F (BitVec 32) := do
  Cmd.put .corr (rCorr 1 8) (shapeCast S1x64x128 (mulf c8 (broadcastTo S64x128 (mulf (S.ks 8) (broadcast S1x1 S.score)) (by decide))) (by decide)) (h_rCorr 1 8) (p_rCorr 1 8)
  Cmd.each [9, 10, 11] (putCorr S.score 1 C S.ks)
  work S 1 0
  Cmd.ret (Scalar.extui (Scalar.cmpi .sle S.n 0#32))

/-- The attention's data of row `b`, whose length is read as `n`. -/
def attOf (score msk : F .f32) (L : Fin 2 → Row F) (b : Fin 2) (n : BitVec 32) : Att F where
  score := score
  msk := msk
  lane := lane128
  key := keyIx
  query := queryIx
  n := n
  ks := kup (L b).n (L b).k
  qs := fun j h => qup (L b).n j ((L b).x j h)
  vs := up64 (vmax (L b).n (L b).v)

/-- The queries' means as the product takes them. -/
abbrev means16 (L : Fin 2 → Row F) : FVec F S64x128 .bf16 := truncf .bf16 (means L) (by decide)

/-- The attention of both rows. -/
def attend (score msk : F .f32) (L : Fin 2 → Row F) : Cmd F PUnit := do
  let n0 ← Cmd.len (rLen 0) (one_rLen 0)
  let kt ← Cmd.load .kt (rKt 0) (h_rKt 0)
  Cmd.each [0, 1, 2, 3, 4, 5, 6] (putCorr score 0 (corrAll (means16 L) kt) (kup (L 0).n (L 0).k))
  let _ ← Cmd.load .corr (rCorr 0 7) (h_rCorr 0 7)
  let _ ← Cmd.scope (cut1 (attOf score msk L 0 n0) (corrAll (means16 L) kt)
    (shapeCast S1x64x128 (corrOf score (corrAll (means16 L) kt) (kup (L 0).n (L 0).k) 7) (by decide)))
  let _ ← Cmd.scope (cut2 (attOf score msk L 0 n0) 0 640#32)
  let t ← Cmd.scope (cut3 score n0 (means16 L) (kup (L 1).n (L 1).k))
  Cmd.put .corr (rCorr 1 3) (shapeCast S1x64x128 t.2.2 (by decide)) (h_rCorr 1 3) (p_rCorr 1 3)
  Cmd.each [4, 5, 6, 7] (putCorr score 1 t.2.1 (kup (L 1).n (L 1).k))
  let _ ← Cmd.scope (cut4 (attOf score msk L 1 t.1) t.2.1 (extractStridedSlice S64x128 ![512, 0] t.2.1 (by decide)))
  let _ ← Cmd.scope (cut2 (attOf score msk L 1 t.1) 1 (Scalar.extui (Scalar.cmpi .sle t.1 640#32)))
  Cmd.scope (rest t.1 1 5)

/-- The first grid point. -/
abbrev first (kv : BitVec 32) : Prop := Scalar.cmpi .ne (Scalar.extui (Scalar.cmpi .eq kv 0#32)) 0#32 = 1#1

/-- The body after its first condition. -/
def mainPart (score msk : F .f32) (kv : BitVec 32) : Cmd F PUnit := do
  let L ← Cmd.tab 2 row
  gather kv L
  attend score msk L

/-- The whole body. -/
def body (score msk : F .f32) (kv : BitVec 32) : Cmd F PUnit :=
  if first kv then Cmd.bind (Cmd.put .qs rQsAll (cst S6x2x45 0x00000000#32) h_rQsAll p_rQsAll) fun _ => mainPart score msk kv
  else mainPart score msk kv

end
end Cert.Proof
end
-- ==== Proof.EqKI.lean ====
module
public import proofs.«01_k».proof.KernelIdeal
public import proofs.«01_k».proof.Proof.Body
public import Idealize.ShloMosaic.Lib.Tactic

@[expose] public section

/-!
# The printed body is the loops

The body the printer prints for `KernelIdeal` and the program `body` stands for are one term.
-/

noncomputable section
namespace Cert.Proof.KI

open Cert.KernelIdeal
open Idealize.ShloMosaic Idealize.SL.Sem
open Idealize.ShloMosaic.TcCoe Idealize.ShloMosaic.Tactic

variable {F : FTy → Type} [FloatOps F] [Named F] [Facts]

/-- The body's references, by name. -/
def refs (M1 : Memref sig .tc .smem S2 .i32) (M2 : Memref sig .tc .vmem S2x320x768 .bf16) (M3 : Memref sig .tc .vmem S2x64x768 .bf16) (M4 : Memref sig .tc .vmem S2x64x768 .bf16) (M5 : Memref sig .tc .vmem S2x320x768 .bf16) (M6 : Memref sig .tc .vmem S2x5x64x768 .fp8e4m3) (M7 : Memref sig .tc .vmem S6x2x45 .f32) (M8 : Memref sig .tc .vmem S6x5x2x64 .bf16) (M9 : Memref sig .tc .vmem S2x1x64x768 .fp8e4m3) (M10 : Memref sig .tc .vmem S1x2x12 .f32) (M11 : Memref sig .tc .vmem S1x2x64 .bf16) (M12 : Memref sig .tc .vmem S2x1x64x768 .fp8e4m3) (M13 : Memref sig .tc .vmem S1x2x64 .f32) (M14 : Memref sig .tc .vmem S2x768x64 .fp8e4m3) (M15 : Memref sig .tc .vmem S2x768x128 .f32) (M16 : Memref sig .tc .vmem S5x768x128 .f32) : Ms sig where
  tb := M1
  inp := fun | .x => M2 | .k => M3 | .v => M4
  m := fun | .out => M5 | .qc => M6 | .qs => M7 | .mq => M8 | .kc => M9 | .ks => M10 | .mk => M11 | .vc => M12 | .vs => M13 | .kt => M14 | .corr => M15 | .w => M16

theorem refs_whole (M1 : Memref sig .tc .smem S2 .i32) (M2 : Memref sig .tc .vmem S2x320x768 .bf16) (M3 : Memref sig .tc .vmem S2x64x768 .bf16) (M4 : Memref sig .tc .vmem S2x64x768 .bf16) (M5 : Memref sig .tc .vmem S2x320x768 .bf16) (M6 : Memref sig .tc .vmem S2x5x64x768 .fp8e4m3) (M7 : Memref sig .tc .vmem S6x2x45 .f32) (M8 : Memref sig .tc .vmem S6x5x2x64 .bf16) (M9 : Memref sig .tc .vmem S2x1x64x768 .fp8e4m3) (M10 : Memref sig .tc .vmem S1x2x12 .f32) (M11 : Memref sig .tc .vmem S1x2x64 .bf16) (M12 : Memref sig .tc .vmem S2x1x64x768 .fp8e4m3) (M13 : Memref sig .tc .vmem S1x2x64 .f32) (M14 : Memref sig .tc .vmem S2x768x64 .fp8e4m3) (M15 : Memref sig .tc .vmem S2x768x128 .f32) (M16 : Memref sig .tc .vmem S5x768x128 .f32)
    (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole)  :
    (refs M1 M2 M3 M4 M5 M6 M7 M8 M9 M10 M11 M12 M13 M14 M15 M16 ).Whole where
  tb := h1
  inp := fun | .x => h2 | .k => h3 | .v => h4
  m := fun | .out => h5 | .qc => h6 | .qs => h7 | .mq => h8 | .kc => h9 | .ks => h10 | .mk => h11 | .vc => h12 | .vs => h13 | .kt => h14 | .corr => h15 | .w => h16

/-- The body at its two constants. -/
abbrev bodyAt (kv : BitVec 32) : Cmd F PUnit := body (Named.named κ "score" 0x3E38AA3B#32) (Named.named κ "masked" 0xF149F2CA#32) kv

theorem printed_eq (i : grid0.Coords) (M1 : Memref sig .tc .smem S2 .i32) (M2 : Memref sig .tc .vmem S2x320x768 .bf16) (M3 : Memref sig .tc .vmem S2x64x768 .bf16) (M4 : Memref sig .tc .vmem S2x64x768 .bf16) (M5 : Memref sig .tc .vmem S2x320x768 .bf16) (M6 : Memref sig .tc .vmem S2x5x64x768 .fp8e4m3) (M7 : Memref sig .tc .vmem S6x2x45 .f32) (M8 : Memref sig .tc .vmem S6x5x2x64 .bf16) (M9 : Memref sig .tc .vmem S2x1x64x768 .fp8e4m3) (M10 : Memref sig .tc .vmem S1x2x12 .f32) (M11 : Memref sig .tc .vmem S1x2x64 .bf16) (M12 : Memref sig .tc .vmem S2x1x64x768 .fp8e4m3) (M13 : Memref sig .tc .vmem S1x2x64 .f32) (M14 : Memref sig .tc .vmem S2x768x64 .fp8e4m3) (M15 : Memref sig .tc .vmem S2x768x128 .f32) (M16 : Memref sig .tc .vmem S5x768x128 .f32)
    (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole)  :
    (cc0_sage_attention i M1 h1 M2 h2 M3 h3 M4 h4 M5 h5 M6 h6 M7 h7 M8 h8 M9 h9 M10 h10 M11 h11 M12 h12 M13 h13 M14 h14 M15 h15 M16 h16  : Prog (TpuEff nD τ sig (Elt F) Λ₀ .tc) PUnit) =
      denote (refs M1 M2 M3 M4 M5 M6 M7 M8 M9 M10 M11 M12 M13 M14 M15 M16 ) (refs_whole M1 M2 M3 M4 M5 M6 M7 M8 M9 M10 M11 M12 M13 M14 M15 M16  h1 h2 h3 h4 h5 h6 h7 h8 h9 h10 h11 h12 h13 h14 h15 h16 ) (bodyAt (BitVec.ofNat 32 (i 0).val)) := by
  by_cases h : first (BitVec.ofNat 32 (i 0).val)
  · delta cc0_sage_attention k0_part480 k0_part325 bodyAt body
    dsimp -proj only
    rw [if_pos h, dif_pos h]
    sl_kernel_rfl
  · delta cc0_sage_attention k0_part480 k0_part325 bodyAt body
    dsimp -proj only
    rw [if_neg h, dif_neg h]
    sl_kernel_rfl

end Cert.Proof.KI
end
-- ==== Proof.Sem.lean ====
module
public import proofs.«01_k».proof.Proof.Cmd

@[expose] public section

/-!
# What a program does to the buffers' contents

`run` is what a `Cmd` computes over the contents of its buffers. A body never stores two different values at one
place, so a run is described by the contents it aims at (`T`) and the places that hold them already (a `Dom`):
`Does T c a P e` says that `c`, run where the places `P` agree with `T`, returns `a`, makes the places `e` agree and
disturbs no agreement.
-/

noncomputable section
namespace Cert.Proof

open Cert.KernelIdeal
open Idealize.ShloMosaic Idealize.SL.Sem
open Idealize.ShloMosaic.TcCoe

variable {F : FTy → Type}

/-- What a body only reads: the prefetched lengths and the blocks of x, k and v. -/
structure Env (F : FTy → Type) where
  tb : S2.Idx → Elt F .i32
  inp : (r : Rin) → r.shape.Idx → Elt F .bf16

/-- The contents of the buffers a body writes. -/
abbrev St (F : FTy → Type) : Type := (r : Rf) → r.shape.Idx → Elt F r.elt

open Classical in
/-- Contents after a store of `w` at `R`. -/
def upd {s : Shape} {α : Type} (R : Rect s) (w : R.shape.Idx → α) (X : s.Idx → α) : s.Idx → α :=
  fun x => if h : ∃ y, R.emb y = x then w h.choose else X x

theorem upd_emb {s : Shape} {α : Type} (R : Rect s) (w : R.shape.Idx → α) (X : s.Idx → α) (y : R.shape.Idx) :
    upd R w X (R.emb y) = w y := by
  have h : ∃ y', R.emb y' = R.emb y := ⟨y, rfl⟩
  rw [upd, dif_pos h, R.emb.injective h.choose_spec]

theorem upd_of_not {s : Shape} {α : Type} (R : Rect s) (w : R.shape.Idx → α) (X : s.Idx → α) (x : s.Idx)
    (h : ¬ ∃ y, R.emb y = x) : upd R w X x = X x := by
  rw [upd, dif_neg h]

/-- The contents after a store to one buffer. -/
def St.set (σ : St F) (r : Rf) (X : r.shape.Idx → Elt F r.elt) : St F := Function.update σ r X

/-- What a program returns and leaves, from the contents `σ`. -/
def run (ρ : Env F) {α : Type} (c : Cmd F α) : St F → α × St F :=
  Cmd.rec (motive := fun α _ => St F → α × St F)
    (fun a σ => (a, σ))
    (fun _ _ ihc ihf σ => ihf (ihc σ).1 (ihc σ).2)
    (fun R h σ => (ρ.tb (R.emb (Shape.Idx.first (h.symm ▸ Nat.one_pos))), σ))
    (fun r R _ σ => (fun y => ρ.inp r (R.emb y), σ))
    (fun r R _ σ => (fun y => σ r (R.emb y), σ))
    (fun r R w _ _ σ => (⟨⟩, σ.set r (upd R w (σ r))))
    (fun p d _ _ ihc ihe σ => @ite _ p d (ihc σ) (ihe σ))
    (fun _ ih σ => ih σ) c

/-- Places, by buffer. -/
abbrev Dom : Type := (r : Rf) → Set r.shape.Idx

/-- The contents agree with `T` at the places `D`. -/
def Ag (T : St F) (D : Dom) (σ : St F) : Prop := ∀ r x, x ∈ D r → σ r x = T r x

/-- See the module's comment. -/
def Does (ρ : Env F) (T : St F) {α : Type} (c : Cmd F α) (a : α) (P e : Dom) : Prop :=
  ∀ (D : Dom) (σ : St F), P ≤ D → Ag T D σ → (run ρ c σ).1 = a ∧ Ag T (D ⊔ e) (run ρ c σ).2

/-- The places of one rectangle of one buffer. -/
def onRect (r : Rf) (R : Rect r.shape) : Dom := Function.update ⊥ r {x | ∃ y, R.emb y = x}

section
variable {ρ : Env F} {T : St F} {α β : Type} {P e e' : Dom}

theorem Ag.mono {D D' : Dom} {σ : St F} (h : Ag T D' σ) (hD : D ≤ D') : Ag T D σ := fun r x hx => h r x (hD r hx)

theorem Does.weaken {c : Cmd F α} {a : α} {P' : Dom} (h : Does ρ T c a P e) (hP : P ≤ P') (he : e' ≤ e) : Does ρ T c a P' e' :=
  fun D σ hD hσ => ⟨(h D σ (hP.trans hD) hσ).1, (h D σ (hP.trans hD) hσ).2.mono (sup_le_sup_left he D)⟩

theorem Does.pre {c : Cmd F α} {a : α} {P' : Dom} (h : Does ρ T c a P e) (hP : P ≤ P') : Does ρ T c a P' e := h.weaken hP le_rfl

theorem Does.ret (a : α) : Does ρ T (Cmd.ret a) a P ⊥ :=
  fun D σ _ hσ => ⟨rfl, hσ.mono (sup_le le_rfl bot_le)⟩

theorem Does.bind {c : Cmd F α} {f : α → Cmd F β} {a : α} {b : β} (hc : Does ρ T c a P e)
    (hf : Does ρ T (f a) b (P ⊔ e) e') : Does ρ T (Cmd.bind c f) b P (e ⊔ e') := by
  intro D σ hD hσ
  obtain ⟨h1, h2⟩ := hc D σ hD hσ
  obtain ⟨h3, h4⟩ := hf (D ⊔ e) (run ρ c σ).2 (sup_le_sup_right hD e) h2
  have hr : run ρ (Cmd.bind c f) σ = run ρ (f (run ρ c σ).1) (run ρ c σ).2 := rfl
  rw [hr, h1]
  exact ⟨h3, h4.mono (by rw [sup_assoc])⟩

theorem Does.len (R : Rect S2) (h : R.shape.numel = 1) :
    Does ρ T (Cmd.len R h) (ρ.tb (R.emb (Shape.Idx.first (h.symm ▸ Nat.one_pos)))) P ⊥ :=
  fun _ _ _ hσ => ⟨rfl, hσ.mono (sup_le le_rfl bot_le)⟩

theorem Does.rload (r : Rin) (R : Rect r.shape) (h : 0 < R.shape.numel) :
    Does ρ T (Cmd.rload r R h) (fun y => ρ.inp r (R.emb y)) P ⊥ :=
  fun _ _ _ hσ => ⟨rfl, hσ.mono (sup_le le_rfl bot_le)⟩

theorem Does.load (r : Rf) (R : Rect r.shape) (h : 0 < R.shape.numel) (hP : ∀ y, R.emb y ∈ P r) :
    Does ρ T (Cmd.load r R h) (fun y => T r (R.emb y)) P ⊥ :=
  fun _ σ hD hσ => ⟨funext fun y => hσ r _ (hD r (hP y)), hσ.mono (sup_le le_rfl bot_le)⟩

/-- A load whose value is thrown away. -/
theorem Does.skip (r : Rf) (R : Rect r.shape) (h : 0 < R.shape.numel) {f : (R.shape.Idx → Elt F r.elt) → Cmd F β} {b : β}
    (hf : ∀ x, Does ρ T (f x) b P e) : Does ρ T (Cmd.bind (Cmd.load r R h) f) b P e :=
  fun D σ hD hσ => hf _ D σ hD hσ

theorem Does.store (r : Rf) (R : Rect r.shape) (w : R.shape.Idx → Elt F r.elt) (h : 0 < R.shape.numel)
    (hp : R.PackedRows r.elt.packing) (hw : ∀ y, w y = T r (R.emb y)) :
    Does ρ T (Cmd.store r R w h hp) ⟨⟩ P (onRect r R) := by
  intro D σ hD hσ
  refine ⟨rfl, fun r' x hx => ?_⟩
  show Function.update σ r (upd R w (σ r)) r' x = T r' x
  by_cases hr : r' = r
  · subst hr
    rw [Function.update_self]
    by_cases hy : ∃ y, R.emb y = x
    · obtain ⟨y, rfl⟩ := hy
      rw [upd_emb, hw]
    · rw [upd_of_not _ _ _ _ hy]
      rcases hx with hx | hx
      · exact hσ r' x hx
      · rw [onRect, Function.update_self] at hx
        exact absurd hx hy
  · rw [Function.update_of_ne hr]
    rcases hx with hx | hx
    · exact hσ r' x hx
    · rw [onRect, Function.update_of_ne hr] at hx
      exact absurd hx (Set.notMem_empty x)

theorem Does.put (r : Rf) (R : Rect r.shape) (w : R.shape.Idx → Elt F r.elt) (h : 0 < R.shape.numel)
    (hp : R.PackedRows r.elt.packing) (hw : ∀ y, w y = T r (R.emb y)) :
    Does ρ T (Cmd.put r R w h hp) ⟨⟩ P (onRect r R) :=
  Does.skip r R h fun _ => Does.store r R w h hp hw

theorem Does.ite {p : Prop} {d : Decidable p} {c c' : Cmd F PUnit} (h : p → Does ρ T c ⟨⟩ P e) (h' : ¬ p → Does ρ T c' ⟨⟩ P ⊥) :
    Does ρ T (Cmd.ite p d c c') ⟨⟩ P (fun r => {x | p ∧ x ∈ e r}) := by
  intro D σ hD hσ
  have hr : run ρ (Cmd.ite p d c c') σ = @_root_.ite _ p d (run ρ c σ) (run ρ c' σ) := rfl
  rw [hr]
  by_cases hp : p
  · rw [if_pos hp]
    refine ⟨rfl, ((h hp D σ hD hσ).2).mono (sup_le_sup_left (fun r x hx => hx.2) D)⟩
  · rw [if_neg hp]
    exact ⟨rfl, ((h' hp D σ hD hσ).2).mono (sup_le_sup_left (fun r x hx => absurd hx.1 hp) D)⟩

theorem Does.scope {c : Cmd F α} {a : α} (h : Does ρ T c a P e) : Does ρ T (Cmd.scope c) a P e := h

theorem Does.each {ι : Type} (l : List ι) (f : ι → Cmd F PUnit) (E : ι → Dom) (h : ∀ i ∈ l, Does ρ T (f i) ⟨⟩ P (E i)) :
    Does ρ T (Cmd.each l f) ⟨⟩ P (⨆ i ∈ l, E i) := by
  induction l generalizing P with
  | nil => exact (Does.ret _).weaken le_rfl (iSup₂_le fun i hi => absurd hi List.not_mem_nil)
  | cons i l ih =>
    refine (Does.bind (e' := ⨆ i ∈ l, E i) (h i List.mem_cons_self) (ih fun k hk => (h k (List.mem_cons_of_mem i hk)).pre le_sup_left)).weaken le_rfl ?_
    refine iSup₂_le fun k hk => ?_
    rcases List.mem_cons.mp hk with rfl | hk
    · exact le_sup_left
    · exact (le_iSup₂ (f := fun i (_ : i ∈ l) => E i) k hk).trans le_sup_right

theorem Does.fold {ι : Type} (l : List ι) (f : β → ι → Cmd F β) (g : β → ι → β) (E : ι → Dom) (b : β)
    (h : ∀ b, ∀ i ∈ l, Does ρ T (f b i) (g b i) P (E i)) :
    Does ρ T (Cmd.fold l f b) (l.foldl g b) P (⨆ i ∈ l, E i) := by
  induction l generalizing P b with
  | nil => exact (Does.ret _).weaken le_rfl (iSup₂_le fun i hi => absurd hi List.not_mem_nil)
  | cons i l ih =>
    refine (Does.bind (e' := ⨆ i ∈ l, E i) (h b i List.mem_cons_self) (ih _ fun b k hk => (h b k (List.mem_cons_of_mem i hk)).pre le_sup_left)).weaken le_rfl ?_
    refine iSup₂_le fun k hk => ?_
    rcases List.mem_cons.mp hk with rfl | hk
    · exact le_sup_left
    · exact (le_iSup₂ (f := fun i (_ : i ∈ l) => E i) k hk).trans le_sup_right

theorem fcons_zero {n : Nat} (v : Fin (n + 1) → α) : fcons (v 0) (fun i => v i.succ) = v := by
  funext i
  rcases i with ⟨_ | i, hi⟩ <;> rfl

theorem Does.tab (n : Nat) (f : Fin n → Cmd F α) (v : Fin n → α) (E : Fin n → Dom) (h : ∀ i, Does ρ T (f i) (v i) P (E i)) :
    Does ρ T (Cmd.tab n f) v P (⨆ i, E i) := by
  induction n generalizing P with
  | zero =>
    have : v = fun i => i.elim0 := funext fun i => i.elim0
    rw [this]
    exact (Does.ret _).weaken le_rfl (iSup_le fun i => i.elim0)
  | succ n ih =>
    have h1 := Does.bind (e' := (⨆ i : Fin n, E i.succ) ⊔ ⊥) (h 0)
      (f := fun a => .bind (Cmd.tab n fun i => f i.succ) fun t => .ret (fcons a t)) (b := v)
      (Does.bind (ih (fun i => f i.succ) (fun i => v i.succ) (fun i => E i.succ) fun i => (h i.succ).pre le_sup_left)
        (by have := Does.ret (ρ := ρ) (T := T) (P := P ⊔ E 0 ⊔ ⨆ i : Fin n, E i.succ) (fcons (v 0) fun i => v i.succ)
            rwa [fcons_zero] at this ⊢))
    refine h1.weaken le_rfl (iSup_le fun i => ?_)
    rcases i with ⟨_ | i, hi⟩
    · exact le_sup_left
    · exact ((le_iSup (fun i : Fin n => E i.succ) ⟨i, Nat.lt_of_succ_lt_succ hi⟩).trans le_sup_left).trans le_sup_right

end

/-! ## Contents by tiles -/

/-- The contents made of tiles of sizes `sz`: tile number `q` holds `W q`. -/
def tile {s : Shape} {α : Type} (sz : Fin s.rank → Nat) (hsz : ∀ a, 0 < sz a) (W : (Fin s.rank → Nat) → (⟨s.rank, sz⟩ : Shape).Idx → α) : s.Idx → α :=
  fun x => W (fun a => (x a).val / sz a) (fun a => ⟨(x a).val % sz a, Nat.mod_lt _ (hsz a)⟩)

theorem unit_emb_val {s : Shape} {off sz : Fin s.rank → Nat} (inb : ∀ a, off a + sz a ≤ s.size a)
    (y : (Rect.unit (s := s) off sz inb).shape.Idx) (a : Fin s.rank) : ((Rect.unit off sz inb).emb y a).val = off a + (y a).val := by
  show off a + 1 * (y a).val = _
  rw [Nat.one_mul]

/-- At an element of a tile it is the tile's. -/
theorem tile_emb {s : Shape} {α : Type} {sz : Fin s.rank → Nat} (hsz : ∀ a, 0 < sz a) (W : (Fin s.rank → Nat) → (⟨s.rank, sz⟩ : Shape).Idx → α)
    {off : Fin s.rank → Nat} (inb : ∀ a, off a + sz a ≤ s.size a) (q : Fin s.rank → Nat) (hq : ∀ a, off a = q a * sz a)
    (y : (Rect.unit (s := s) off sz inb).shape.Idx) : tile sz hsz W ((Rect.unit off sz inb).emb y) = W q y := by
  have hy : ∀ a, (y a).val < sz a := fun a => (y a).isLt
  have h1 : (fun a => ((Rect.unit off sz inb).emb y a).val / sz a) = q := funext fun a => by
    rw [unit_emb_val, hq, Nat.mul_comm, Nat.mul_add_div (hsz a), Nat.div_eq_of_lt (hy a), Nat.add_zero]
  have h2 : (fun a => (⟨((Rect.unit off sz inb).emb y a).val % sz a, Nat.mod_lt _ (hsz a)⟩ : Fin (sz a))) = y := funext fun a => Fin.ext <| by
    show ((Rect.unit off sz inb).emb y a).val % sz a = (y a).val
    rw [unit_emb_val, hq, Nat.mul_comm, Nat.mul_add_mod, Nat.mod_eq_of_lt (hy a)]
  unfold tile
  rw [h1]
  exact congrArg (W q) h2

/-- An element is in the unit rectangle whose bounds it is within. -/
theorem mem_unit {s : Shape} {off sz : Fin s.rank → Nat} (inb : ∀ a, off a + sz a ≤ s.size a) (x : s.Idx)
    (h : ∀ a, off a ≤ (x a).val ∧ (x a).val < off a + sz a) : ∃ y, (Rect.unit off sz inb).emb y = x :=
  ⟨fun a => ⟨(x a).val - off a, by have := h a; show _ < sz a; omega⟩, funext fun a => Fin.ext <| by
    rw [unit_emb_val]
    show off a + ((x a).val - off a) = (x a).val
    have := h a; omega⟩

end Cert.Proof
end
-- ==== Proof.Sound.lean ====
module
public import proofs.«01_k».proof.Proof.Sem
public import Idealize.ShloMosaic.Lib.Tactic
public import Idealize.ShloMosaic.Lib.WholeRead
public import Idealize.ShloMosaic.Lib.Pipeline.Frame

@[expose] public section

/-!
# A program's run on the machine is its run on the contents

`sound`: from the buffers at contents `σ`, the program a `Cmd` stands for runs without fault and leaves the buffers at
what `run` says.
-/

noncomputable section
namespace Cert.Proof

open Cert.KernelIdeal
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} {nD : Nat} {τ : Topo} {sig : RefSig}
variable {Ix : Type} [DecidableEq Ix] {Name : Type} [DecidableEq Name] {U : Type} [URA U] {Lvl : Type} [Preorder Lvl]
variable {Λ : Labels} {defs : Defs nD τ sig (Elt F) Λ} (𝒱 : Variants)

local notation "𝕄" => MT nD τ sig Ix (Elt F) Name U Lvl

instance : Fintype Rin := ⟨{.x, .k, .v}, fun r => by cases r <;> decide⟩
instance : Fintype Rf := ⟨{.out, .qc, .qs, .mq, .kc, .ks, .mk, .vc, .vs, .kt, .corr, .w}, fun r => by cases r <;> decide⟩

theorem bigSep_Rin {M : Type} [URA M] (Φ : Rin → sProp M) : bigSep Finset.univ Φ = iprop(Φ .x ∗ Φ .k ∗ Φ .v) :=
  bigSep_univ_eq_bigSepL [Rin.x, Rin.k, Rin.v] (by decide) (by decide) Φ
theorem bigSep_Rf {M : Type} [URA M] (Φ : Rf → sProp M) : bigSep Finset.univ Φ = iprop(Φ .out ∗ Φ .qc ∗ Φ .qs ∗ Φ .mq ∗ Φ .kc ∗ Φ .ks ∗ Φ .mk ∗ Φ .vc ∗ Φ .vs ∗ Φ .kt ∗ Φ .corr ∗ Φ .w) :=
  bigSep_univ_eq_bigSepL [Rf.out, Rf.qc, Rf.qs, Rf.mq, Rf.kc, Rf.ks, Rf.mk, Rf.vc, Rf.vs, Rf.kt, Rf.corr, Rf.w] (by decide) (by decide) Φ

variable (A : Ms sig) (hA : A.Whole) (c : Dev nD) (q : PosShare TreeShare)

/-- The lengths' buffer. -/
def ownT (t : S2.Idx → Elt F .i32) : sProp 𝕄 := A.tb.view.loc (c : Thread nD τ) ↦{q} hA.tb.unread t
/-- A buffer the body reads. -/
def ownI (r : Rin) (X : r.shape.Idx → Elt F .bf16) : sProp 𝕄 := (A.inp r).view.loc (c : Thread nD τ) ↦{fullShare} (hA.inp r).unread X
/-- A buffer it writes. -/
def ownM (r : Rf) (X : r.shape.Idx → Elt F r.elt) : sProp 𝕄 := (A.m r).view.loc (c : Thread nD τ) ↦{fullShare} (hA.m r).unread X

/-- All of them. -/
def mem (ρ : Env F) (σ : St F) : sProp 𝕄 :=
  iprop(ownT A hA c q ρ.tb ∗ bigSep Finset.univ (fun r => ownI A hA c r (ρ.inp r)) ∗ bigSep Finset.univ (fun r => ownM A hA c r (σ r)))

variable {A c q}

/-- One of a family's assertions, taken out. -/
theorem split_at {I : Type} [Fintype I] [DecidableEq I] (i : I) {Φ : I → sProp 𝕄} :
    bigSep Finset.univ Φ = iprop(Φ i ∗ bigSep (Finset.univ.erase i) Φ) := bigSep_univ_split i

theorem mem_tb (ρ : Env F) (σ : St F) :
    (mem A hA c q ρ σ : sProp 𝕄) ⊢ iprop(ownT A hA c q ρ.tb ∗ (ownT A hA c q ρ.tb -∗ mem A hA c q ρ σ)) := by
  unfold mem
  iintro ⟨H1, H2, H3⟩
  isplitl [H1]; · iexact H1
  iintro H1
  isplitl [H1]; · iexact H1
  isplitl [H2] <;> iassumption

theorem mem_inp (ρ : Env F) (σ : St F) (r : Rin) :
    (mem A hA c q ρ σ : sProp 𝕄) ⊢ iprop(ownI A hA c r (ρ.inp r) ∗ (ownI A hA c r (ρ.inp r) -∗ mem A hA c q ρ σ)) := by
  unfold mem
  rw [split_at r]
  iintro ⟨H1, ⟨H2, H4⟩, H3⟩
  isplitl [H2]; · iexact H2
  iintro H2
  isplitl [H1]; · iexact H1
  isplitl [H2 H4]
  · isplitl [H2] <;> iassumption
  iexact H3

theorem mem_m (ρ : Env F) (σ : St F) (r : Rf) :
    (mem A hA c q ρ σ : sProp 𝕄) ⊢ iprop(ownM A hA c r (σ r) ∗ (∀ X, ownM A hA c r X -∗ mem A hA c q ρ (σ.set r X))) := by
  unfold mem
  rw [split_at (I := Rf) r]
  iintro ⟨H1, H2, H3, H4⟩
  isplitl [H3]; · iexact H3
  iintro %X H3
  have e : (bigSep Finset.univ (fun r' => ownM A hA c r' (σ.set r X r')) : sProp 𝕄)
      = iprop(ownM A hA c r X ∗ bigSep (Finset.univ.erase r) (fun r' => ownM A hA c r' (σ r'))) := by
    rw [split_at r]
    congr 1
    · rw [St.set, Function.update_self]
    · refine bigSep_congr fun r' hr' => ?_
      rw [St.set, Function.update_of_ne (Finset.ne_of_mem_erase hr')]
  rw [e]
  isplitl [H1]; · iexact H1
  isplitl [H2]; · iexact H2
  isplitl [H3] <;> iassumption

theorem set_self (σ : St F) (r : Rf) : σ.set r (σ r) = σ := Function.update_eq_self r σ

/-- A write at a rectangle of a whole buffer is `upd`. -/
theorem write_unread {s : Shape} {e : EltTy} {sp : Space} {κ : Kind} {M : Memref sig κ sp s e} (h : M.IsWhole) (R : Rect s) (X : s.Idx → Elt F e) (w : R.shape.Idx → Elt F e) :
    (M.access R).write (Elt F) (h.unread X) w Finset.univ = h.unread (upd R w X) := by
  apply h.eq_unread
  funext x
  by_cases hx : ∃ y, R.emb y = x
  · obtain ⟨y, rfl⟩ := hx
    rw [upd_emb]
    exact View.read_slice_write_emb (v := M.view) R _ w (Finset.mem_univ y)
  · rw [upd_of_not _ _ _ _ hx]
    refine (View.read_slice_write_of_not_mem (v := M.view) R _ w _ ?_).trans (congrFun (h.read_unread X) x)
    intro hm
    obtain ⟨y, -, hy⟩ := Finset.mem_map.mp hm
    exact hx ⟨y, hy⟩

theorem sound (ρ : Env F) {α : Type} (p : Cmd F α) : ∀ (σ : St F) (E : Set Name) (Q : α → sProp 𝕄),
    mem A hA c q ρ σ ⊢ iprop((mem A hA c q ρ (run ρ p σ).2 -∗ Q (run ρ p σ).1)
      -∗ wp frame (wpE defs 𝒱 (c : Thread nD τ) none) E (denote A hA p) Q) := by
  induction p with
  | ret a =>
    intro σ E Q
    show mem A hA c q ρ σ ⊢ iprop((mem A hA c q ρ σ -∗ Q a) -∗ wp frame (wpE defs 𝒱 (c : Thread nD τ) none) E (denote A hA (.ret a)) Q)
    rw [show denote A hA (Cmd.ret (F := F) a) = (.ret a : Prog (TpuEff nD τ sig (Elt F) Λ .tc) _) from rfl, wp_ret]
    iintro H HQ
    imodintro
    iapply HQ $$ H
  | bind p f ihp ihf =>
    intro σ E Q
    iintro H HQ
    iapply (Entails.of_eq (wp_bind frame (wpE defs 𝒱 (c : Thread nD τ) none) E (denote A hA p) (fun a => denote A hA (f a)) Q).symm)
    iapply (ihp σ E (fun a => wp frame (wpE defs 𝒱 (c : Thread nD τ) none) E (denote A hA (f a)) Q)) $$ H
    iintro H
    iapply (ihf (run ρ p σ).1 (run ρ p σ).2 E Q) $$ H
    iexact HQ
  | len R h =>
    intro σ E Q
    show mem A hA c q ρ σ ⊢ iprop((mem A hA c q ρ σ -∗ Q (ρ.tb (R.emb (Shape.Idx.first (h.symm ▸ Nat.one_pos))))) -∗ wp frame (wpE defs 𝒱 (c : Thread nD τ) none) E (denote A hA (.len R h)) Q)
    iintro H HQ
    ihave H := (mem_tb hA ρ σ) $$ H
    icases H with ⟨H, Hc⟩
    have hw : (A.tb.access R).Loads := View.loads_smem_one rfl h
    unfold ownT
    iapply (wp_smemLoadElt (defs := defs) 𝒱 (c : Thread nD τ) none E (m := A.tb) (r := R) (hw := hw) (x := Shape.Idx.first (h.symm ▸ Nat.one_pos)) (k := .ret) (S := Finset.univ) (Finset.subset_univ _)) $$ H
    iintro H
    rw [wp_ret]
    imodintro
    ispecialize Hc $$ H
    ispecialize HQ $$ Hc
    rw [show (A.tb.access R).read (Elt F) (hA.tb.unread ρ.tb) (Shape.Idx.first (h.symm ▸ Nat.one_pos)) = ρ.tb (R.emb (Shape.Idx.first (h.symm ▸ Nat.one_pos))) from congrFun (hA.tb.read_unread ρ.tb) _]
    iexact HQ
  | rload r R h =>
    intro σ E Q
    show mem A hA c q ρ σ ⊢ iprop((mem A hA c q ρ σ -∗ Q (fun y => ρ.inp r (R.emb y))) -∗ wp frame (wpE defs 𝒱 (c : Thread nD τ) none) E (denote A hA (.rload r R h)) Q)
    iintro H HQ
    ihave H := (mem_inp hA ρ σ r) $$ H
    icases H with ⟨H, Hc⟩
    unfold ownI
    iapply (wp_load (defs := defs) 𝒱 (c : Thread nD τ) none E (S := Finset.univ) (Finset.subset_univ _)) $$ H
    iintro H
    rw [wp_ret]
    imodintro
    ispecialize Hc $$ H
    ispecialize HQ $$ Hc
    rw [show View.readAt (Elt F) (A.inp r).view R.toLoadRect ((hA.inp r).unread (ρ.inp r)) = fun y => ρ.inp r (R.emb y) from funext fun x => (hA.inp r).readAt_unread _ _ _]
    iexact HQ
  | load r R h =>
    intro σ E Q
    show mem A hA c q ρ σ ⊢ iprop((mem A hA c q ρ σ -∗ Q (fun y => σ r (R.emb y))) -∗ wp frame (wpE defs 𝒱 (c : Thread nD τ) none) E (denote A hA (.load r R h)) Q)
    iintro H HQ
    ihave H := (mem_m hA ρ σ r) $$ H
    icases H with ⟨H, Hc⟩
    unfold ownM
    iapply (wp_load (defs := defs) 𝒱 (c : Thread nD τ) none E (S := Finset.univ) (Finset.subset_univ _)) $$ H
    iintro H
    rw [wp_ret]
    imodintro
    ispecialize Hc $$ %(σ r) H
    rw [set_self]
    ispecialize HQ $$ Hc
    rw [show View.readAt (Elt F) (A.m r).view R.toLoadRect ((hA.m r).unread (σ r)) = fun y => σ r (R.emb y) from funext fun x => (hA.m r).readAt_unread _ _ _]
    iexact HQ
  | store r R w h hp =>
    intro σ E Q
    show mem A hA c q ρ σ ⊢ iprop((mem A hA c q ρ (σ.set r (upd R w (σ r))) -∗ Q ⟨⟩) -∗ wp frame (wpE defs 𝒱 (c : Thread nD τ) none) E (denote A hA (.store r R w h hp)) Q)
    iintro H HQ
    ihave H := (mem_m hA ρ σ r) $$ H
    icases H with ⟨H, Hc⟩
    unfold ownM
    iapply (wp_store (defs := defs) 𝒱 (c : Thread nD τ) none E (m := A.m r) (r := R) (w := w) (Mk := Finset.univ) (S := Finset.univ) (Finset.subset_univ _)) $$ H
    iintro H
    rw [wp_ret, write_unread]
    imodintro
    ispecialize Hc $$ %(upd R w (σ r)) H
    ispecialize HQ $$ Hc
    iexact HQ
  | ite p d x y ihx ihy =>
    intro σ E Q
    cases d with
    | isTrue h => exact ihx σ E Q
    | isFalse h => exact ihy σ E Q
  | scope p ih =>
    intro σ E Q
    rw [show denote A hA (Cmd.scope p) = denoteK A hA p .ret from rfl, denoteK_eq,
      show Prog.bind (denote A hA p) .ret = denote A hA p from Prog.bind_pure _]
    exact ih σ E Q

section Owned

omit [Preorder Lvl] in
theorem set_of_whole {sp : Space} {sh : Shape} {e : EltTy} {M : Memref sig .tc sp sh e} (h : M.IsWhole) : M.view.set = Finset.univ := by
  obtain ⟨b, rfl, rfl, rfl, h⟩ := h
  cases eq_of_heq h
  exact View.set_whole _

theorem owns_unread {sp : Space} {sh : Shape} {e : EltTy} (c : Dev nD) (M : Memref sig .tc sp sh e) (h : M.IsWhole) (q : PosShare TreeShare) (X : sh.Idx → Elt F e) :
    (owns (c : Thread nD τ) M q X : sProp 𝕄) ⊢ (M.view.loc (c : Thread nD τ) ↦{q} h.unread X) := by
  unfold owns
  iintro ⟨%f, %hf, H⟩
  rw [h.eq_unread hf, set_of_whole h]
  iexact H

theorem unread_owns {sp : Space} {sh : Shape} {e : EltTy} (c : Dev nD) (M : Memref sig .tc sp sh e) (h : M.IsWhole) (q : PosShare TreeShare) (X : sh.Idx → Elt F e) :
    (M.view.loc (c : Thread nD τ) ↦{q} h.unread X : sProp 𝕄) ⊢ owns (c : Thread nD τ) M q X := by
  unfold owns
  iintro H
  iexists h.unread X
  isplitr
  · ipureintro; exact h.read_unread X
  rw [set_of_whole h]
  iexact H

theorem whole_owns (c : Dev nD) (b : Ref sig .tc) (q : PosShare TreeShare) (X : b.ty.Contents (Elt F)) :
    (((c : Thread nD τ).loc b) ↦{q} X : sProp 𝕄) ⊢ owns (c : Thread nD τ) (Memref.whole b) q X := by
  rw [owns_whole_eq]
  iintro H
  iexists X
  isplitr
  · ipureintro; rfl
  iexact H

theorem owns_whole (c : Dev nD) (b : Ref sig .tc) (q : PosShare TreeShare) (X : b.ty.Contents (Elt F)) :
    (owns (c : Thread nD τ) (Memref.whole b) q X : sProp 𝕄) ⊢ (((c : Thread nD τ).loc b) ↦{q} X) := by
  rw [owns_whole_eq]
  iintro ⟨%f, %hf, H⟩
  rw [← hf]
  iexact H

/-- All the buffers, by their references. -/
def owned (A : Ms sig) (c : Dev nD) (q : PosShare TreeShare) (ρ : Env F) (σ : St F) : sProp 𝕄 :=
  iprop(owns (c : Thread nD τ) A.tb q ρ.tb ∗ bigSep Finset.univ (fun r => owns (c : Thread nD τ) (A.inp r) fullShare (ρ.inp r)) ∗ bigSep Finset.univ (fun r => owns (c : Thread nD τ) (A.m r) fullShare (σ r)))

theorem owned_mem (A : Ms sig) (hA : A.Whole) (c : Dev nD) (q : PosShare TreeShare) (ρ : Env F) (σ : St F) : (owned A c q ρ σ : sProp 𝕄) ⊢ mem A hA c q ρ σ :=
  sep_mono (owns_unread c _ hA.tb _ _) (sep_mono (bigSep_mono fun r _ => owns_unread c _ (hA.inp r) _ _) (bigSep_mono fun r _ => owns_unread c _ (hA.m r) _ _))

theorem mem_owned (A : Ms sig) (hA : A.Whole) (c : Dev nD) (q : PosShare TreeShare) (ρ : Env F) (σ : St F) : (mem A hA c q ρ σ : sProp 𝕄) ⊢ owned A c q ρ σ :=
  sep_mono (unread_owns c _ hA.tb _ _) (sep_mono (bigSep_mono fun r _ => unread_owns c _ (hA.inp r) _ _) (bigSep_mono fun r _ => unread_owns c _ (hA.m r) _ _))

end Owned

end Cert.Proof
end
-- ==== Proof.LaunchKI.lean ====
module
public import proofs.«01_k».proof.Proof.EqKI
public import proofs.«01_k».proof.Proof.Sound
public import proofs.«01_k».proof.Proof.Gen.KernelIdeal.Launch

@[expose] public section

/-!
# Launch of `KernelIdeal`

Every run of the program ends with its output arrays written back block by block, each block being what `run` of the
body at that grid point leaves in the block's buffer, and with its arguments unchanged.
-/

noncomputable section
namespace Cert.Proof.KI

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [FloatOps F] [Named F]

local notation "UU" => UR sig nD τ
local notation "𝕄" => MT nD τ sig Unit (Elt F) ℕ UU ℕ

variable (m : (ℓ : Loc nD τ sig) → Buf (Elt F) ℓ)

/-- The memory at launch, on one device. -/
abbrev V₀ (c : Dev nD) : Valuation τ sig (Elt F) := fun b => m (c, b)
/-- The memory when the call begins: the host has written the three transposes. -/
abbrev V (c : Dev nD) : Valuation τ sig (Elt F) := StableHlo.after hostOps0 (V₀ m c)

/-- The lengths. -/
def tbl : pre0.Contents (Elt F) := fun k => m ((0 : Dev nD), Proc.devRef .tc (pre0.ref k))

/-- The lengths are admissible. -/
def adm : (p : Fin 1) → (pcfgs (F := F) p).Adm := fun _ => ⟨tbl m, trivial⟩

/-- The configuration at these lengths. -/
abbrev cf : Pipeline.Cfg sig Λ₀ := Pipeline.pin (pcfgs (F := F)) (adm m) 0

/-- An input's array when the call begins. -/
abbrev arr (c : Dev nD) (w : Fin (cf m).W) : Buf (Elt F) (((cf m).win w).arr.view.loc (c.tc : Thread nD τ)) :=
  V m c (Pipeline.arrRef (cf m).spec w)

/-- The block of an array that a grid point reads. -/
def blk (c : Dev nD) (w : Fin (cf m).W) (t : Fin (cf m).N) : ((cf m).win w).block.Idx → Elt F ((cf m).win w).elt :=
  ((cf m).win w).fill ((cf m).grid.coords t) (fun _ => Classical.arbitrary _) (((cf m).win w).blk t |>.view.read (Elt F) (arr m c w))

/-- What the body reads at a grid point. -/
def env (c : Dev nD) (t : Fin (cf m).N) : Env F where
  tb := tbl m 0
  inp := fun | .x => blk m c 0 t | .k => blk m c 1 t | .v => blk m c 2 t

/-- The head's number at a grid point. -/
abbrev kvAt (t : Fin (cf m).N) : BitVec 32 := BitVec.ofNat 32 ((cf m).grid.coords t 0).val

/-- What a grid point may leave in an output's buffer that it found at `Y`. -/
def Out (c : Dev nD) (r : Rf) (t : Fin (cf m).N) (Y X : r.shape.Idx → Elt F r.elt) : Prop :=
  ∃ σ : St F, σ r = Y ∧ X = (run (env m c t) (bodyAt (kvAt m t)) σ).2 r

/-- The proof's data. -/
def rdat (c : Dev nD) : Pipeline.RDat τ (Elt F) Unit ℕ UU ℕ (cf m) c where
  A := arr m c
  after := fun
    | 0 => fun _ Y X => X = Y
    | 1 => fun _ Y X => X = Y
    | 2 => fun _ Y X => X = Y
    | 3 => Out m c .out
    | 4 => Out m c .qc
    | 5 => Out m c .qs
    | 6 => Out m c .mq
    | 7 => Out m c .kc
    | 8 => Out m c .ks
    | 9 => Out m c .mk
    | 10 => Out m c .vc
    | 11 => Out m c .vs
  Φ _ := iprop(Pipeline.ΦA (cf m).spec c ∗ Pipeline.ΦT pre0 (tbl m) c)
  q _ := fullShare
  owed _ := 0

theorem fetch_in (t : Fin (cf m).N) : ((cf m).win 0).fetch t = true ∧ ((cf m).win 1).fetch t = true ∧ ((cf m).win 2).fetch t = true := by
  rcases fin_N0 t with rfl | rfl | rfl | rfl | rfl | rfl | rfl | rfl | rfl <;> refine ⟨?_, ?_, ?_⟩ <;> sl_kernel_rfl

theorem finds_in (c : Dev nD) (t : Fin (cf m).N) (w : Fin (cf m).W) (hc : ∀ a, ((cf m).win w).clip ((cf m).grid.coords t) a = none)
    (hf : ((cf m).win w).fetch t = true) (Y : ((cf m).win w).block.Idx → Elt F ((cf m).win w).elt)
    (h : (rdat m c).Finds w t Y) : Y = blk m c w t := by
  obtain ⟨d, rfl⟩ := ((rdat m c).finds_of_fetch hf Y).mp h
  exact Pipeline.fill_of_clip_none w _ hc _ _ _

/-- The body's buffers at a grid point. -/
def Ab (t : Fin (cf m).N) : Ms sig := refs (Memref.whole main_arg3) (spec0_0.stage ((cf m).slots t 0)) (spec0_1.stage ((cf m).slots t 1)) (spec0_2.stage ((cf m).slots t 2)) (spec0_3.stage ((cf m).slots t 3)) (spec0_4.stage ((cf m).slots t 4)) (spec0_5.stage ((cf m).slots t 5)) (spec0_6.stage ((cf m).slots t 6)) (spec0_7.stage ((cf m).slots t 7)) (spec0_8.stage ((cf m).slots t 8)) (spec0_9.stage ((cf m).slots t 9)) (spec0_10.stage ((cf m).slots t 10)) (spec0_11.stage ((cf m).slots t 11)) (Memref.whole cc0_scratch0) (Memref.whole cc0_scratch1) (Memref.whole cc0_scratch2)

theorem hAb (t : Fin (cf m).N) : (Ab m t).Whole := refs_whole (Memref.whole main_arg3) (spec0_0.stage ((cf m).slots t 0)) (spec0_1.stage ((cf m).slots t 1)) (spec0_2.stage ((cf m).slots t 2)) (spec0_3.stage ((cf m).slots t 3)) (spec0_4.stage ((cf m).slots t 4)) (spec0_5.stage ((cf m).slots t 5)) (spec0_6.stage ((cf m).slots t 6)) (spec0_7.stage ((cf m).slots t 7)) (spec0_8.stage ((cf m).slots t 8)) (spec0_9.stage ((cf m).slots t 9)) (spec0_10.stage ((cf m).slots t 10)) (spec0_11.stage ((cf m).slots t 11)) (Memref.whole cc0_scratch0) (Memref.whole cc0_scratch1) (Memref.whole cc0_scratch2)
  (Memref.isWhole_whole _) (hstage0_0 (((cf m).slots t 0).cast nbuf0_0)) (hstage0_1 (((cf m).slots t 1).cast nbuf0_1)) (hstage0_2 (((cf m).slots t 2).cast nbuf0_2)) (hstage0_3 (((cf m).slots t 3).cast nbuf0_3)) (hstage0_4 (((cf m).slots t 4).cast nbuf0_4)) (hstage0_5 (((cf m).slots t 5).cast nbuf0_5)) (hstage0_6 (((cf m).slots t 6).cast nbuf0_6)) (hstage0_7 (((cf m).slots t 7).cast nbuf0_7)) (hstage0_8 (((cf m).slots t 8).cast nbuf0_8)) (hstage0_9 (((cf m).slots t 9).cast nbuf0_9)) (hstage0_10 (((cf m).slots t 10).cast nbuf0_10)) (hstage0_11 (((cf m).slots t 11).cast nbuf0_11)) (Memref.isWhole_whole _) (Memref.isWhole_whole _) (Memref.isWhole_whole _)

theorem body_eq (t : Fin (cf m).N) : (defs₀ (F := F) .tc (cf m).body ((cf m).bodyArgs t ((cf m).slots t))) = denote (Ab m t) (hAb m t) (bodyAt (kvAt m t)) :=
  printed_eq ((cf m).grid.coords t) (Memref.whole main_arg3) (spec0_0.stage ((cf m).slots t 0)) (spec0_1.stage ((cf m).slots t 1)) (spec0_2.stage ((cf m).slots t 2)) (spec0_3.stage ((cf m).slots t 3)) (spec0_4.stage ((cf m).slots t 4)) (spec0_5.stage ((cf m).slots t 5)) (spec0_6.stage ((cf m).slots t 6)) (spec0_7.stage ((cf m).slots t 7)) (spec0_8.stage ((cf m).slots t 8)) (spec0_9.stage ((cf m).slots t 9)) (spec0_10.stage ((cf m).slots t 10)) (spec0_11.stage ((cf m).slots t 11)) (Memref.whole cc0_scratch0) (Memref.whole cc0_scratch1) (Memref.whole cc0_scratch2)
    (Memref.isWhole_whole _) (hstage0_0 (((cf m).slots t 0).cast nbuf0_0)) (hstage0_1 (((cf m).slots t 1).cast nbuf0_1)) (hstage0_2 (((cf m).slots t 2).cast nbuf0_2)) (hstage0_3 (((cf m).slots t 3).cast nbuf0_3)) (hstage0_4 (((cf m).slots t 4).cast nbuf0_4)) (hstage0_5 (((cf m).slots t 5).cast nbuf0_5)) (hstage0_6 (((cf m).slots t 6).cast nbuf0_6)) (hstage0_7 (((cf m).slots t 7).cast nbuf0_7)) (hstage0_8 (((cf m).slots t 8).cast nbuf0_8)) (hstage0_9 (((cf m).slots t 9).cast nbuf0_9)) (hstage0_10 (((cf m).slots t 10).cast nbuf0_10)) (hstage0_11 (((cf m).slots t 11).cast nbuf0_11)) (Memref.isWhole_whole _) (Memref.isWhole_whole _) (Memref.isWhole_whole _)

/-- The buffers at a grid point, held one by one. -/
def chain (c : Dev nD) (t : Fin (cf m).N) (ρ : Env F) (σ : St F) : sProp 𝕄 :=
  iprop(owns (c : Thread nD τ) (Memref.whole main_arg3) fullShare.right ρ.tb ∗ (owns (c : Thread nD τ) (spec0_0.stage ((cf m).slots t 0)) fullShare (ρ.inp .x) ∗ owns (c : Thread nD τ) (spec0_1.stage ((cf m).slots t 1)) fullShare (ρ.inp .k) ∗ owns (c : Thread nD τ) (spec0_2.stage ((cf m).slots t 2)) fullShare (ρ.inp .v))
    ∗ (owns (c : Thread nD τ) (spec0_3.stage ((cf m).slots t 3)) fullShare (σ .out) ∗ owns (c : Thread nD τ) (spec0_4.stage ((cf m).slots t 4)) fullShare (σ .qc) ∗ owns (c : Thread nD τ) (spec0_5.stage ((cf m).slots t 5)) fullShare (σ .qs) ∗ owns (c : Thread nD τ) (spec0_6.stage ((cf m).slots t 6)) fullShare (σ .mq) ∗ owns (c : Thread nD τ) (spec0_7.stage ((cf m).slots t 7)) fullShare (σ .kc) ∗ owns (c : Thread nD τ) (spec0_8.stage ((cf m).slots t 8)) fullShare (σ .ks) ∗ owns (c : Thread nD τ) (spec0_9.stage ((cf m).slots t 9)) fullShare (σ .mk) ∗ owns (c : Thread nD τ) (spec0_10.stage ((cf m).slots t 10)) fullShare (σ .vc) ∗ owns (c : Thread nD τ) (spec0_11.stage ((cf m).slots t 11)) fullShare (σ .vs) ∗ owns (c : Thread nD τ) (Memref.whole cc0_scratch0) fullShare (σ .kt) ∗ owns (c : Thread nD τ) (Memref.whole cc0_scratch1) fullShare (σ .corr) ∗ owns (c : Thread nD τ) (Memref.whole cc0_scratch2) fullShare (σ .w)))

theorem chain_eq (c : Dev nD) (t : Fin (cf m).N) (ρ : Env F) (σ : St F) : (owned (Ab m t) c fullShare.right ρ σ : sProp 𝕄) = chain m c t ρ σ := by
  unfold owned
  rw [bigSep_Rin, bigSep_Rf]
  rfl

/-- Contents, listed. -/
def st (xout : (Rf.out).shape.Idx → Elt F (Rf.out).elt) (xqc : (Rf.qc).shape.Idx → Elt F (Rf.qc).elt) (xqs : (Rf.qs).shape.Idx → Elt F (Rf.qs).elt) (xmq : (Rf.mq).shape.Idx → Elt F (Rf.mq).elt) (xkc : (Rf.kc).shape.Idx → Elt F (Rf.kc).elt) (xks : (Rf.ks).shape.Idx → Elt F (Rf.ks).elt) (xmk : (Rf.mk).shape.Idx → Elt F (Rf.mk).elt) (xvc : (Rf.vc).shape.Idx → Elt F (Rf.vc).elt) (xvs : (Rf.vs).shape.Idx → Elt F (Rf.vs).elt) (xkt : (Rf.kt).shape.Idx → Elt F (Rf.kt).elt) (xcorr : (Rf.corr).shape.Idx → Elt F (Rf.corr).elt) (xw : (Rf.w).shape.Idx → Elt F (Rf.w).elt) : St F
  | .out => xout
  | .qc => xqc
  | .qs => xqs
  | .mq => xmq
  | .kc => xkc
  | .ks => xks
  | .mk => xmk
  | .vc => xvc
  | .vs => xvs
  | .kt => xkt
  | .corr => xcorr
  | .w => xw

theorem table_eq (c : Dev nD) (t : Fin (cf m).N) : (Pipeline.ΦT (U := UU) pre0 (tbl m) c : sProp 𝕄) = (((c : Thread nD τ).loc main_arg3) ↦{fullShare.right} (env m c t).tb) := by
  unfold Pipeline.ΦT Pipeline.prefHeld
  rw [bigSep_univ_eq_bigSepL [(0 : Fin 1)] (by decide) (by decide), bigSepL_singleton]
  rfl

theorem body_obligation (𝒱 : Variants) (c : Dev nD) : (rdat m c).BodyObligation defs₀ 𝒱 () Set.univ := by
  intro t Y hY
  have h0 := finds_in m c t 0 (fun _ => rfl) (fetch_in m t).1 _ (hY 0)
  have h1 := finds_in m c t 1 (fun _ => rfl) (fetch_in m t).2.1 _ (hY 1)
  have h2 := finds_in m c t 2 (fun _ => rfl) (fetch_in m t).2.2 _ (hY 2)
  rw [bigSep_W0, bigSep_W0, h0, h1, h2, body_eq]
  show iprop((Pipeline.ΦA spec0 c ∗ Pipeline.ΦT pre0 (tbl m) c) ∗ (rdat m c).owesAt () t.castSucc ∗ _)
    ⊢ wp _ _ _ _ fun _ => iprop((Pipeline.ΦA spec0 c ∗ Pipeline.ΦT pre0 (tbl m) c) ∗ (rdat m c).owesAt () t.castSucc ∗ _)
  rw [table_eq m c t]
  unfold Pipeline.ΦA
  rw [scopedRest0_eq]
  iintro ⟨⟨⟨⟨⟨%f1, S1⟩, ⟨%f2, S2⟩, ⟨%f3, S3⟩⟩, Hp⟩, T⟩, Ho, H0, H1, H2, H3, H4, H5, H6, H7, H8, H9, H10, H11⟩
  iapply (sound 𝒱 (hAb m t) (c := c) (q := fullShare.right) (env m c t) (bodyAt (kvAt m t)) (st (Y 3) (Y 4) (Y 5) (Y 6) (Y 7) (Y 8) (Y 9) (Y 10) (Y 11) f1 f2 f3) _ _) $$ [T S1 S2 S3 H0 H1 H2 H3 H4 H5 H6 H7 H8 H9 H10 H11]
  · iapply (owned_mem (Ab m t) (hAb m t) c fullShare.right (env m c t) _)
    iapply (Entails.of_eq (chain_eq m c t (env m c t) _).symm)
    unfold chain
    isplitl [T]
    · iapply (whole_owns c main_arg3 _ _) $$ T
    isplitl [H0 H1 H2]
    · isplitl [H0]
      · iexact H0
      isplitl [H1]
      · iexact H1
      iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [S1]
    · iapply (whole_owns c cc0_scratch0 _ _) $$ S1
    isplitl [S2]
    · iapply (whole_owns c cc0_scratch1 _ _) $$ S2
    iapply (whole_owns c cc0_scratch2 _ _) $$ S3
  iintro Hm
  ihave Hm := ((mem_owned (Ab m t) (hAb m t) c fullShare.right (env m c t) _).trans (Entails.of_eq (chain_eq m c t (env m c t) _))) $$ Hm

  unfold chain
  icases Hm with ⟨T, ⟨H0, H1, H2⟩, H3, H4, H5, H6, H7, H8, H9, H10, H11, S1, S2, S3⟩
  ihave T := (owns_whole c main_arg3 _ _) $$ T
  ihave S1 := (owns_whole c cc0_scratch0 _ _) $$ S1
  ihave S2 := (owns_whole c cc0_scratch1 _ _) $$ S2
  ihave S3 := (owns_whole c cc0_scratch2 _ _) $$ S3
  isplitl [T S1 S2 S3 Hp]
  · isplitl [S1 S2 S3 Hp]
    · isplitl [S1 S2 S3]
      · isplitl [S1]
        · iexists _; iexact S1
        isplitl [S2]
        · iexists _; iexact S2
        iexists _; iexact S3
      iexact Hp
    iexact T
  isplitl [Ho]
  · iexact Ho
  isplitl [H0]
  · iexists _; isplitr; swap; (iexact H0); ipureintro; exact rfl
  isplitl [H1]
  · iexists _; isplitr; swap; (iexact H1); ipureintro; exact rfl
  isplitl [H2]
  · iexists _; isplitr; swap; (iexact H2); ipureintro; exact rfl
  isplitl [H3]
  · iexists _; isplitr; swap; (iexact H3); ipureintro; exact ⟨_, rfl, rfl⟩
  isplitl [H4]
  · iexists _; isplitr; swap; (iexact H4); ipureintro; exact ⟨_, rfl, rfl⟩
  isplitl [H5]
  · iexists _; isplitr; swap; (iexact H5); ipureintro; exact ⟨_, rfl, rfl⟩
  isplitl [H6]
  · iexists _; isplitr; swap; (iexact H6); ipureintro; exact ⟨_, rfl, rfl⟩
  isplitl [H7]
  · iexists _; isplitr; swap; (iexact H7); ipureintro; exact ⟨_, rfl, rfl⟩
  isplitl [H8]
  · iexists _; isplitr; swap; (iexact H8); ipureintro; exact ⟨_, rfl, rfl⟩
  isplitl [H9]
  · iexists _; isplitr; swap; (iexact H9); ipureintro; exact ⟨_, rfl, rfl⟩
  isplitl [H10]
  · iexists _; isplitr; swap; (iexact H10); ipureintro; exact ⟨_, rfl, rfl⟩
  iexists _; isplitr; swap; (iexact H11); ipureintro; exact ⟨_, rfl, rfl⟩

abbrev 𝒱₀ : Variants := Variants.none

/-- The host writes the three transposes and nothing else. -/
theorem V_other (c : Dev nD) (b : Ref sig .tc) (hb : b ≠ main_v0 ∧ b ≠ main_v1 ∧ b ≠ main_v2) : V m c b = V₀ m c b := by
  obtain ⟨h0, h1, h2⟩ := hb
  refine StableHlo.after_of_forall_not_mem (b := Proc.devRef .tc b) hostOps0 (V₀ m c) fun op hop => ?_
  simp only [List.mem_cons, List.mem_nil_iff, or_false] at hop
  rcases hop with rfl | rfl | rfl <;>
    simp only [StableHlo.unary_writes, Finset.mem_singleton] <;>
    exact StableHlo.devRef_ne_of_ne ‹_›

theorem hpf (c : Dev nD) (k : Fin pre0.K) : V m c (pre0.ref k) = tbl m k := by
  obtain rfl : k = (0 : Fin 1) := Subsingleton.elim _ _
  obtain rfl : c = 0 := Subsingleton.elim _ _
  exact V_other m 0 main_arg3 (by decide)

/-- Every run: the arrays end in the relation, and what the host did not write ends unchanged. -/
theorem run_main (g : Dev nD → PrngReg) :
    θ_run (defs (F := F)) (onTc (τ := τ) (main (F := F))) ⟨m, fun _ => 0, g⟩
      fun r => Pipeline.RDat.FramePost (cf m) (rdat m) (fun c b => V m c b) r ∧ r.2.sem = fun _ => 0 :=
  Pipeline.RDat.θ_run_frameP_track (pcfgs (F := F)) (adm m) 0 launch0 defs₀ 𝒱₀ (rdat m) m g main
    (body_obligation m 𝒱₀) (fun c w => by unfold Pipeline.RDat.share; split <;> rfl) (fun _ _ => rfl) (fun c b => V m c b)
    (Pipeline.hmainP_prefix (pcfgs (F := F)) 0 defs₀ 𝒱₀ m main hostOps0 hostOps0_sub ⟨rfl, rfl, rfl⟩ main_chain)
    (fun _ _ => rfl) (hpf m) (fun _ => .rfl) (fun c => by
      show iprop(Pipeline.ΦA (cf m).spec c ∗ Pipeline.ΦT pre0 (tbl m) c) ⊢ _
      iintro ⟨H, -⟩; iexact H) _ (fun _ h => h)

theorem arg_eq (b : Ref sig .tc) (hb : b ≠ main_v0 ∧ b ≠ main_v1 ∧ b ≠ main_v2) (hs : b.isScoped = false)
    (ha : ∀ w, (spec0 w).arr.view.ref ≠ b) (r : PUnit × MemSt nD τ sig (Elt F))
    (h : Pipeline.RDat.FramePost (cf m) (rdat m) (fun c b => V m c b) r) (c : Dev nD) :
    r.2.mem ((c.tc : Thread nD τ).loc b) = m ((c.tc : Thread nD τ).loc b) :=
  ((h c).2 b (Pipeline.mem_restRefs_of b hs ha)).trans (V_other m c b hb)

/-- Every run ends with the arguments unchanged and every semaphore at zero. -/
theorem frame (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨arg_eq m main_arg0 (by decide) (by decide) (by decide) r h.1 c, arg_eq m main_arg1 (by decide) (by decide) (by decide) r h.1 c,
     arg_eq m main_arg2 (by decide) (by decide) (by decide) r h.1 c, arg_eq m main_arg3 (by decide) (by decide) (by decide) r h.1 c⟩, h.2⟩) (run_main m g)

end Cert.Proof.KI
end
-- ==== Proof.EqK.lean ====
module
public import proofs.«01_k».proof.Kernel
public import proofs.«01_k».proof.Proof.Body
public import Idealize.ShloMosaic.Lib.Tactic

@[expose] public section

/-!
# The printed body is the loops

The body the printer prints for `Kernel` and the program `body` stands for are one term.
-/

noncomputable section
namespace Cert.Proof.K

open Cert.Kernel
open Idealize.ShloMosaic Idealize.SL.Sem
open Idealize.ShloMosaic.TcCoe Idealize.ShloMosaic.Tactic

variable {F : FTy → Type} [BitOps F] [Facts]

/-- The body's references, by name. -/
def refs (M1 : Memref sig .tc .smem S2 .i32) (M2 : Memref sig .tc .vmem S2x320x768 .bf16) (M3 : Memref sig .tc .vmem S2x64x768 .bf16) (M4 : Memref sig .tc .vmem S2x64x768 .bf16) (M5 : Memref sig .tc .vmem S2x320x768 .bf16) (M6 : Memref sig .tc .vmem S2x5x64x768 .fp8e4m3) (M7 : Memref sig .tc .vmem S6x2x45 .f32) (M8 : Memref sig .tc .vmem S6x5x2x64 .bf16) (M9 : Memref sig .tc .vmem S2x1x64x768 .fp8e4m3) (M10 : Memref sig .tc .vmem S1x2x12 .f32) (M11 : Memref sig .tc .vmem S1x2x64 .bf16) (M12 : Memref sig .tc .vmem S2x1x64x768 .fp8e4m3) (M13 : Memref sig .tc .vmem S1x2x64 .f32) (M14 : Memref sig .tc .vmem S2x768x64 .fp8e4m3) (M15 : Memref sig .tc .vmem S2x768x128 .f32) (M16 : Memref sig .tc .vmem S5x768x128 .f32) : Ms sig where
  tb := M1
  inp := fun | .x => M2 | .k => M3 | .v => M4
  m := fun | .out => M5 | .qc => M6 | .qs => M7 | .mq => M8 | .kc => M9 | .ks => M10 | .mk => M11 | .vc => M12 | .vs => M13 | .kt => M14 | .corr => M15 | .w => M16

theorem refs_whole (M1 : Memref sig .tc .smem S2 .i32) (M2 : Memref sig .tc .vmem S2x320x768 .bf16) (M3 : Memref sig .tc .vmem S2x64x768 .bf16) (M4 : Memref sig .tc .vmem S2x64x768 .bf16) (M5 : Memref sig .tc .vmem S2x320x768 .bf16) (M6 : Memref sig .tc .vmem S2x5x64x768 .fp8e4m3) (M7 : Memref sig .tc .vmem S6x2x45 .f32) (M8 : Memref sig .tc .vmem S6x5x2x64 .bf16) (M9 : Memref sig .tc .vmem S2x1x64x768 .fp8e4m3) (M10 : Memref sig .tc .vmem S1x2x12 .f32) (M11 : Memref sig .tc .vmem S1x2x64 .bf16) (M12 : Memref sig .tc .vmem S2x1x64x768 .fp8e4m3) (M13 : Memref sig .tc .vmem S1x2x64 .f32) (M14 : Memref sig .tc .vmem S2x768x64 .fp8e4m3) (M15 : Memref sig .tc .vmem S2x768x128 .f32) (M16 : Memref sig .tc .vmem S5x768x128 .f32)
    (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole)  :
    (refs M1 M2 M3 M4 M5 M6 M7 M8 M9 M10 M11 M12 M13 M14 M15 M16 ).Whole where
  tb := h1
  inp := fun | .x => h2 | .k => h3 | .v => h4
  m := fun | .out => h5 | .qc => h6 | .qs => h7 | .mq => h8 | .kc => h9 | .ks => h10 | .mk => h11 | .vc => h12 | .vs => h13 | .kt => h14 | .corr => h15 | .w => h16

/-- The body at its two constants. -/
abbrev bodyAt (kv : BitVec 32) : Cmd F PUnit := body (Scalar.ofBits .f32 0x3E38AA3B#32) (Scalar.ofBits .f32 0xF149F2CA#32) kv

theorem printed_eq (i : grid0.Coords) (M1 : Memref sig .tc .smem S2 .i32) (M2 : Memref sig .tc .vmem S2x320x768 .bf16) (M3 : Memref sig .tc .vmem S2x64x768 .bf16) (M4 : Memref sig .tc .vmem S2x64x768 .bf16) (M5 : Memref sig .tc .vmem S2x320x768 .bf16) (M6 : Memref sig .tc .vmem S2x5x64x768 .fp8e4m3) (M7 : Memref sig .tc .vmem S6x2x45 .f32) (M8 : Memref sig .tc .vmem S6x5x2x64 .bf16) (M9 : Memref sig .tc .vmem S2x1x64x768 .fp8e4m3) (M10 : Memref sig .tc .vmem S1x2x12 .f32) (M11 : Memref sig .tc .vmem S1x2x64 .bf16) (M12 : Memref sig .tc .vmem S2x1x64x768 .fp8e4m3) (M13 : Memref sig .tc .vmem S1x2x64 .f32) (M14 : Memref sig .tc .vmem S2x768x64 .fp8e4m3) (M15 : Memref sig .tc .vmem S2x768x128 .f32) (M16 : Memref sig .tc .vmem S5x768x128 .f32)
    (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole)  :
    (cc0_sage_attention i M1 h1 M2 h2 M3 h3 M4 h4 M5 h5 M6 h6 M7 h7 M8 h8 M9 h9 M10 h10 M11 h11 M12 h12 M13 h13 M14 h14 M15 h15 M16 h16  : Prog (TpuEff nD τ sig (Elt F) Λ₀ .tc) PUnit) =
      denote (refs M1 M2 M3 M4 M5 M6 M7 M8 M9 M10 M11 M12 M13 M14 M15 M16 ) (refs_whole M1 M2 M3 M4 M5 M6 M7 M8 M9 M10 M11 M12 M13 M14 M15 M16  h1 h2 h3 h4 h5 h6 h7 h8 h9 h10 h11 h12 h13 h14 h15 h16 ) (bodyAt (BitVec.ofNat 32 (i 0).val)) := by
  by_cases h : first (BitVec.ofNat 32 (i 0).val)
  · delta cc0_sage_attention k0_part480 k0_part325 bodyAt body
    dsimp -proj only
    rw [if_pos h, dif_pos h]
    sl_kernel_rfl
  · delta cc0_sage_attention k0_part480 k0_part325 bodyAt body
    dsimp -proj only
    rw [if_neg h, dif_neg h]
    sl_kernel_rfl

end Cert.Proof.K
end
-- ==== Proof.LaunchK.lean ====
module
public import proofs.«01_k».proof.Proof.EqK
public import proofs.«01_k».proof.Proof.Sound
public import proofs.«01_k».proof.Proof.Gen.Kernel.Launch

@[expose] public section

/-!
# Launch of `Kernel`

Every run of the program ends with its output arrays written back block by block, each block being what `run` of the
body at that grid point leaves in the block's buffer, and with its arguments unchanged.
-/

noncomputable section
namespace Cert.Proof.K

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type} [BitOps F]

local notation "UU" => UR sig nD τ
local notation "𝕄" => MT nD τ sig Unit (Elt F) ℕ UU ℕ

variable (m : (ℓ : Loc nD τ sig) → Buf (Elt F) ℓ)

/-- The memory at launch, on one device. -/
abbrev V₀ (c : Dev nD) : Valuation τ sig (Elt F) := fun b => m (c, b)
/-- The memory when the call begins: the host has written the three transposes. -/
abbrev V (c : Dev nD) : Valuation τ sig (Elt F) := StableHlo.after hostOps0 (V₀ m c)

/-- The lengths. -/
def tbl : pre0.Contents (Elt F) := fun k => m ((0 : Dev nD), Proc.devRef .tc (pre0.ref k))

/-- The lengths are admissible. -/
def adm : (p : Fin 1) → (pcfgs (F := F) p).Adm := fun _ => ⟨tbl m, trivial⟩

/-- The configuration at these lengths. -/
abbrev cf : Pipeline.Cfg sig Λ₀ := Pipeline.pin (pcfgs (F := F)) (adm m) 0

/-- An input's array when the call begins. -/
abbrev arr (c : Dev nD) (w : Fin (cf m).W) : Buf (Elt F) (((cf m).win w).arr.view.loc (c.tc : Thread nD τ)) :=
  V m c (Pipeline.arrRef (cf m).spec w)

/-- The block of an array that a grid point reads. -/
def blk (c : Dev nD) (w : Fin (cf m).W) (t : Fin (cf m).N) : ((cf m).win w).block.Idx → Elt F ((cf m).win w).elt :=
  ((cf m).win w).fill ((cf m).grid.coords t) (fun _ => Classical.arbitrary _) (((cf m).win w).blk t |>.view.read (Elt F) (arr m c w))

/-- What the body reads at a grid point. -/
def env (c : Dev nD) (t : Fin (cf m).N) : Env F where
  tb := tbl m 0
  inp := fun | .x => blk m c 0 t | .k => blk m c 1 t | .v => blk m c 2 t

/-- The head's number at a grid point. -/
abbrev kvAt (t : Fin (cf m).N) : BitVec 32 := BitVec.ofNat 32 ((cf m).grid.coords t 0).val

/-- What a grid point may leave in an output's buffer that it found at `Y`. -/
def Out (c : Dev nD) (r : Rf) (t : Fin (cf m).N) (Y X : r.shape.Idx → Elt F r.elt) : Prop :=
  ∃ σ : St F, σ r = Y ∧ X = (run (env m c t) (bodyAt (kvAt m t)) σ).2 r

/-- The proof's data. -/
def rdat (c : Dev nD) : Pipeline.RDat τ (Elt F) Unit ℕ UU ℕ (cf m) c where
  A := arr m c
  after := fun
    | 0 => fun _ Y X => X = Y
    | 1 => fun _ Y X => X = Y
    | 2 => fun _ Y X => X = Y
    | 3 => Out m c .out
    | 4 => Out m c .qc
    | 5 => Out m c .qs
    | 6 => Out m c .mq
    | 7 => Out m c .kc
    | 8 => Out m c .ks
    | 9 => Out m c .mk
    | 10 => Out m c .vc
    | 11 => Out m c .vs
  Φ _ := iprop(Pipeline.ΦA (cf m).spec c ∗ Pipeline.ΦT pre0 (tbl m) c)
  q _ := fullShare
  owed _ := 0

theorem fetch_in (t : Fin (cf m).N) : ((cf m).win 0).fetch t = true ∧ ((cf m).win 1).fetch t = true ∧ ((cf m).win 2).fetch t = true := by
  rcases fin_N0 t with rfl | rfl | rfl | rfl | rfl | rfl | rfl | rfl | rfl <;> refine ⟨?_, ?_, ?_⟩ <;> sl_kernel_rfl

theorem finds_in (c : Dev nD) (t : Fin (cf m).N) (w : Fin (cf m).W) (hc : ∀ a, ((cf m).win w).clip ((cf m).grid.coords t) a = none)
    (hf : ((cf m).win w).fetch t = true) (Y : ((cf m).win w).block.Idx → Elt F ((cf m).win w).elt)
    (h : (rdat m c).Finds w t Y) : Y = blk m c w t := by
  obtain ⟨d, rfl⟩ := ((rdat m c).finds_of_fetch hf Y).mp h
  exact Pipeline.fill_of_clip_none w _ hc _ _ _

/-- The body's buffers at a grid point. -/
def Ab (t : Fin (cf m).N) : Ms sig := refs (Memref.whole main_arg3) (spec0_0.stage ((cf m).slots t 0)) (spec0_1.stage ((cf m).slots t 1)) (spec0_2.stage ((cf m).slots t 2)) (spec0_3.stage ((cf m).slots t 3)) (spec0_4.stage ((cf m).slots t 4)) (spec0_5.stage ((cf m).slots t 5)) (spec0_6.stage ((cf m).slots t 6)) (spec0_7.stage ((cf m).slots t 7)) (spec0_8.stage ((cf m).slots t 8)) (spec0_9.stage ((cf m).slots t 9)) (spec0_10.stage ((cf m).slots t 10)) (spec0_11.stage ((cf m).slots t 11)) (Memref.whole cc0_scratch0) (Memref.whole cc0_scratch1) (Memref.whole cc0_scratch2)

theorem hAb (t : Fin (cf m).N) : (Ab m t).Whole := refs_whole (Memref.whole main_arg3) (spec0_0.stage ((cf m).slots t 0)) (spec0_1.stage ((cf m).slots t 1)) (spec0_2.stage ((cf m).slots t 2)) (spec0_3.stage ((cf m).slots t 3)) (spec0_4.stage ((cf m).slots t 4)) (spec0_5.stage ((cf m).slots t 5)) (spec0_6.stage ((cf m).slots t 6)) (spec0_7.stage ((cf m).slots t 7)) (spec0_8.stage ((cf m).slots t 8)) (spec0_9.stage ((cf m).slots t 9)) (spec0_10.stage ((cf m).slots t 10)) (spec0_11.stage ((cf m).slots t 11)) (Memref.whole cc0_scratch0) (Memref.whole cc0_scratch1) (Memref.whole cc0_scratch2)
  (Memref.isWhole_whole _) (hstage0_0 (((cf m).slots t 0).cast nbuf0_0)) (hstage0_1 (((cf m).slots t 1).cast nbuf0_1)) (hstage0_2 (((cf m).slots t 2).cast nbuf0_2)) (hstage0_3 (((cf m).slots t 3).cast nbuf0_3)) (hstage0_4 (((cf m).slots t 4).cast nbuf0_4)) (hstage0_5 (((cf m).slots t 5).cast nbuf0_5)) (hstage0_6 (((cf m).slots t 6).cast nbuf0_6)) (hstage0_7 (((cf m).slots t 7).cast nbuf0_7)) (hstage0_8 (((cf m).slots t 8).cast nbuf0_8)) (hstage0_9 (((cf m).slots t 9).cast nbuf0_9)) (hstage0_10 (((cf m).slots t 10).cast nbuf0_10)) (hstage0_11 (((cf m).slots t 11).cast nbuf0_11)) (Memref.isWhole_whole _) (Memref.isWhole_whole _) (Memref.isWhole_whole _)

theorem body_eq (t : Fin (cf m).N) : (defs₀ (F := F) .tc (cf m).body ((cf m).bodyArgs t ((cf m).slots t))) = denote (Ab m t) (hAb m t) (bodyAt (kvAt m t)) :=
  printed_eq ((cf m).grid.coords t) (Memref.whole main_arg3) (spec0_0.stage ((cf m).slots t 0)) (spec0_1.stage ((cf m).slots t 1)) (spec0_2.stage ((cf m).slots t 2)) (spec0_3.stage ((cf m).slots t 3)) (spec0_4.stage ((cf m).slots t 4)) (spec0_5.stage ((cf m).slots t 5)) (spec0_6.stage ((cf m).slots t 6)) (spec0_7.stage ((cf m).slots t 7)) (spec0_8.stage ((cf m).slots t 8)) (spec0_9.stage ((cf m).slots t 9)) (spec0_10.stage ((cf m).slots t 10)) (spec0_11.stage ((cf m).slots t 11)) (Memref.whole cc0_scratch0) (Memref.whole cc0_scratch1) (Memref.whole cc0_scratch2)
    (Memref.isWhole_whole _) (hstage0_0 (((cf m).slots t 0).cast nbuf0_0)) (hstage0_1 (((cf m).slots t 1).cast nbuf0_1)) (hstage0_2 (((cf m).slots t 2).cast nbuf0_2)) (hstage0_3 (((cf m).slots t 3).cast nbuf0_3)) (hstage0_4 (((cf m).slots t 4).cast nbuf0_4)) (hstage0_5 (((cf m).slots t 5).cast nbuf0_5)) (hstage0_6 (((cf m).slots t 6).cast nbuf0_6)) (hstage0_7 (((cf m).slots t 7).cast nbuf0_7)) (hstage0_8 (((cf m).slots t 8).cast nbuf0_8)) (hstage0_9 (((cf m).slots t 9).cast nbuf0_9)) (hstage0_10 (((cf m).slots t 10).cast nbuf0_10)) (hstage0_11 (((cf m).slots t 11).cast nbuf0_11)) (Memref.isWhole_whole _) (Memref.isWhole_whole _) (Memref.isWhole_whole _)

/-- The buffers at a grid point, held one by one. -/
def chain (c : Dev nD) (t : Fin (cf m).N) (ρ : Env F) (σ : St F) : sProp 𝕄 :=
  iprop(owns (c : Thread nD τ) (Memref.whole main_arg3) fullShare.right ρ.tb ∗ (owns (c : Thread nD τ) (spec0_0.stage ((cf m).slots t 0)) fullShare (ρ.inp .x) ∗ owns (c : Thread nD τ) (spec0_1.stage ((cf m).slots t 1)) fullShare (ρ.inp .k) ∗ owns (c : Thread nD τ) (spec0_2.stage ((cf m).slots t 2)) fullShare (ρ.inp .v))
    ∗ (owns (c : Thread nD τ) (spec0_3.stage ((cf m).slots t 3)) fullShare (σ .out) ∗ owns (c : Thread nD τ) (spec0_4.stage ((cf m).slots t 4)) fullShare (σ .qc) ∗ owns (c : Thread nD τ) (spec0_5.stage ((cf m).slots t 5)) fullShare (σ .qs) ∗ owns (c : Thread nD τ) (spec0_6.stage ((cf m).slots t 6)) fullShare (σ .mq) ∗ owns (c : Thread nD τ) (spec0_7.stage ((cf m).slots t 7)) fullShare (σ .kc) ∗ owns (c : Thread nD τ) (spec0_8.stage ((cf m).slots t 8)) fullShare (σ .ks) ∗ owns (c : Thread nD τ) (spec0_9.stage ((cf m).slots t 9)) fullShare (σ .mk) ∗ owns (c : Thread nD τ) (spec0_10.stage ((cf m).slots t 10)) fullShare (σ .vc) ∗ owns (c : Thread nD τ) (spec0_11.stage ((cf m).slots t 11)) fullShare (σ .vs) ∗ owns (c : Thread nD τ) (Memref.whole cc0_scratch0) fullShare (σ .kt) ∗ owns (c : Thread nD τ) (Memref.whole cc0_scratch1) fullShare (σ .corr) ∗ owns (c : Thread nD τ) (Memref.whole cc0_scratch2) fullShare (σ .w)))

theorem chain_eq (c : Dev nD) (t : Fin (cf m).N) (ρ : Env F) (σ : St F) : (owned (Ab m t) c fullShare.right ρ σ : sProp 𝕄) = chain m c t ρ σ := by
  unfold owned
  rw [bigSep_Rin, bigSep_Rf]
  rfl

/-- Contents, listed. -/
def st (xout : (Rf.out).shape.Idx → Elt F (Rf.out).elt) (xqc : (Rf.qc).shape.Idx → Elt F (Rf.qc).elt) (xqs : (Rf.qs).shape.Idx → Elt F (Rf.qs).elt) (xmq : (Rf.mq).shape.Idx → Elt F (Rf.mq).elt) (xkc : (Rf.kc).shape.Idx → Elt F (Rf.kc).elt) (xks : (Rf.ks).shape.Idx → Elt F (Rf.ks).elt) (xmk : (Rf.mk).shape.Idx → Elt F (Rf.mk).elt) (xvc : (Rf.vc).shape.Idx → Elt F (Rf.vc).elt) (xvs : (Rf.vs).shape.Idx → Elt F (Rf.vs).elt) (xkt : (Rf.kt).shape.Idx → Elt F (Rf.kt).elt) (xcorr : (Rf.corr).shape.Idx → Elt F (Rf.corr).elt) (xw : (Rf.w).shape.Idx → Elt F (Rf.w).elt) : St F
  | .out => xout
  | .qc => xqc
  | .qs => xqs
  | .mq => xmq
  | .kc => xkc
  | .ks => xks
  | .mk => xmk
  | .vc => xvc
  | .vs => xvs
  | .kt => xkt
  | .corr => xcorr
  | .w => xw

theorem table_eq (c : Dev nD) (t : Fin (cf m).N) : (Pipeline.ΦT (U := UU) pre0 (tbl m) c : sProp 𝕄) = (((c : Thread nD τ).loc main_arg3) ↦{fullShare.right} (env m c t).tb) := by
  unfold Pipeline.ΦT Pipeline.prefHeld
  rw [bigSep_univ_eq_bigSepL [(0 : Fin 1)] (by decide) (by decide), bigSepL_singleton]
  rfl

theorem body_obligation (𝒱 : Variants) (c : Dev nD) : (rdat m c).BodyObligation defs₀ 𝒱 () Set.univ := by
  intro t Y hY
  have h0 := finds_in m c t 0 (fun _ => rfl) (fetch_in m t).1 _ (hY 0)
  have h1 := finds_in m c t 1 (fun _ => rfl) (fetch_in m t).2.1 _ (hY 1)
  have h2 := finds_in m c t 2 (fun _ => rfl) (fetch_in m t).2.2 _ (hY 2)
  rw [bigSep_W0, bigSep_W0, h0, h1, h2, body_eq]
  show iprop((Pipeline.ΦA spec0 c ∗ Pipeline.ΦT pre0 (tbl m) c) ∗ (rdat m c).owesAt () t.castSucc ∗ _)
    ⊢ wp _ _ _ _ fun _ => iprop((Pipeline.ΦA spec0 c ∗ Pipeline.ΦT pre0 (tbl m) c) ∗ (rdat m c).owesAt () t.castSucc ∗ _)
  rw [table_eq m c t]
  unfold Pipeline.ΦA
  rw [scopedRest0_eq]
  iintro ⟨⟨⟨⟨⟨%f1, S1⟩, ⟨%f2, S2⟩, ⟨%f3, S3⟩⟩, Hp⟩, T⟩, Ho, H0, H1, H2, H3, H4, H5, H6, H7, H8, H9, H10, H11⟩
  iapply (sound 𝒱 (hAb m t) (c := c) (q := fullShare.right) (env m c t) (bodyAt (kvAt m t)) (st (Y 3) (Y 4) (Y 5) (Y 6) (Y 7) (Y 8) (Y 9) (Y 10) (Y 11) f1 f2 f3) _ _) $$ [T S1 S2 S3 H0 H1 H2 H3 H4 H5 H6 H7 H8 H9 H10 H11]
  · iapply (owned_mem (Ab m t) (hAb m t) c fullShare.right (env m c t) _)
    iapply (Entails.of_eq (chain_eq m c t (env m c t) _).symm)
    unfold chain
    isplitl [T]
    · iapply (whole_owns c main_arg3 _ _) $$ T
    isplitl [H0 H1 H2]
    · isplitl [H0]
      · iexact H0
      isplitl [H1]
      · iexact H1
      iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [S1]
    · iapply (whole_owns c cc0_scratch0 _ _) $$ S1
    isplitl [S2]
    · iapply (whole_owns c cc0_scratch1 _ _) $$ S2
    iapply (whole_owns c cc0_scratch2 _ _) $$ S3
  iintro Hm
  ihave Hm := ((mem_owned (Ab m t) (hAb m t) c fullShare.right (env m c t) _).trans (Entails.of_eq (chain_eq m c t (env m c t) _))) $$ Hm

  unfold chain
  icases Hm with ⟨T, ⟨H0, H1, H2⟩, H3, H4, H5, H6, H7, H8, H9, H10, H11, S1, S2, S3⟩
  ihave T := (owns_whole c main_arg3 _ _) $$ T
  ihave S1 := (owns_whole c cc0_scratch0 _ _) $$ S1
  ihave S2 := (owns_whole c cc0_scratch1 _ _) $$ S2
  ihave S3 := (owns_whole c cc0_scratch2 _ _) $$ S3
  isplitl [T S1 S2 S3 Hp]
  · isplitl [S1 S2 S3 Hp]
    · isplitl [S1 S2 S3]
      · isplitl [S1]
        · iexists _; iexact S1
        isplitl [S2]
        · iexists _; iexact S2
        iexists _; iexact S3
      iexact Hp
    iexact T
  isplitl [Ho]
  · iexact Ho
  isplitl [H0]
  · iexists _; isplitr; swap; (iexact H0); ipureintro; exact rfl
  isplitl [H1]
  · iexists _; isplitr; swap; (iexact H1); ipureintro; exact rfl
  isplitl [H2]
  · iexists _; isplitr; swap; (iexact H2); ipureintro; exact rfl
  isplitl [H3]
  · iexists _; isplitr; swap; (iexact H3); ipureintro; exact ⟨_, rfl, rfl⟩
  isplitl [H4]
  · iexists _; isplitr; swap; (iexact H4); ipureintro; exact ⟨_, rfl, rfl⟩
  isplitl [H5]
  · iexists _; isplitr; swap; (iexact H5); ipureintro; exact ⟨_, rfl, rfl⟩
  isplitl [H6]
  · iexists _; isplitr; swap; (iexact H6); ipureintro; exact ⟨_, rfl, rfl⟩
  isplitl [H7]
  · iexists _; isplitr; swap; (iexact H7); ipureintro; exact ⟨_, rfl, rfl⟩
  isplitl [H8]
  · iexists _; isplitr; swap; (iexact H8); ipureintro; exact ⟨_, rfl, rfl⟩
  isplitl [H9]
  · iexists _; isplitr; swap; (iexact H9); ipureintro; exact ⟨_, rfl, rfl⟩
  isplitl [H10]
  · iexists _; isplitr; swap; (iexact H10); ipureintro; exact ⟨_, rfl, rfl⟩
  iexists _; isplitr; swap; (iexact H11); ipureintro; exact ⟨_, rfl, rfl⟩

abbrev 𝒱₀ : Variants := Variants.none

/-- The host writes the three transposes and nothing else. -/
theorem V_other (c : Dev nD) (b : Ref sig .tc) (hb : b ≠ main_v0 ∧ b ≠ main_v1 ∧ b ≠ main_v2) : V m c b = V₀ m c b := by
  obtain ⟨h0, h1, h2⟩ := hb
  refine StableHlo.after_of_forall_not_mem (b := Proc.devRef .tc b) hostOps0 (V₀ m c) fun op hop => ?_
  simp only [List.mem_cons, List.mem_nil_iff, or_false] at hop
  rcases hop with rfl | rfl | rfl <;>
    simp only [StableHlo.unary_writes, Finset.mem_singleton] <;>
    exact StableHlo.devRef_ne_of_ne ‹_›

theorem hpf (c : Dev nD) (k : Fin pre0.K) : V m c (pre0.ref k) = tbl m k := by
  obtain rfl : k = (0 : Fin 1) := Subsingleton.elim _ _
  obtain rfl : c = 0 := Subsingleton.elim _ _
  exact V_other m 0 main_arg3 (by decide)

/-- Every run: the arrays end in the relation, and what the host did not write ends unchanged. -/
theorem run_main (g : Dev nD → PrngReg) :
    θ_run (defs (F := F)) (onTc (τ := τ) (main (F := F))) ⟨m, fun _ => 0, g⟩
      fun r => Pipeline.RDat.FramePost (cf m) (rdat m) (fun c b => V m c b) r ∧ r.2.sem = fun _ => 0 :=
  Pipeline.RDat.θ_run_frameP_track (pcfgs (F := F)) (adm m) 0 launch0 defs₀ 𝒱₀ (rdat m) m g main
    (body_obligation m 𝒱₀) (fun c w => by unfold Pipeline.RDat.share; split <;> rfl) (fun _ _ => rfl) (fun c b => V m c b)
    (Pipeline.hmainP_prefix (pcfgs (F := F)) 0 defs₀ 𝒱₀ m main hostOps0 hostOps0_sub ⟨rfl, rfl, rfl⟩ main_chain)
    (fun _ _ => rfl) (hpf m) (fun _ => .rfl) (fun c => by
      show iprop(Pipeline.ΦA (cf m).spec c ∗ Pipeline.ΦT pre0 (tbl m) c) ⊢ _
      iintro ⟨H, -⟩; iexact H) _ (fun _ h => h)

theorem arg_eq (b : Ref sig .tc) (hb : b ≠ main_v0 ∧ b ≠ main_v1 ∧ b ≠ main_v2) (hs : b.isScoped = false)
    (ha : ∀ w, (spec0 w).arr.view.ref ≠ b) (r : PUnit × MemSt nD τ sig (Elt F))
    (h : Pipeline.RDat.FramePost (cf m) (rdat m) (fun c b => V m c b) r) (c : Dev nD) :
    r.2.mem ((c.tc : Thread nD τ).loc b) = m ((c.tc : Thread nD τ).loc b) :=
  ((h c).2 b (Pipeline.mem_restRefs_of b hs ha)).trans (V_other m c b hb)

/-- Every run ends with the arguments unchanged and every semaphore at zero. -/
theorem frame (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c =>
    ⟨arg_eq m main_arg0 (by decide) (by decide) (by decide) r h.1 c, arg_eq m main_arg1 (by decide) (by decide) (by decide) r h.1 c,
     arg_eq m main_arg2 (by decide) (by decide) (by decide) r h.1 c, arg_eq m main_arg3 (by decide) (by decide) (by decide) r h.1 c⟩, h.2⟩) (run_main m g)

end Cert.Proof.K
end
-- ==== Proof.Spec.lean ====
module
public import proofs.«01_k».proof.Proof.Body
public import proofs.«01_k».proof.Proof.Sem

@[expose] public section

/-!
# The contents the body aims at

For every buffer the body writes, what it holds afterwards, as a function of what the body reads: tile by tile the
quantised keys, values and queries, their scales and means, the corrections, and the attention's result.
-/

noncomputable section
namespace Cert.Proof

open Cert.KernelIdeal
open Idealize.ShloMosaic Idealize.SL.Sem
open Idealize.ShloMosaic.TcCoe

/-- A natural number as a row, -/
def f2 (q : Nat) : Fin 2 := ⟨q % 2, Nat.mod_lt _ (by decide)⟩
/-- a head, -/
def f5 (q : Nat) : Fin 5 := ⟨q % 5, Nat.mod_lt _ (by decide)⟩
/-- a block, -/
def f6 (q : Nat) : Fin 6 := ⟨q % 6, Nat.mod_lt _ (by decide)⟩
/-- and a group. -/
def f12 (q : Nat) : Fin 12 := ⟨q % 12, Nat.mod_lt _ (by decide)⟩

theorem f2_val (b : Fin 2) : f2 b.val = b := Fin.ext (Nat.mod_eq_of_lt b.isLt)
theorem f5_val (b : Fin 5) : f5 b.val = b := Fin.ext (Nat.mod_eq_of_lt b.isLt)
theorem f6_val (b : Fin 6) : f6 b.val = b := Fin.ext (Nat.mod_eq_of_lt b.isLt)
theorem f12_val (b : Fin 12) : f12 b.val = b := Fin.ext (Nat.mod_eq_of_lt b.isLt)

section
variable {F : FTy → Type} [FloatOps F]

/-- What the body reads of row `b`. -/
def rowOf (ρ : Env F) (b : Fin 2) : Row F where
  n := ρ.tb ((rLen b).emb (Shape.Idx.first ((one_rLen b).symm ▸ Nat.one_pos)))
  k := fun y => ρ.inp .k ((rK b).emb y)
  v := fun y => ρ.inp .v ((rK b).emb y)
  x := fun j h y => ρ.inp .x ((rX b j h).emb y)

variable (ρ : Env F)

/-! ## The quantisers' results -/

def kcT (b : Fin 2) : Vec F S1x1x64x768 .fp8e4m3 :=
  shapeCast S1x1x64x768 (truncf .fp8e4m3 (kq (rowOf ρ b).n (rowOf ρ b).k) (by decide)) (by decide)
def ktT (b : Fin 2) : Vec F S1x768x64 .fp8e4m3 :=
  shapeCast S1x768x64 (truncf .fp8e4m3 (transpose S768x64 [1, 0] (kq (rowOf ρ b).n (rowOf ρ b).k) (by decide)) (by decide)) (by decide)
def vcT (b : Fin 2) : Vec F S1x1x64x768 .fp8e4m3 :=
  shapeCast S1x1x64x768 (truncf .fp8e4m3 (vq (rowOf ρ b).n (rowOf ρ b).v) (by decide)) (by decide)
def qcT (b : Fin 2) (j : Fin 6) (h : Fin 5) : Vec F S1x1x64x128 .fp8e4m3 :=
  shapeCast S1x1x64x128 (truncf .fp8e4m3 (qq (rowOf ρ b).n j ((rowOf ρ b).x j h)) (by decide)) (by decide)
def ksT : Vec F S1x2x12 .f32 :=
  shapeCast S1x2x12 (concatenate S2x12 0 [⟨S1x12, ksrow (rowOf ρ 0).n (rowOf ρ 0).k⟩, ⟨S1x12, ksrow (rowOf ρ 1).n (rowOf ρ 1).k⟩]
    (show Shape.Concatenates [S1x12, S1x12] S2x12 0 by decide)) (by decide)
def mkT : Vec F S1x2x64 .bf16 :=
  shapeCast S1x2x64 (truncf .bf16 (extractStridedSlice S2x64 ![0, 0] (transpose S128x64 [1, 0] (small (rowOf ρ)) (by decide)) (by decide)) (by decide)) (by decide)
def vsT : Vec F S1x2x64 .f32 :=
  shapeCast S1x2x64 (extractStridedSlice S2x64 ![2, 0] (transpose S128x64 [1, 0] (small (rowOf ρ)) (by decide)) (by decide)) (by decide)
def mqT (j : Fin 6) (h : Fin 5) : Vec F S1x1x2x64 .bf16 :=
  shapeCast S1x1x2x64 (truncf .bf16 (extractStridedSlice S2x64 ![(j.val * 5 + h.val) * 2, 0] (transpose S128x64 [1, 0] (means (rowOf ρ)) (by decide)) (by revert j h; decide)) (by decide)) (by decide)

def kcAll : S2x1x64x768.Idx → Elt F .fp8e4m3 := tile (s := S2x1x64x768) S1x1x64x768.size (by decide) fun q => kcT ρ (f2 (q 0))
def ktAll : S2x768x64.Idx → Elt F .fp8e4m3 := tile (s := S2x768x64) S1x768x64.size (by decide) fun q => ktT ρ (f2 (q 0))
def vcAll : S2x1x64x768.Idx → Elt F .fp8e4m3 := tile (s := S2x1x64x768) S1x1x64x768.size (by decide) fun q => vcT ρ (f2 (q 0))
def qcAll : S2x5x64x768.Idx → Elt F .fp8e4m3 := tile (s := S2x5x64x768) S1x1x64x128.size (by decide) fun q => qcT ρ (f2 (q 0)) (f6 (q 3)) (f5 (q 1))
def mqAll : S6x5x2x64.Idx → Elt F .bf16 := tile (s := S6x5x2x64) S1x1x2x64.size (by decide) fun q => mqT ρ (f6 (q 0)) (f5 (q 1))
def ksAll : S1x2x12.Idx → Elt F .f32 := tile (s := S1x2x12) S1x2x12.size (by decide) fun _ => ksT ρ
def mkAll : S1x2x64.Idx → Elt F .bf16 := tile (s := S1x2x64) S1x2x64.size (by decide) fun _ => mkT ρ
def vsAll : S1x2x64.Idx → Elt F .f32 := tile (s := S1x2x64) S1x2x64.size (by decide) fun _ => vsT ρ

/-- A block's scales added to what was there. -/
def qsT (kv : BitVec 32) (Z : S6x2x45.Idx → Elt F .f32) (j : Fin 6) : Vec F S1x2x45 .f32 :=
  shapeCast S1x2x45 (addf (shapeCast S2x45 (fun y => Z ((rQs j).emb y) : Vec F S1x2x45 .f32) (by decide) : FVec F S2x45 .f32) (qsrow kv (rowOf ρ) j)) (by decide)
def qsAll (kv : BitVec 32) (Z : S6x2x45.Idx → Elt F .f32) : S6x2x45.Idx → Elt F .f32 :=
  tile (s := S6x2x45) S1x2x45.size (by decide) fun q => qsT ρ kv Z (f6 (q 0))

/-! ## The attention's results -/

variable (score msk : F .f32)

/-- The attention's data of row `b`. -/
def att (b : Fin 2) : Att F := attOf score msk (rowOf ρ) b (rowOf ρ b).n

def corrC (b : Fin 2) : FVec F S768x128 .f32 := corrAll (means16 (rowOf ρ)) (ktT ρ b)
def corrT (b : Fin 2) (g : Fin 12) : Vec F S1x64x128 .f32 :=
  shapeCast S1x64x128 (corrOf score (corrC ρ b) (kup (rowOf ρ b).n (rowOf ρ b).k) g) (by decide)
def corrs : S2x768x128.Idx → Elt F .f32 := tile (s := S2x768x128) S1x64x128.size (by decide) fun q => corrT ρ score (f2 (q 0)) (f12 (q 1))

/-- The weights' logarithms of half `u` of tile `c`. -/
def wLog (b : Fin 2) (j : Fin 6) (h : Fin 5) (c : Fin 6) (u : Fin 2) : FVec F S64x128 .f32 :=
  logits score msk keyIx queryIx (rawScore (fun y => ktAll ρ ((rKtt b c).emb y)) (qcT ρ b j h))
    (qup (rowOf ρ b).n j ((rowOf ρ b).x j h)) (kup (rowOf ρ b).n (rowOf ρ b).k (grp c u)) (c.val == j.val) u
    (fun y => corrs ρ score ((rCol b j h (grp c u)).emb y))
def wT (b : Fin 2) (j : Fin 6) (h : Fin 5) (c : Fin 6) (u : Fin 2) : Vec F S1x64x128 .f32 :=
  shapeCast S1x64x128 (wLog ρ score msk b j h c u) (by decide)
def wAll (b : Fin 2) (j : Fin 6) : S5x768x128.Idx → Elt F .f32 :=
  tile (s := S5x768x128) S1x64x128.size (by decide) fun q => wT ρ score msk b j (f5 (q 0)) (f6 (q 1 / 2)) (f2 (q 1))

/-- The running maximum over the tiles a block sees. -/
def mxT (b : Fin 2) (j : Fin 6) (h : Fin 5) : FVec F S8x128 .f32 :=
  (tiles j).foldl (fun m c => [0, 1].foldl (fun m (u : Fin 2) => maxStep m (wLog ρ score msk b j h c u)) m) (broadcast S8x128 msk)

/-- A tile's weights. -/
def pT (b : Fin 2) (j : Fin 6) (h : Fin 5) (c : Fin 6) : FVec F S128x128 .f32 :=
  weights (fun y => wAll ρ score msk b j ((rWt h c).emb y)) (level (mxT ρ score msk b j h))

/-- The sums of the weights and of the weighted values. -/
def aoT (b : Fin 2) (j : Fin 6) (h : Fin 5) : FVec F S8x128 .f32 × FVec F S64x128 .f32 :=
  (tiles j).foldl (fun (ao : FVec F S8x128 .f32 × FVec F S64x128 .f32) c =>
    (accStep ao.1 (pT ρ score msk b j h c), outStep ao.2 (fun y => vcAll ρ ((rVt b c).emb y)) (pT ρ score msk b j h c)))
    (cst S8x128 0x00000000#32, cst S64x128 0x00000000#32)

def outT (b : Fin 2) (j : Fin 6) (h : Fin 5) : Vec F S1x64x128 .bf16 :=
  shapeCast S1x64x128 (truncf .bf16 (finish lane128 (rowOf ρ b).n j (up64 (vmax (rowOf ρ b).n (rowOf ρ b).v))
    (aoT ρ score msk b j h).1 (aoT ρ score msk b j h).2) (by decide)) (by decide)
def outAll : S2x320x768.Idx → Elt F .bf16 :=
  tile (s := S2x320x768) S1x64x128.size (by decide) fun q =>
    if busy (rowOf ρ (f2 (q 0))).n (f6 (q 2)) then outT ρ score msk (f2 (q 0)) (f6 (q 2)) (f5 (q 1)) else fun _ => (Scalar.ofBits .bf16 0x0000#16 : F .bf16)

/-- What every buffer holds after the body, but for `w`, which every query block writes anew, and `qs`, which adds to
what it held: their contents are given. -/
def tgt (Q : S6x2x45.Idx → Elt F .f32) (W : S5x768x128.Idx → Elt F .f32) : St F
  | .out => outAll ρ score msk
  | .qc => qcAll ρ
  | .qs => Q
  | .mq => mqAll ρ
  | .kc => kcAll ρ
  | .ks => ksAll ρ
  | .mk => mkAll ρ
  | .vc => vcAll ρ
  | .vs => vsAll ρ
  | .kt => ktAll ρ
  | .corr => corrs ρ score
  | .w => W

/-! ## They read as their tiles -/

theorem kcAll_at (b : Fin 2) (y : S1x1x64x768.Idx) : kcAll ρ ((rKc b).emb y) = kcT ρ b y :=
  (tile_emb (s := S2x1x64x768) _ _ _ ![b.val, 0, 0, 0] (by revert b; decide) y).trans (congrArg (fun b => kcT ρ b y) (f2_val b))
theorem ktAll_at (b : Fin 2) (y : S1x768x64.Idx) : ktAll ρ ((rKt b).emb y) = ktT ρ b y :=
  (tile_emb (s := S2x768x64) _ _ _ ![b.val, 0, 0] (by revert b; decide) y).trans (congrArg (fun b => ktT ρ b y) (f2_val b))
theorem vcAll_at (b : Fin 2) (y : S1x1x64x768.Idx) : vcAll ρ ((rKc b).emb y) = vcT ρ b y :=
  (tile_emb (s := S2x1x64x768) _ _ _ ![b.val, 0, 0, 0] (by revert b; decide) y).trans (congrArg (fun b => vcT ρ b y) (f2_val b))
theorem qcAll_at (b : Fin 2) (j : Fin 6) (h : Fin 5) (y : S1x1x64x128.Idx) : qcAll ρ ((rQc b j h).emb y) = qcT ρ b j h y :=
  (tile_emb (s := S2x5x64x768) _ _ _ ![b.val, h.val, 0, j.val] (by revert b j h; decide) y).trans (by
    show qcT ρ (f2 b.val) (f6 j.val) (f5 h.val) y = _
    rw [f2_val, f6_val, f5_val])
theorem mqAll_at (j : Fin 6) (h : Fin 5) (y : S1x1x2x64.Idx) : mqAll ρ ((rMq j h).emb y) = mqT ρ j h y :=
  (tile_emb (s := S6x5x2x64) _ _ _ ![j.val, h.val, 0, 0] (by revert j h; decide) y).trans (by
    show mqT ρ (f6 j.val) (f5 h.val) y = _
    rw [f6_val, f5_val])
theorem ksAll_at (y : S1x2x12.Idx) : ksAll ρ (rKs.emb y) = ksT ρ y := tile_emb (s := S1x2x12) _ _ _ ![0, 0, 0] (by decide) y
theorem mkAll_at (y : S1x2x64.Idx) : mkAll ρ (rMk.emb y) = mkT ρ y := tile_emb (s := S1x2x64) _ _ _ ![0, 0, 0] (by decide) y
theorem vsAll_at (y : S1x2x64.Idx) : vsAll ρ (rVs.emb y) = vsT ρ y := tile_emb (s := S1x2x64) _ _ _ ![0, 0, 0] (by decide) y
theorem qsAll_at (kv : BitVec 32) (Z : S6x2x45.Idx → Elt F .f32) (j : Fin 6) (y : S1x2x45.Idx) : qsAll ρ kv Z ((rQs j).emb y) = qsT ρ kv Z j y :=
  (tile_emb (s := S6x2x45) _ _ _ ![j.val, 0, 0] (by revert j; decide) y).trans (congrArg (fun j => qsT ρ kv Z j y) (f6_val j))
theorem corrs_at (b : Fin 2) (g : Fin 12) (y : S1x64x128.Idx) : corrs ρ score ((rCorr b g).emb y) = corrT ρ score b g y :=
  (tile_emb (s := S2x768x128) _ _ _ ![b.val, g.val, 0] (by revert b g; decide) y).trans (by
    show corrT ρ score (f2 b.val) (f12 g.val) y = _
    rw [f2_val, f12_val])
theorem grp_half (c : Fin 6) (u : Fin 2) : f6 ((grp c u).val / 2) = c ∧ f2 (grp c u).val = u := by revert c u; decide
theorem wAll_at (b : Fin 2) (j : Fin 6) (h : Fin 5) (c : Fin 6) (u : Fin 2) (y : S1x64x128.Idx) :
    wAll ρ score msk b j ((rW h (grp c u)).emb y) = wT ρ score msk b j h c u y :=
  (tile_emb (s := S5x768x128) _ _ _ ![h.val, (grp c u).val, 0] (by revert h c u; decide) y).trans (by
    show wT ρ score msk b j (f5 h.val) (f6 ((grp c u).val / 2)) (f2 (grp c u).val) y = _
    rw [f5_val, (grp_half c u).1, (grp_half c u).2])
theorem outAll_at (b : Fin 2) (j : Fin 6) (h : Fin 5) (y : S1x64x128.Idx) :
    outAll ρ score msk ((rX b j h).emb y) = (if busy (rowOf ρ b).n j then outT ρ score msk b j h else fun _ => (Scalar.ofBits .bf16 0x0000#16 : F .bf16)) y :=
  (tile_emb (s := S2x320x768) _ _ _ ![b.val, h.val, j.val] (by revert b j h; decide) y).trans (by
    show (if busy (rowOf ρ (f2 b.val)).n (f6 j.val) then outT ρ score msk (f2 b.val) (f6 j.val) (f5 h.val) else fun _ => (Scalar.ofBits .bf16 0x0000#16 : F .bf16)) y = _
    rw [f2_val, f6_val, f5_val])
theorem outAll_zero (b : Fin 2) (j : Fin 6) (hb : ¬ busy (rowOf ρ b).n j) (y : S1x320x128.Idx) :
    outAll ρ score msk ((rZero b j).emb y) = (Scalar.ofBits .bf16 0x0000#16 : F .bf16) := by
  have h0 : f2 (((rZero b j).emb y 0).val / 1) = b := by
    rw [unit_emb_val]
    have : (y 0).val < 1 := (y 0).isLt
    have e : (b.val + (y 0).val) / 1 = b.val := by omega
    exact (congrArg f2 e).trans (f2_val b)
  have h2 : f6 (((rZero b j).emb y 2).val / 128) = j := by
    rw [unit_emb_val]
    have : (y 2).val < 128 := (y 2).isLt
    have e : (j.val * 128 + (y 2).val) / 128 = j.val := by omega
    exact (congrArg f6 e).trans (f6_val j)
  show (if busy (rowOf ρ (f2 (((rZero b j).emb y 0).val / 1))).n (f6 (((rZero b j).emb y 2).val / 128)) then outT ρ score msk _ _ _ else fun _ => (Scalar.ofBits .bf16 0x0000#16 : F .bf16)) _ = _
  rw [h0, h2, if_neg hb]

end
end Cert.Proof
end
-- ==== Proof.Steps.lean ====
module
public import proofs.«01_k».proof.Proof.Spec

@[expose] public section

/-!
# The body reaches its contents

Each part of the body, run where what it reads holds already, returns the values and makes the contents of `Spec`.
-/

noncomputable section
namespace Cert.Proof

open Cert.KernelIdeal
open Idealize.ShloMosaic Idealize.SL.Sem
open Idealize.ShloMosaic.TcCoe

theorem mem_onRect {r : Rf} {R : Rect r.shape} {x : r.shape.Idx} : x ∈ onRect r R r ↔ ∃ y, R.emb y = x := by
  unfold onRect
  rw [Function.update_self]
  exact Iff.rfl

section
variable {F : FTy → Type} [FloatOps F] {ρ : Env F} {T T' : St F} {α β : Type} {P P' e e' : Dom}

theorem Does.loadv {r : Rf} {R : Rect r.shape} {h : 0 < R.shape.numel} {v : R.shape.Idx → Elt F r.elt}
    (hv : ∀ y, T r (R.emb y) = v y) (hP : ∀ y, R.emb y ∈ P r) : Does ρ T (Cmd.load r R h) v P ⊥ := by
  have := Does.load (ρ := ρ) (T := T) r R h hP
  rwa [show (fun y => T r (R.emb y)) = v from funext hv] at this

theorem Does.to {c : Cmd F α} {a : α} (h : Does ρ T c a P e) (he : e' ≤ e) : Does ρ T c a P e' := h.weaken le_rfl he

/-! ## Runs that may change `w` -/

/-- Places but those of `w`. -/
def off (D : Dom) : Dom := Function.update D .w ∅

theorem off_mono {D D' : Dom} (h : D ≤ D') : off D ≤ off D' := by
  intro r
  unfold off
  by_cases hr : r = .w
  · subst hr; rw [Function.update_self, Function.update_self]
  · rw [Function.update_of_ne hr, Function.update_of_ne hr]; exact h r

theorem off_le (D : Dom) : off D ≤ D := by
  intro r
  unfold off
  by_cases hr : r = .w
  · subst hr; rw [Function.update_self]; exact bot_le
  · rw [Function.update_of_ne hr]

theorem off_sup_le {D e : Dom} : off (D ⊔ e) ≤ off D ⊔ e := by
  intro r
  unfold off
  by_cases hr : r = .w
  · subst hr; rw [Function.update_self]; exact bot_le
  · rw [Function.update_of_ne hr, Pi.sup_apply, Pi.sup_apply, Function.update_of_ne hr]

theorem le_off {D : Dom} (h : P .w = ∅) (hP : P ≤ D) : P ≤ off D := by
  intro r
  unfold off
  by_cases hr : r = .w
  · subst hr; rw [h]; exact bot_le
  · rw [Function.update_of_ne hr]; exact hP r

/-- `Does`, with no regard to what `w` holds. -/
def DoesW (ρ : Env F) (T : St F) {α : Type} (c : Cmd F α) (a : α) (P e : Dom) : Prop :=
  ∀ (D : Dom) (σ : St F), P ≤ D → Ag T (off D) σ → (run ρ c σ).1 = a ∧ Ag T (off (D ⊔ e)) (run ρ c σ).2

theorem DoesW.bind {c : Cmd F α} {f : α → Cmd F β} {a : α} {b : β} (hc : DoesW ρ T c a P e)
    (hf : DoesW ρ T (f a) b (P ⊔ e) e') : DoesW ρ T (Cmd.bind c f) b P (e ⊔ e') := by
  intro D σ hD hσ
  obtain ⟨h1, h2⟩ := hc D σ hD hσ
  obtain ⟨h3, h4⟩ := hf (D ⊔ e) (run ρ c σ).2 (sup_le_sup_right hD e) h2
  have hr : run ρ (Cmd.bind c f) σ = run ρ (f (run ρ c σ).1) (run ρ c σ).2 := rfl
  rw [hr, h1]
  exact ⟨h3, h4.mono (by rw [sup_assoc])⟩

theorem DoesW.ret (a : α) : DoesW ρ T (Cmd.ret a) a P ⊥ :=
  fun D _ _ hσ => ⟨rfl, hσ.mono (off_mono (sup_le le_rfl bot_le))⟩

theorem DoesW.weaken {c : Cmd F α} {a : α} (h : DoesW ρ T c a P e) (hP : P ≤ P') (he : e' ≤ e) : DoesW ρ T c a P' e' :=
  fun D σ hD hσ => ⟨(h D σ (hP.trans hD) hσ).1, (h D σ (hP.trans hD) hσ).2.mono (off_mono (sup_le_sup_left he D))⟩

theorem DoesW.scope {c : Cmd F α} {a : α} (h : DoesW ρ T c a P e) : DoesW ρ T (Cmd.scope c) a P e := h

/-- A run at other contents of `w`. -/
theorem Does.hide {c : Cmd F α} {a : α} (h : Does ρ T' c a P' e) (hT : ∀ r, r ≠ .w → T' r = T r) (hw : P' .w = ∅)
    (hP : P' ≤ P) : DoesW ρ T c a P e := by
  have key : ∀ (D : Dom) (σ : St F), Ag T (off D) σ ↔ Ag T' (off D) σ := fun D σ =>
    forall_congr' fun r => by
      by_cases hr : r = .w
      · subst hr
        unfold off
        rw [Function.update_self]
        exact ⟨fun _ x hx => absurd hx (Set.notMem_empty x), fun _ x hx => absurd hx (Set.notMem_empty x)⟩
      · rw [hT r hr]
  intro D σ hD hσ
  obtain ⟨h1, h2⟩ := h (off D) σ (le_off hw (hP.trans hD)) ((key D σ).mp hσ)
  exact ⟨h1, (key _ _).mpr (h2.mono off_sup_le)⟩

theorem Does.toW {c : Cmd F α} {a : α} (h : Does ρ T c a P' e) (hw : P' .w = ∅) (hP : P' ≤ P) : DoesW ρ T c a P e :=
  h.hide (fun _ _ => rfl) hw hP

end

section
variable {F : FTy → Type} [FloatOps F] (ρ : Env F) (score msk : F .f32) (Q : S6x2x45.Idx → Elt F .f32) (W : S5x768x128.Idx → Elt F .f32)
variable {P : Dom}

/-! ## The quantisers -/

theorem query_does (b : Fin 2) (j : Fin 6) (h : Fin 5) :
    Does ρ (tgt ρ score msk Q W) (query (rowOf ρ b).n b j h) ((rowOf ρ b).x j h) P (onRect .qc (rQc b j h)) := by
  unfold query
  exact Does.to (Does.bind (Does.rload _ _ _) (Does.bind (Does.put .qc (rQc b j h) _ _ _ fun y => (qcAll_at ρ b j h y).symm) (Does.ret _))) (by simp)

/-- What a row makes. -/
def rowDom (b : Fin 2) : Dom :=
  onRect .kc (rKc b) ⊔ (onRect .kt (rKt b) ⊔ (onRect .vc (rKc b) ⊔ ⨆ j : Fin 6, ⨆ h : Fin 5, onRect .qc (rQc b j h)))

theorem row_does (b : Fin 2) : Does ρ (tgt ρ score msk Q W) (row b) (rowOf ρ b) P (rowDom b) := by
  unfold row
  exact Does.to (Does.bind (Does.len _ _) (Does.bind (Does.rload _ _ _) (Does.bind (Does.put .kc (rKc b) _ _ _ fun y => (kcAll_at ρ b y).symm)
    (Does.bind (Does.put .kt (rKt b) _ _ _ fun y => (ktAll_at ρ b y).symm) (Does.bind (Does.rload _ _ _)
    (Does.bind (Does.put .vc (rKc b) _ _ _ fun y => (vcAll_at ρ b y).symm)
    (Does.bind (Does.tab 6 _ (rowOf ρ b).x (fun j => ⨆ h : Fin 5, onRect .qc (rQc b j h)) fun j =>
      Does.tab 5 _ ((rowOf ρ b).x j) (fun h => onRect .qc (rQc b j h)) fun h => query_does ρ score msk Q W b j h)
      (Does.ret _))))))))  (by simp [rowDom])

theorem rows_does : Does ρ (tgt ρ score msk Q W) (Cmd.tab 2 row) (rowOf ρ) P (⨆ b, rowDom b) :=
  Does.tab 2 _ _ _ fun b => row_does ρ score msk Q W b

/-- The scales and means but the queries' scales. -/
def gatherRest (L : Fin 2 → Row F) : Cmd F PUnit := do
  Cmd.put .ks rKs (shapeCast S1x2x12 (concatenate S2x12 0 [⟨S1x12, ksrow (L 0).n (L 0).k⟩, ⟨S1x12, ksrow (L 1).n (L 1).k⟩]
    (show Shape.Concatenates [S1x12, S1x12] S2x12 0 by decide)) (by decide)) (h_rKs) (p_rKs)
  Cmd.put .mk rMk (shapeCast S1x2x64 (truncf .bf16 (extractStridedSlice S2x64 ![0, 0] (transpose S128x64 [1, 0] (small L) (by decide)) (by decide)) (by decide)) (by decide)) (h_rMk) (p_rMk)
  Cmd.put .vs rVs (shapeCast S1x2x64 (extractStridedSlice S2x64 ![2, 0] (transpose S128x64 [1, 0] (small L) (by decide)) (by decide)) (by decide)) (h_rVs) (p_rVs)
  Cmd.each blocks fun j => Cmd.each heads fun h =>
    Cmd.put .mq (rMq j h) (shapeCast S1x1x2x64 (truncf .bf16 (extractStridedSlice S2x64 ![(j.val * 5 + h.val) * 2, 0] (transpose S128x64 [1, 0] (means L) (by decide)) (by revert j h; decide)) (by decide)) (by decide)) (h_rMq j h) (p_rMq j h)

def gatherDom : Dom := onRect .ks rKs ⊔ (onRect .mk rMk ⊔ (onRect .vs rVs ⊔ ⨆ j ∈ blocks, ⨆ h ∈ heads, onRect .mq (rMq j h)))

theorem gatherRest_does : Does ρ (tgt ρ score msk Q W) (gatherRest (rowOf ρ)) ⟨⟩ P gatherDom := by
  unfold gatherRest
  exact Does.bind (Does.put .ks rKs _ _ _ fun y => (ksAll_at ρ y).symm) (Does.bind (Does.put .mk rMk _ _ _ fun y => (mkAll_at ρ y).symm)
    (Does.bind (Does.put .vs rVs _ _ _ fun y => (vsAll_at ρ y).symm) (Does.each _ _ _ fun j _ => Does.each _ _ _ fun h _ =>
      Does.put .mq (rMq j h) _ _ _ fun y => (mqAll_at ρ j h y).symm)))

/-- A block's scales, added. -/
def qsStep (kv : BitVec 32) (L : Fin 2 → Row F) (j : Fin 6) : Cmd F PUnit := do
  let s ← Cmd.load .qs (rQs j) (h_rQs j)
  Cmd.put .qs (rQs j) (shapeCast S1x2x45 (addf (shapeCast S2x45 s (show S1x2x45.ShapeCasts S2x45 by decide) : FVec F S2x45 .f32) (qsrow kv L j)) (by decide)) (h_rQs j) (p_rQs j)

theorem gather_eq (kv : BitVec 32) (L : Fin 2 → Row F) : gather kv L = Cmd.bind (Cmd.each blocks (qsStep kv L)) fun _ => gatherRest L := rfl

theorem rQs_mem (j : Fin 6) (x : S6x2x45.Idx) : (∃ y, (rQs j).emb y = x) ↔ f6 (x 0).val = j := by
  have hx : (x 0).val < 6 := (x 0).isLt
  constructor
  · rintro ⟨y, rfl⟩
    rw [unit_emb_val]
    have : (y 0).val < 1 := (y 0).isLt
    have e : j.val + (y 0).val = j.val := by omega
    exact (congrArg f6 e).trans (f6_val j)
  · intro h
    have h' : (x 0).val = j.val := by rw [← h]; exact (Nat.mod_eq_of_lt hx).symm
    refine mem_unit _ _ fun a => ?_
    match a with
    | ⟨0, _⟩ => show j.val ≤ (x 0).val ∧ (x 0).val < j.val + 1; omega
    | ⟨1, _⟩ => exact ⟨Nat.zero_le _, by show (x 1).val < 0 + 2; have : (x 1).val < 2 := (x 1).isLt; omega⟩
    | ⟨2, _⟩ => exact ⟨Nat.zero_le _, by show (x 2).val < 0 + 45; have : (x 2).val < 45 := (x 2).isLt; omega⟩

theorem qsAll_congr (kv : BitVec 32) (Z Z' : S6x2x45.Idx → Elt F .f32) (x : S6x2x45.Idx)
    (h : ∀ y, Z ((rQs (f6 (x 0).val)).emb y) = Z' ((rQs (f6 (x 0).val)).emb y)) : qsAll ρ kv Z x = qsAll ρ kv Z' x := by
  have e : (x 0).val / 1 = (x 0).val := Nat.div_one _
  show qsT ρ kv Z (f6 ((x 0).val / 1)) _ = qsT ρ kv Z' (f6 ((x 0).val / 1)) _
  rw [e]
  unfold qsT
  have h' : (fun y => Z ((rQs (f6 (x 0).val)).emb y) : Vec F S1x2x45 .f32) = fun y => Z' ((rQs (f6 (x 0).val)).emb y) := funext h
  exact congrArg (fun v : Vec F S1x2x45 .f32 => shapeCast S1x2x45 (addf (shapeCast S2x45 v (show S1x2x45.ShapeCasts S2x45 by decide) : FVec F S2x45 .f32) (qsrow kv (rowOf ρ) (f6 (x 0).val))) (show S2x45.ShapeCasts S1x2x45 by decide) _) h'

/-- What adding the scales leaves. -/
theorem qsSteps (kv : BitVec 32) (l : List (Fin 6)) (hl : l.Nodup) (σ : St F) :
    run ρ (Cmd.each l (qsStep kv (rowOf ρ))) σ
      = (⟨⟩, σ.set .qs (fun x => if f6 (x 0).val ∈ l then qsAll ρ kv (σ .qs) x else σ .qs x)) := by
  induction l generalizing σ with
  | nil =>
    refine Prod.ext rfl ?_
    show σ = Function.update σ .qs _
    refine (Function.update_eq_self_iff.mpr ?_).symm
    funext x
    exact if_neg List.not_mem_nil
  | cons j l ih =>
    obtain ⟨hj, hl⟩ := List.nodup_cons.mp hl
    have h1 : run ρ (Cmd.each (j :: l) (qsStep kv (rowOf ρ))) σ
        = run ρ (Cmd.each l (qsStep kv (rowOf ρ))) (σ.set .qs (upd (rQs j) (qsT ρ kv (σ .qs) j) (σ .qs))) := rfl
    rw [h1, ih hl]
    refine Prod.ext rfl ?_
    show Function.update (Function.update σ .qs _) .qs _ = Function.update σ .qs _
    rw [Function.update_idem]
    refine congrArg _ (funext fun x => ?_)
    rw [show (σ.set .qs (upd (rQs j) (qsT ρ kv (σ .qs) j) (σ .qs))) .qs = upd (rQs j) (qsT ρ kv (σ .qs) j) (σ .qs) from Function.update_self ..]
    by_cases hxj : f6 (x 0).val = j
    · rw [if_neg (by rw [hxj]; exact hj), if_pos (by rw [hxj]; exact List.mem_cons_self)]
      obtain ⟨y, rfl⟩ := (rQs_mem j x).mpr hxj
      rw [upd_emb]
      exact (qsAll_at ρ kv (σ .qs) j y).symm
    · have hX : ∀ x' : S6x2x45.Idx, f6 (x' 0).val ≠ j → upd (rQs j) (qsT ρ kv (σ .qs) j) (σ .qs) x' = σ .qs x' := fun x' h =>
        upd_of_not _ _ _ _ fun hy => h ((rQs_mem j x').mp hy)
      by_cases hxl : f6 (x 0).val ∈ l
      · rw [if_pos hxl, if_pos (List.mem_cons_of_mem j hxl)]
        exact qsAll_congr ρ kv _ _ x fun y => hX _ (by rw [(rQs_mem _ _).mp ⟨y, rfl⟩]; exact hxj)
      · rw [if_neg hxl, if_neg (fun h => by rcases List.mem_cons.mp h with h | h <;> contradiction), hX x hxj]

/-! ## The attention -/

/-- The codes the attention reads, -/
def codes : Dom
  | .kt => Set.univ
  | .vc => Set.univ
  | .qc => Set.univ
  | _ => ∅

/-- with a row's corrections. -/
def need (b : Fin 2) : Dom
  | .kt => Set.univ
  | .vc => Set.univ
  | .qc => Set.univ
  | .corr => {x : S2x768x128.Idx | (x 0).val = b.val}
  | _ => ∅

theorem w_cover (j : Fin 6) (h : Fin 5) (c : Fin 6) (hc : c ∈ tiles j) (y : S1x128x128.Idx) :
    (rWt h c).emb y ∈ (⨆ c ∈ tiles j, ⨆ u ∈ ([0, 1] : List (Fin 2)), onRect .w (rW h (grp c u))) .w := by
  have hy1 : (y 1).val < 128 := (y 1).isLt
  have hy0 : (y 0).val < 1 := (y 0).isLt
  have hy2 : (y 2).val < 128 := (y 2).isLt
  have hu : (y 1).val / 64 < 2 := by omega
  have hmem : (⟨(y 1).val / 64, hu⟩ : Fin 2) ∈ ([0, 1] : List (Fin 2)) := by
    generalize (⟨(y 1).val / 64, hu⟩ : Fin 2) = u
    revert u; decide
  have hle : onRect .w (rW h (grp c ⟨(y 1).val / 64, hu⟩)) ≤ ⨆ c ∈ tiles j, ⨆ u ∈ ([0, 1] : List (Fin 2)), onRect .w (rW h (grp c u)) :=
    (le_iSup₂ (f := fun u (_ : u ∈ ([0, 1] : List (Fin 2))) => onRect .w (rW h (grp c u))) _ hmem).trans
      (le_iSup₂ (f := fun c (_ : c ∈ tiles j) => ⨆ u ∈ ([0, 1] : List (Fin 2)), onRect .w (rW h (grp c u))) c hc)
  refine hle .w (mem_onRect.mpr (mem_unit _ _ fun a => ?_))
  rw [unit_emb_val]
  match a with
  | ⟨0, _⟩ => show h.val ≤ h.val + (y 0).val ∧ h.val + (y 0).val < h.val + 1; omega
  | ⟨1, _⟩ =>
    show (c.val * 2 + (y 1).val / 64) * 64 ≤ c.val * 128 + (y 1).val ∧ c.val * 128 + (y 1).val < (c.val * 2 + (y 1).val / 64) * 64 + 64
    omega
  | ⟨2, _⟩ => show 0 ≤ 0 + (y 2).val ∧ 0 + (y 2).val < 0 + 128; omega

theorem head_does (b : Fin 2) (j : Fin 6) (h : Fin 5) (hb : busy (rowOf ρ b).n j) (hP : need b ≤ P) :
    Does ρ (tgt ρ score msk Q (wAll ρ score msk b j)) (head (att ρ score msk b) b j h) ⟨⟩ P (onRect .out (rX b j h)) := by
  have hcol : ∀ (g : Fin 12) (y : S1x64x1.Idx), (rCol b j h g).emb y ∈ P .corr := fun g y => hP .corr (by
    show ((rCol b j h g).emb y 0).val = b.val
    rw [unit_emb_val]
    have : (y 0).val < 1 := (y 0).isLt
    show b.val + (y 0).val = b.val; omega)
  unfold head
  refine Does.to (Does.bind (Does.loadv (r := .qc) (R := rQc b j h) (fun y => qcAll_at ρ b j h y) (fun y => hP .qc trivial)) (Does.bind
    (Does.fold (tiles j) _ (fun m c => [0, 1].foldl (fun m (u : Fin 2) => maxStep m (wLog ρ score msk b j h c u)) m)
      (fun c => ⨆ u ∈ ([0, 1] : List (Fin 2)), onRect .w (rW h (grp c u))) _ fun m c hc => ?_)
    (Does.bind (Does.fold (tiles j) _ (fun ao c => (accStep ao.1 (pT ρ score msk b j h c), outStep ao.2 (fun y => vcAll ρ ((rVt b c).emb y)) (pT ρ score msk b j h c)))
      (fun _ => ⊥) _ fun ao c hc => ?_)
      (Does.put .out (rX b j h) _ _ _ fun y => ?_)))) ?_
  · exact Does.to (Does.bind (Does.load .kt (rKtt b c) _ (fun y => le_sup_left (a := P) .kt (hP .kt trivial)))
          (Does.fold [0, 1] _ (fun m u => maxStep m (wLog ρ score msk b j h c u)) (fun u => onRect .w (rW h (grp c u))) _ fun m u _ =>
            Does.to (Does.bind (Does.load .corr (rCol b j h (grp c u)) _ (fun y => le_sup_left (a := P ⊔ ⊥) .corr (le_sup_left (a := P) .corr (hcol _ y))))
              (Does.bind (Does.put .w (rW h (grp c u)) _ _ _ fun y => (wAll_at ρ score msk b j h c u y).symm) (Does.ret _))) (by simp))) (by simp)
  · exact Does.to (Does.bind (Does.load .w (rWt h c) _ (fun y => le_sup_right (a := P ⊔ ⊥) .w (w_cover j h c hc y)))
          (Does.bind (Does.load .vc (rVt b c) _ (fun y => Or.inl (Or.inl (Or.inl (hP .vc trivial))))) (Does.ret _))) bot_le
  rotate_left
  · simp
  refine (((outAll_at ρ score msk b j h y).trans ?_)).symm
  rw [if_pos hb]
  rfl

/-- What a busy block makes of the result, -/
def eW (b : Fin 2) (j : Fin 6) : Dom
  | .out => {x : S2x320x768.Idx | busy (rowOf ρ b).n j ∧ (x 0).val = b.val ∧ (x 2).val / 128 = j.val}
  | _ => ∅

/-- and an idle one. -/
def eR (b : Fin 2) (j : Fin 6) : Dom
  | .out => {x : S2x320x768.Idx | idle (rowOf ρ b).n j ∧ (x 0).val = b.val ∧ (x 2).val / 128 = j.val}
  | _ => ∅

theorem mem_heads (h : Fin 5) : h ∈ heads := by revert h; decide

theorem work_does (b : Fin 2) (j : Fin 6) (hP : need b ≤ P) :
    Does ρ (tgt ρ score msk Q (wAll ρ score msk b j)) (work (att ρ score msk b) b j) ⟨⟩ P (eW ρ b j) := by
  refine (Does.ite (fun hb => Does.each heads _ (fun h => onRect .out (rX b j h)) fun h _ => head_does ρ score msk Q b j h hb hP)
    (fun _ => Does.ret _)).weaken le_rfl ?_
  intro r x hx
  cases r
  case out =>
    obtain ⟨hb, h0, h2⟩ := hx
    have hx1 : (x 1).val < 320 := (x 1).isLt
    refine ⟨hb, (le_iSup₂ (f := fun h (_ : h ∈ heads) => onRect .out (rX b j h)) ⟨(x 1).val / 64, by omega⟩ (mem_heads _)) .out (mem_onRect.mpr (mem_unit _ _ fun a => ?_))⟩
    match a with
    | ⟨0, _⟩ => show b.val ≤ (x 0).val ∧ (x 0).val < b.val + 1; omega
    | ⟨1, _⟩ => show (x 1).val / 64 * 64 ≤ (x 1).val ∧ (x 1).val < (x 1).val / 64 * 64 + 64; omega
    | ⟨2, _⟩ => show j.val * 128 ≤ (x 2).val ∧ (x 2).val < j.val * 128 + 128; omega
  all_goals exact False.elim hx

theorem work_doesW (b : Fin 2) (j : Fin 6) (hP : need b ≤ P) :
    DoesW ρ (tgt ρ score msk Q W) (work (att ρ score msk b) b j) ⟨⟩ P (eW ρ b j) :=
  (work_does ρ score msk Q b j le_rfl).hide (fun r hr => by cases r <;> first | rfl | exact absurd rfl hr) rfl hP

theorem idle_iff (n : BitVec 32) (j : Fin 6) : idle n j ↔ ¬ busy n j := by
  have key : ∀ b : Bool, Scalar.cmpi (w := 32) .ne (Scalar.extui (BitVec.ofBool b)) 0#32 = 1#1 ↔ b = true := by
    intro b; cases b <;> decide
  have h1 : busy n j ↔ (i32 (j.val * 128)).slt n = true := key _
  have h2 : idle n j ↔ n.sle (i32 (j.val * 128)) = true := key _
  rw [h1, h2]
  simp [BitVec.slt, BitVec.sle]

theorem rest_does (b : Fin 2) (j : Fin 6) :
    Does ρ (tgt ρ score msk Q W) (rest (rowOf ρ b).n b j) ⟨⟩ P (eR ρ b j) := by
  refine (Does.ite (fun hb => Does.put .out (rZero b j) _ _ _ fun y => (outAll_zero ρ score msk b j ((idle_iff _ _).mp hb) y).symm)
    (fun _ => Does.ret _)).weaken le_rfl ?_
  intro r x hx
  cases r
  case out =>
    obtain ⟨hb, h0, h2⟩ := hx
    have hx1 : (x 1).val < 320 := (x 1).isLt
    refine ⟨hb, mem_onRect.mpr (mem_unit _ _ fun a => ?_)⟩
    match a with
    | ⟨0, _⟩ => show b.val ≤ (x 0).val ∧ (x 0).val < b.val + 1; omega
    | ⟨1, _⟩ => show 0 ≤ (x 1).val ∧ (x 1).val < 0 + 320; omega
    | ⟨2, _⟩ => show j.val * 128 ≤ (x 2).val ∧ (x 2).val < j.val * 128 + 128; omega
  all_goals exact False.elim hx

theorem rest_doesW (b : Fin 2) (j : Fin 6) : DoesW ρ (tgt ρ score msk Q W) (rest (rowOf ρ b).n b j) ⟨⟩ P (eR ρ b j) :=
  (rest_does (P := ⊥) ρ score msk Q W b j).toW rfl bot_le

theorem putCorr_does (b : Fin 2) (g : Fin 12) :
    Does ρ (tgt ρ score msk Q W) (putCorr score b (corrC ρ b) (kup (rowOf ρ b).n (rowOf ρ b).k) g) ⟨⟩ P (onRect .corr (rCorr b g)) :=
  Does.put _ _ _ _ _ fun y => (corrs_at ρ score b g y).symm

theorem putCorrs_doesW (b : Fin 2) (l : List (Fin 12)) :
    DoesW ρ (tgt ρ score msk Q W) (Cmd.each l (putCorr score b (corrC ρ b) (kup (rowOf ρ b).n (rowOf ρ b).k))) ⟨⟩ P (⨆ g ∈ l, onRect .corr (rCorr b g)) :=
  (Does.each (P := ⊥) l _ _ fun g _ => putCorr_does ρ score msk Q W b g).toW rfl bot_le

theorem loadKt_doesW (b : Fin 2) (hP : codes ≤ P) :
    DoesW ρ (tgt ρ score msk Q W) (Cmd.load .kt (rKt b) (h_rKt b)) (ktT ρ b) P ⊥ :=
  (Does.loadv (P := codes) (r := .kt) (R := rKt b) (fun y => ktAll_at ρ b y) fun _ => trivial).toW rfl hP

theorem need_of {D : Dom} (b : Fin 2) (hD : codes ≤ D) (hc : ∀ g, onRect .corr (rCorr b g) ≤ D) : need b ≤ D := by
  intro r x hx
  cases r
  case kt => exact hD .kt trivial
  case vc => exact hD .vc trivial
  case qc => exact hD .qc trivial
  case corr =>
    have h0 : (x 0).val = b.val := hx
    have h1 : (x 1).val < 768 := (x 1).isLt
    have h2 : (x 2).val < 128 := (x 2).isLt
    refine hc ⟨(x 1).val / 64, by omega⟩ .corr (mem_onRect.mpr (mem_unit _ _ fun a => ?_))
    match a with
    | ⟨0, _⟩ => show b.val ≤ (x 0).val ∧ (x 0).val < b.val + 1; omega
    | ⟨1, _⟩ => show (x 1).val / 64 * 64 ≤ (x 1).val ∧ (x 1).val < (x 1).val / 64 * 64 + 64; omega
    | ⟨2, _⟩ => show 0 ≤ (x 2).val ∧ (x 2).val < 0 + 128; omega
  all_goals exact False.elim hx

theorem le_each {ι : Type} {l : List ι} (E : ι → Dom) {i : ι} (hi : i ∈ l) : E i ≤ ⨆ i ∈ l, E i := le_iSup₂ (f := fun i (_ : i ∈ l) => E i) i hi

end
end Cert.Proof
end
-- ==== Proof.Reach.lean ====
module
public import proofs.«01_k».proof.Proof.Steps

@[expose] public section

/-!
# What the whole body leaves

The parts of `Steps` put together: after the body every result's buffer holds the contents of `Spec`.
-/

noncomputable section
namespace Cert.Proof

open Cert.KernelIdeal
open Idealize.ShloMosaic Idealize.SL.Sem
open Idealize.ShloMosaic.TcCoe

section
variable {F : FTy → Type} [FloatOps F] (ρ : Env F) (score msk : F .f32) (Q : S6x2x45.Idx → Elt F .f32) (W : S5x768x128.Idx → Elt F .f32)
variable {P : Dom}

theorem DoesW.to {T : St F} {α : Type} {e e' : Dom} {c : Cmd F α} {a : α} (h : DoesW ρ T c a P e) (he : e' ≤ e) : DoesW ρ T c a P e' := h.weaken le_rfl he

theorem lenW (T : St F) (b : Fin 2) : DoesW ρ T (Cmd.len (rLen b) (one_rLen b)) (rowOf ρ b).n P ⊥ :=
  (Does.len (P := ⊥) (rLen b) (one_rLen b)).toW rfl bot_le

/-- The results of a row's first block, -/
def outs1 (b : Fin 2) : Dom := eW ρ b 0
/-- and of its others but the last's zeros. -/
def outs2 (b : Fin 2) : Dom := eR ρ b 0 ⊔ (eW ρ b 1 ⊔ (eR ρ b 1 ⊔ (eW ρ b 2 ⊔ (eR ρ b 2 ⊔ (eW ρ b 3 ⊔ (eR ρ b 3 ⊔ (eW ρ b 4 ⊔ (eR ρ b 4 ⊔ eW ρ b 5))))))))

theorem cut1_does (hP : codes ≤ P) (hC : ∀ g ∈ ([0, 1, 2, 3, 4, 5, 6] : List (Fin 12)), onRect .corr (rCorr 0 g) ≤ P) :
    DoesW ρ (tgt ρ score msk Q W) (cut1 (att ρ score msk 0) (corrC ρ 0) (corrT ρ score 0 7)) 0#32 P (need 0 ⊔ outs1 ρ 0) := by
  unfold cut1
  have hn : need 0 ≤ P ⊔ onRect .corr (rCorr 0 7) ⊔ ⨆ g ∈ ([8, 9, 10, 11] : List (Fin 12)), onRect .corr (rCorr 0 g) := by
    refine need_of 0 (le_sup_of_le_left (le_sup_of_le_left hP)) fun g => ?_
    have hg : g ∈ ([0, 1, 2, 3, 4, 5, 6] : List (Fin 12)) ∨ g = 7 ∨ g ∈ ([8, 9, 10, 11] : List (Fin 12)) := by revert g; decide
    rcases hg with hg | rfl | hg
    · exact le_sup_of_le_left (le_sup_of_le_left (hC g hg))
    · exact le_sup_of_le_left le_sup_right
    · exact le_sup_of_le_right (le_each (fun g => onRect .corr (rCorr 0 g)) hg)
  have h := DoesW.bind ((Does.store (ρ := ρ) (T := tgt ρ score msk Q W) (P := ⊥) .corr (rCorr 0 7) (corrT ρ score 0 7) (h_rCorr 0 7) (p_rCorr 0 7)
      fun y => (corrs_at ρ score 0 7 y).symm).toW rfl (bot_le (a := P)))
    (f := fun _ => Cmd.bind (Cmd.each [8, 9, 10, 11] (putCorr score 0 (corrC ρ 0) (kup (rowOf ρ 0).n (rowOf ρ 0).k))) fun _ =>
      Cmd.bind (work (att ρ score msk 0) 0 0) fun _ => Cmd.ret 0#32)
    (DoesW.bind (putCorrs_doesW ρ score msk Q W 0 [8, 9, 10, 11]) (DoesW.bind (work_doesW ρ score msk Q W 0 0 hn) (DoesW.ret _)))
  intro D σ hD hσ
  obtain ⟨h1, h2⟩ := h D σ hD hσ
  refine ⟨h1, h2.mono (off_mono (sup_le le_sup_left (sup_le ?_ ?_)))⟩
  · refine hn.trans (sup_le (sup_le (hD.trans le_sup_left) ?_) ?_)
    · exact le_sup_of_le_right le_sup_left
    · exact le_sup_of_le_right (le_sup_of_le_right le_sup_left)
  · exact le_sup_of_le_right (le_sup_of_le_right (le_sup_of_le_right le_sup_left))

theorem cut2_does (b : Fin 2) (r : BitVec 32) (hP : need b ≤ P) :
    DoesW ρ (tgt ρ score msk Q W) (cut2 (att ρ score msk b) b r) r P (outs2 ρ b) := by
  have W' : ∀ (j : Fin 6) {D : Dom}, need b ≤ D → DoesW ρ (tgt ρ score msk Q W) (work (att ρ score msk b) b j) ⟨⟩ D (eW ρ b j) :=
    fun j _ hD => work_doesW ρ score msk Q W b j hD
  have R' : ∀ (j : Fin 6) {D : Dom}, DoesW ρ (tgt ρ score msk Q W) (rest (att ρ score msk b).n b j) ⟨⟩ D (eR ρ b j) :=
    fun j _ => rest_doesW ρ score msk Q W b j
  have l1 : ∀ {D e : Dom}, need b ≤ D → need b ≤ D ⊔ e := fun h => le_sup_of_le_left h
  unfold cut2
  refine DoesW.to ρ (DoesW.bind (R' 0) (DoesW.bind (W' 1 (l1 hP)) (DoesW.bind (R' 1) (DoesW.bind (W' 2 (l1 (l1 (l1 hP))))
    (DoesW.bind (R' 2) (DoesW.bind (W' 3 (l1 (l1 (l1 (l1 (l1 hP)))))) (DoesW.bind (R' 3) (DoesW.bind (W' 4 (l1 (l1 (l1 (l1 (l1 (l1 (l1 hP))))))))
    (DoesW.bind (R' 4) (DoesW.bind (W' 5 (l1 (l1 (l1 (l1 (l1 (l1 (l1 (l1 (l1 hP)))))))))) (DoesW.ret _))))))))))) ?_
  rw [sup_bot_eq]
  exact le_rfl

theorem cut3_does (hP : codes ≤ P) :
    DoesW ρ (tgt ρ score msk Q W) (cut3 score (rowOf ρ 0).n (means16 (rowOf ρ)) (kup (rowOf ρ 1).n (rowOf ρ 1).k))
      ⟨(rowOf ρ 1).n, corrC ρ 1, corrOf score (corrC ρ 1) (kup (rowOf ρ 1).n (rowOf ρ 1).k) 3⟩ P
      (eR ρ 0 5 ⊔ ⨆ g ∈ ([0, 1, 2] : List (Fin 12)), onRect .corr (rCorr 1 g)) := by
  unfold cut3
  refine DoesW.to ρ (DoesW.bind (rest_doesW ρ score msk Q W 0 5) (DoesW.bind (lenW ρ _ 1) (DoesW.bind (loadKt_doesW ρ score msk Q W 1
    (le_sup_of_le_left (le_sup_of_le_left hP))) (DoesW.bind (putCorrs_doesW ρ score msk Q W 1 [0, 1, 2]) (DoesW.ret _))))) ?_
  rw [sup_bot_eq, bot_sup_eq, bot_sup_eq]

theorem cut4_does (hP : codes ≤ P) (hC : ∀ g ∈ ([0, 1, 2, 3, 4, 5, 6, 7] : List (Fin 12)), onRect .corr (rCorr 1 g) ≤ P) :
    DoesW ρ (tgt ρ score msk Q W) (cut4 (att ρ score msk 1) (corrC ρ 1) (extractStridedSlice S64x128 ![512, 0] (corrC ρ 1) (by decide)))
      (Scalar.extui (Scalar.cmpi .sle (rowOf ρ 1).n 0#32)) P (need 1 ⊔ outs1 ρ 1) := by
  unfold cut4
  have hn : need 1 ≤ P ⊔ onRect .corr (rCorr 1 8) ⊔ ⨆ g ∈ ([9, 10, 11] : List (Fin 12)), onRect .corr (rCorr 1 g) := by
    refine need_of 1 (le_sup_of_le_left (le_sup_of_le_left hP)) fun g => ?_
    have hg : g ∈ ([0, 1, 2, 3, 4, 5, 6, 7] : List (Fin 12)) ∨ g = 8 ∨ g ∈ ([9, 10, 11] : List (Fin 12)) := by revert g; decide
    rcases hg with hg | rfl | hg
    · exact le_sup_of_le_left (le_sup_of_le_left (hC g hg))
    · exact le_sup_of_le_left le_sup_right
    · exact le_sup_of_le_right (le_each (fun g => onRect .corr (rCorr 1 g)) hg)
  have h := DoesW.bind ((putCorr_does (P := ⊥) ρ score msk Q W 1 8).toW rfl (bot_le (a := P)))
    (f := fun _ => Cmd.bind (Cmd.each [9, 10, 11] (putCorr score 1 (corrC ρ 1) (kup (rowOf ρ 1).n (rowOf ρ 1).k))) fun _ =>
      Cmd.bind (work (att ρ score msk 1) 1 0) fun _ => Cmd.ret (Scalar.extui (Scalar.cmpi .sle (rowOf ρ 1).n 0#32)))
    (DoesW.bind (putCorrs_doesW ρ score msk Q W 1 [9, 10, 11]) (DoesW.bind (work_doesW ρ score msk Q W 1 0 hn) (DoesW.ret _)))
  intro D σ hD hσ
  obtain ⟨h1, h2⟩ := h D σ hD hσ
  refine ⟨h1, h2.mono (off_mono (sup_le le_sup_left (sup_le ?_ ?_)))⟩
  · refine hn.trans (sup_le (sup_le (hD.trans le_sup_left) ?_) ?_)
    · exact le_sup_of_le_right le_sup_left
    · exact le_sup_of_le_right (le_sup_of_le_right le_sup_left)
  · exact le_sup_of_le_right (le_sup_of_le_right (le_sup_of_le_right le_sup_left))

/-- The attention makes the whole result. -/
def outDom : Dom
  | .out => Set.univ
  | _ => ∅

theorem outDom_le {D : Dom} (h : ∀ b j, eW ρ b j ≤ D) (h' : ∀ b j, eR ρ b j ≤ D) : outDom ≤ D := by
  intro r x hx
  cases r
  case out =>
    have h0 : (x 0).val < 2 := (x 0).isLt
    have h2 : (x 2).val < 768 := (x 2).isLt
    by_cases hb : busy (rowOf ρ ⟨(x 0).val, h0⟩).n ⟨(x 2).val / 128, by omega⟩
    · exact h ⟨(x 0).val, h0⟩ ⟨(x 2).val / 128, by omega⟩ .out ⟨hb, rfl, rfl⟩
    · exact h' ⟨(x 0).val, h0⟩ ⟨(x 2).val / 128, by omega⟩ .out ⟨(idle_iff _ _).mpr hb, rfl, rfl⟩
  all_goals exact False.elim hx

theorem DoesW.skip {T : St F} {β : Type} {e : Dom} (r : Rf) (R : Rect r.shape) (h : 0 < R.shape.numel)
    {f : (R.shape.Idx → Elt F r.elt) → Cmd F β} {b : β}
    (hf : ∀ x, DoesW ρ T (f x) b P e) : DoesW ρ T (Cmd.bind (Cmd.load r R h) f) b P e :=
  fun D σ hD hσ => hf _ D σ hD hσ

theorem cases12 (p : Fin 2 → Fin 6 → Prop) (h00 : p 0 0) (h01 : p 0 1) (h02 : p 0 2) (h03 : p 0 3) (h04 : p 0 4) (h05 : p 0 5)
    (h10 : p 1 0) (h11 : p 1 1) (h12 : p 1 2) (h13 : p 1 3) (h14 : p 1 4) (h15 : p 1 5) : ∀ b j, p b j := by
  intro b j
  fin_cases b <;> fin_cases j <;> assumption

theorem attend_does (hP : codes ≤ P) : DoesW ρ (tgt ρ score msk Q W) (attend score msk (rowOf ρ)) ⟨⟩ P outDom := by
  unfold attend
  have l1 : ∀ {A D e : Dom}, A ≤ D → A ≤ D ⊔ e := fun h => le_sup_of_le_left h
  refine DoesW.to ρ (DoesW.bind (lenW ρ _ 0) (DoesW.bind (loadKt_doesW ρ score msk Q W 0 (l1 hP))
    (DoesW.bind (putCorrs_doesW ρ score msk Q W 0 [0, 1, 2, 3, 4, 5, 6])
    (DoesW.skip ρ .corr (rCorr 0 7) (h_rCorr 0 7) fun _ =>
    (DoesW.bind (DoesW.scope (cut1_does ρ score msk Q W (l1 (l1 (l1 hP))) (fun g hg => le_sup_of_le_right (le_each (fun g => onRect .corr (rCorr 0 g)) hg))))
    (DoesW.bind (DoesW.scope (cut2_does ρ score msk Q W 0 _ (le_sup_of_le_right le_sup_left)))
    (DoesW.bind (DoesW.scope (cut3_does ρ score msk Q W (l1 (l1 (l1 (l1 (l1 hP)))))))
    (DoesW.bind ((Does.put (P := ⊥) .corr (rCorr 1 3) _ _ _ fun y => (corrs_at ρ score 1 3 y).symm).toW rfl bot_le)
    (DoesW.bind (putCorrs_doesW ρ score msk Q W 1 [4, 5, 6, 7])
    (DoesW.bind (DoesW.scope (cut4_does ρ score msk Q W (l1 (l1 (l1 (l1 (l1 (l1 (l1 (l1 hP)))))))) (fun g hg => ?_)))
    (DoesW.bind (DoesW.scope (cut2_does ρ score msk Q W 1 _ (le_sup_of_le_right le_sup_left)))
    (DoesW.scope (rest_doesW ρ score msk Q W 1 5))))))))))))) (outDom_le ρ ?_ ?_)
  · have hg' : g ∈ ([0, 1, 2] : List (Fin 12)) ∨ g = 3 ∨ g ∈ ([4, 5, 6, 7] : List (Fin 12)) := by revert g; decide
    rcases hg' with hg | rfl | hg
    · exact l1 (l1 (le_sup_of_le_right (le_sup_of_le_right (le_each (fun g => onRect .corr (rCorr 1 g)) hg))))
    · exact l1 le_sup_right
    · exact le_sup_of_le_right (le_each (fun g => onRect .corr (rCorr 1 g)) hg)
  all_goals
    refine cases12 _ ?_ ?_ ?_ ?_ ?_ ?_ ?_ ?_ ?_ ?_ ?_ ?_ <;>
      (intro r x hx; simp only [outs1, outs2, Pi.sup_apply, Set.sup_eq_union, Set.mem_union, hx, true_or, or_true])

/-! ## The body -/

/-- The results: every buffer but the scratch. -/
def results : Dom
  | .kt => ∅
  | .corr => ∅
  | .w => ∅
  | _ => Set.univ

theorem rows_cover : codes ⊔ onRect .kc (rKc 0) ⊔ onRect .kc (rKc 1) ≤ ⨆ b, rowDom b := by
  have h : ∀ b, rowDom b ≤ ⨆ b, rowDom b := fun b => le_iSup rowDom b
  refine sup_le (sup_le ?_ (le_sup_left.trans (h 0))) (le_sup_left.trans (h 1))
  intro r x hx
  cases r
  case kt =>
    have h0 : (x 0).val < 2 := (x 0).isLt
    have h1 : (x 1).val < 768 := (x 1).isLt
    have h2 : (x 2).val < 64 := (x 2).isLt
    refine h ⟨(x 0).val, h0⟩ .kt (Or.inr (Or.inl (mem_onRect.mpr (mem_unit _ _ fun a => ?_))))
    match a with
    | ⟨0, _⟩ => exact ⟨le_rfl, Nat.lt_succ_self _⟩
    | ⟨1, _⟩ => show 0 ≤ (x 1).val ∧ (x 1).val < 0 + 768; omega
    | ⟨2, _⟩ => show 0 ≤ (x 2).val ∧ (x 2).val < 0 + 64; omega
  case vc =>
    have h0 : (x 0).val < 2 := (x 0).isLt
    have h1 : (x 1).val < 1 := (x 1).isLt
    have h2 : (x 2).val < 64 := (x 2).isLt
    have h3 : (x 3).val < 768 := (x 3).isLt
    refine h ⟨(x 0).val, h0⟩ .vc (Or.inr (Or.inr (Or.inl (mem_onRect.mpr (mem_unit _ _ fun a => ?_)))))
    match a with
    | ⟨0, _⟩ => exact ⟨le_rfl, Nat.lt_succ_self _⟩
    | ⟨1, _⟩ => show 0 ≤ (x 1).val ∧ (x 1).val < 0 + 1; omega
    | ⟨2, _⟩ => show 0 ≤ (x 2).val ∧ (x 2).val < 0 + 64; omega
    | ⟨3, _⟩ => show 0 ≤ (x 3).val ∧ (x 3).val < 0 + 768; omega
  case qc =>
    have h0 : (x 0).val < 2 := (x 0).isLt
    have h1 : (x 1).val < 5 := (x 1).isLt
    have h2 : (x 2).val < 64 := (x 2).isLt
    have h3 : (x 3).val < 768 := (x 3).isLt
    have hj : (x 3).val / 128 < 6 := by omega
    have hle : onRect .qc (rQc ⟨(x 0).val, h0⟩ ⟨(x 3).val / 128, hj⟩ ⟨(x 1).val, h1⟩) ≤ ⨆ j : Fin 6, ⨆ h : Fin 5, onRect .qc (rQc ⟨(x 0).val, h0⟩ j h) :=
      (le_iSup (fun h : Fin 5 => onRect .qc (rQc ⟨(x 0).val, h0⟩ ⟨(x 3).val / 128, hj⟩ h)) ⟨(x 1).val, h1⟩).trans
        (le_iSup (fun j : Fin 6 => ⨆ h : Fin 5, onRect .qc (rQc ⟨(x 0).val, h0⟩ j h)) ⟨(x 3).val / 128, hj⟩)
    refine h ⟨(x 0).val, h0⟩ .qc (Or.inr (Or.inr (Or.inr (hle .qc (mem_onRect.mpr (mem_unit _ _ fun a => ?_))))))
    match a with
    | ⟨0, _⟩ => exact ⟨le_rfl, Nat.lt_succ_self _⟩
    | ⟨1, _⟩ => exact ⟨le_rfl, Nat.lt_succ_self _⟩
    | ⟨2, _⟩ => show 0 ≤ (x 2).val ∧ (x 2).val < 0 + 64; omega
    | ⟨3, _⟩ => show (x 3).val / 128 * 128 ≤ (x 3).val ∧ (x 3).val < (x 3).val / 128 * 128 + 128; omega
  all_goals exact False.elim hx

theorem mem_blocks (j : Fin 6) : j ∈ blocks := by revert j; decide

theorem all_cover : results ≤ Function.update (⊥ : Dom) .qs Set.univ ⊔ (⨆ b, rowDom b) ⊔ gatherDom ⊔ outDom := by
  intro r x hx
  cases r
  case out => exact Or.inr trivial
  case qs => exact Or.inl (Or.inl (Or.inl (by rw [Function.update_self]; trivial)))
  case qc => exact Or.inl (Or.inl (Or.inr (rows_cover .qc (Or.inl (Or.inl trivial)))))
  case vc => exact Or.inl (Or.inl (Or.inr (rows_cover .vc (Or.inl (Or.inl trivial)))))
  case kc =>
    refine Or.inl (Or.inl (Or.inr (rows_cover .kc ?_)))
    have h0 : (x 0).val < 2 := (x 0).isLt
    have h1 : (x 1).val < 1 := (x 1).isLt
    have h2 : (x 2).val < 64 := (x 2).isLt
    have h3 : (x 3).val < 768 := (x 3).isLt
    have key : ∀ b : Fin 2, (x 0).val = b.val → x ∈ onRect .kc (rKc b) .kc := fun b hb => mem_onRect.mpr (mem_unit _ _ fun a => by
      match a with
      | ⟨0, _⟩ => show b.val ≤ (x 0).val ∧ (x 0).val < b.val + 1; omega
      | ⟨1, _⟩ => show 0 ≤ (x 1).val ∧ (x 1).val < 0 + 1; omega
      | ⟨2, _⟩ => show 0 ≤ (x 2).val ∧ (x 2).val < 0 + 64; omega
      | ⟨3, _⟩ => show 0 ≤ (x 3).val ∧ (x 3).val < 0 + 768; omega)
    by_cases h : (x 0).val = 0
    · exact Or.inl (Or.inr (key 0 h))
    · exact Or.inr (key 1 (by show (x 0).val = 1; omega))
  case ks =>
    refine Or.inl (Or.inr (Or.inl (mem_onRect.mpr (mem_unit _ _ fun a => ?_))))
    have := (x a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩
  case mk =>
    refine Or.inl (Or.inr (Or.inr (Or.inl (mem_onRect.mpr (mem_unit _ _ fun a => ?_)))))
    have := (x a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩
  case vs =>
    refine Or.inl (Or.inr (Or.inr (Or.inr (Or.inl (mem_onRect.mpr (mem_unit _ _ fun a => ?_))))))
    have := (x a).isLt
    match a with
    | ⟨0, _⟩ => exact ⟨Nat.zero_le _, by simpa using this⟩
    | ⟨1, _⟩ => exact ⟨Nat.zero_le _, by simpa using this⟩
    | ⟨2, _⟩ => exact ⟨Nat.zero_le _, by simpa using this⟩
  case mq =>
    have h0 : (x 0).val < 6 := (x 0).isLt
    have h1 : (x 1).val < 5 := (x 1).isLt
    have h2 : (x 2).val < 2 := (x 2).isLt
    have h3 : (x 3).val < 64 := (x 3).isLt
    have hle : onRect .mq (rMq ⟨(x 0).val, h0⟩ ⟨(x 1).val, h1⟩) ≤ ⨆ j ∈ blocks, ⨆ h ∈ heads, onRect .mq (rMq j h) :=
      (le_each (fun h => onRect .mq (rMq ⟨(x 0).val, h0⟩ h)) (mem_heads ⟨(x 1).val, h1⟩)).trans
        (le_each (fun j => ⨆ h ∈ heads, onRect .mq (rMq j h)) (mem_blocks ⟨(x 0).val, h0⟩))
    refine Or.inl (Or.inr (Or.inr (Or.inr (Or.inr (hle .mq (mem_onRect.mpr (mem_unit _ _ fun a => ?_)))))))
    match a with
    | ⟨0, _⟩ => exact ⟨le_rfl, Nat.lt_succ_self _⟩
    | ⟨1, _⟩ => exact ⟨le_rfl, Nat.lt_succ_self _⟩
    | ⟨2, _⟩ => show 0 ≤ (x 2).val ∧ (x 2).val < 0 + 2; omega
    | ⟨3, _⟩ => show 0 ≤ (x 3).val ∧ (x 3).val < 0 + 64; omega
  all_goals exact False.elim hx

theorem run_bind {α β : Type} (c : Cmd F α) (f : α → Cmd F β) (σ : St F) :
    run ρ (Cmd.bind c f) σ = run ρ (f (run ρ c σ).1) (run ρ c σ).2 := rfl

theorem run_put (r : Rf) (R : Rect r.shape) (v : R.shape.Idx → Elt F r.elt) (h : 0 < R.shape.numel) (p : _) (σ : St F) :
    run ρ (Cmd.put r R v h p) σ = (⟨⟩, σ.set r (upd R v (σ r))) := rfl

/-- What the body after its first condition leaves in a result's buffer. -/
theorem main_run (kv : BitVec 32) (σ : St F) (r : Rf) (hr : r ≠ .kt ∧ r ≠ .corr ∧ r ≠ .w) :
    (run ρ (mainPart score msk kv) σ).2 r = tgt ρ score msk (qsAll ρ kv (σ .qs)) W r := by
  have a0 : Ag (tgt ρ score msk (σ .qs) W) (Function.update (⊥ : Dom) .qs Set.univ) σ := by
    intro r x hx
    by_cases h : r = .qs
    · subst h; rfl
    · rw [Function.update_of_ne h] at hx; exact absurd hx (Set.notMem_empty x)
  obtain ⟨r1, a1⟩ := rows_does ρ score msk (σ .qs) W (P := ⊥) _ σ bot_le a0
  have hq : (run ρ (Cmd.tab 2 row) σ).2 .qs = σ .qs :=
    funext fun x => a1 .qs x (Or.inl (by rw [Function.update_self]; trivial))
  generalize hσ1 : (run ρ (Cmd.tab 2 row) σ).2 = σ1 at a1 hq
  have a2 : Ag (tgt ρ score msk (qsAll ρ kv (σ .qs)) W) (Function.update (⊥ : Dom) .qs Set.univ ⊔ ⨆ b, rowDom b)
      (σ1.set .qs (fun x => if f6 (x 0).val ∈ blocks then qsAll ρ kv (σ1 .qs) x else σ1 .qs x)) := by
    intro r x hx
    by_cases h : r = .qs
    · subst h
      show Function.update σ1 .qs _ .qs x = _
      rw [Function.update_self, if_pos (mem_blocks _), hq]
      rfl
    · show Function.update σ1 .qs _ r x = _
      rw [Function.update_of_ne h, a1 r x hx]
      cases r <;> first | rfl | exact absurd rfl h
  obtain ⟨r3, a3⟩ := gatherRest_does ρ score msk (qsAll ρ kv (σ .qs)) W (P := ⊥) _ _ bot_le a2
  obtain ⟨r4, a4⟩ := attend_does ρ score msk (qsAll ρ kv (σ .qs)) W
    ((le_sup_left.trans (le_sup_left.trans rows_cover)).trans (le_sup_right.trans le_sup_left)) _ _ le_rfl (a3.mono (off_le _))
  have hrun : run ρ (mainPart score msk kv) σ = run ρ (attend score msk (rowOf ρ)) (run ρ (gatherRest (rowOf ρ))
      (σ1.set .qs (fun x => if f6 (x 0).val ∈ blocks then qsAll ρ kv (σ1 .qs) x else σ1 .qs x))).2 := by
    unfold mainPart
    show run ρ (Cmd.bind (Cmd.tab 2 row) fun L => Cmd.bind (gather kv L) fun _ => attend score msk L) σ = _
    rw [run_bind, r1, hσ1, run_bind, gather_eq, run_bind, qsSteps ρ kv blocks (by decide)]
  rw [hrun]
  refine funext fun x => a4 r x ?_
  have hx : x ∈ results r := by
    cases r <;> first | trivial | exact absurd rfl hr.1 | exact absurd rfl hr.2.1 | exact absurd rfl hr.2.2
  have ho : ∀ D : Dom, off D r = D r := fun D => Function.update_of_ne hr.2.2 _ _
  rw [ho]
  exact all_cover r hx

/-- What the whole body leaves in a result's buffer. -/
theorem body_run (kv : BitVec 32) (σ : St F) (r : Rf) (hr : r ≠ .kt ∧ r ≠ .corr ∧ r ≠ .w) :
    (run ρ (body score msk kv) σ).2 r
      = tgt ρ score msk (qsAll ρ kv (if first kv then fun _ => FloatOps.ofBits .f32 0x00000000#32 else σ .qs)) W r := by
  unfold body
  by_cases h : first kv
  · rw [if_pos h, if_pos h]
    have e1 : run ρ (Cmd.bind (Cmd.put .qs rQsAll (cst S6x2x45 0x00000000#32) h_rQsAll p_rQsAll) fun _ => mainPart score msk kv) σ
        = run ρ (mainPart score msk kv) (σ.set .qs (upd rQsAll (cst S6x2x45 0x00000000#32) (σ .qs))) := by
      rw [run_bind, run_put]
    rw [e1, main_run ρ score msk W kv _ r hr]
    have e2 : (σ.set .qs (upd rQsAll (cst S6x2x45 0x00000000#32) (σ .qs))) .qs = fun _ => FloatOps.ofBits .f32 0x00000000#32 := by
      refine (Function.update_self ..).trans (funext fun x => ?_)
      obtain ⟨y, hy⟩ := mem_unit (off := ![0, 0, 0]) (sz := S6x2x45.size) (s := S6x2x45) (by decide) x fun a => by
        match a with
        | ⟨0, _⟩ => exact ⟨Nat.zero_le _, by rw [show (![0, 0, 0] : Fin 3 → Nat) ⟨0, _⟩ = 0 from rfl, Nat.zero_add]; exact (x 0).isLt⟩
        | ⟨1, _⟩ => exact ⟨Nat.zero_le _, by rw [show (![0, 0, 0] : Fin 3 → Nat) ⟨1, _⟩ = 0 from rfl, Nat.zero_add]; exact (x 1).isLt⟩
        | ⟨2, _⟩ => exact ⟨Nat.zero_le _, by rw [show (![0, 0, 0] : Fin 3 → Nat) ⟨2, _⟩ = 0 from rfl, Nat.zero_add]; exact (x 2).isLt⟩
      rw [← hy]
      exact upd_emb _ _ _ y
    rw [e2]
  · rw [if_neg h, if_neg h]
    exact main_run ρ score msk W kv σ r hr

end
end Cert.Proof
end
-- ==== Proof.Final.lean ====
module
public import proofs.«01_k».proof.Proof.LaunchKI
public import proofs.«01_k».proof.Proof.Reach
public import Idealize.ShloMosaic.Lib.Pipeline.ArrRel
public import Idealize.ShloMosaic.Lib.Pointwise

@[expose] public section

/-!
# The result arrays

What each result's array holds after a run: the block of a head is what the body leaves at that head's grid point.
-/

noncomputable section
namespace Cert.Proof.KI

open Cert.KernelIdeal Cert.KernelIdeal.Gen
open Idealize.ShloMosaic
open Idealize.ShloMosaic.TcCoe
open Idealize.SL Idealize.SL.RA Idealize.SL.Sem

variable {F : FTy → Type} [FloatOps F] [Named F]
variable (m : (ℓ : Loc nD τ sig) → Buf (Elt F) ℓ)

/-- The kernel's two named constants. -/
abbrev scoreC : F .f32 := Named.named κ "score" 0x3E38AA3B#32
abbrev maskC : F .f32 := Named.named κ "masked" 0xF149F2CA#32

theorem covers (w : Fin (cf m).W) (hw : 3 ≤ w.val) : ((cf m).win w).Covers := by
  have h12 : w.val < 12 := w.isLt
  match w, hw with
  | 3, _ => exact of_decide_eq_true (by sl_kernel_rfl)
  | 4, _ => exact of_decide_eq_true (by sl_kernel_rfl)
  | 5, _ => exact of_decide_eq_true (by sl_kernel_rfl)
  | 6, _ => exact of_decide_eq_true (by sl_kernel_rfl)
  | 7, _ => exact of_decide_eq_true (by sl_kernel_rfl)
  | 8, _ => exact of_decide_eq_true (by sl_kernel_rfl)
  | 9, _ => exact of_decide_eq_true (by sl_kernel_rfl)
  | 10, _ => exact of_decide_eq_true (by sl_kernel_rfl)
  | 11, _ => exact of_decide_eq_true (by sl_kernel_rfl)

/-- Two write-backs of one window are of different blocks. -/
theorem index_inj (w : Fin (cf m).W) (hw : 3 ≤ w.val) (t t' : Fin (cf m).N) (hf : ((cf m).win w).flush t = true) (hf' : ((cf m).win w).flush t' = true)
    (e : ((cf m).win w).index t = ((cf m).win w).index t') : t = t' := by
  revert t t'
  have h12 : w.val < 12 := w.isLt
  match w, hw with
  | 3, _ => exact of_decide_eq_true (by sl_kernel_rfl)
  | 4, _ => exact of_decide_eq_true (by sl_kernel_rfl)
  | 5, _ => exact of_decide_eq_true (by sl_kernel_rfl)
  | 6, _ => exact of_decide_eq_true (by sl_kernel_rfl)
  | 7, _ => exact of_decide_eq_true (by sl_kernel_rfl)
  | 8, _ => exact of_decide_eq_true (by sl_kernel_rfl)
  | 9, _ => exact of_decide_eq_true (by sl_kernel_rfl)
  | 10, _ => exact of_decide_eq_true (by sl_kernel_rfl)
  | 11, _ => exact of_decide_eq_true (by sl_kernel_rfl)

theorem kind_out (w : Fin (cf m).W) (hw : 3 ≤ w.val) : ((cf m).win w).kind = .blocked := by
  have h12 : w.val < 12 := w.isLt
  match w, hw with
  | 3, _ | 4, _ | 5, _ | 6, _ | 7, _ | 8, _ | 9, _ | 10, _ | 11, _ => rfl

theorem whole_out (w : Fin (cf m).W) (hw : 3 ≤ w.val) : ((cf m).win w).arr.IsWhole := by
  have h12 : w.val < 12 := w.isLt
  match w, hw with
  | 3, _ | 4, _ | 5, _ | 6, _ | 7, _ | 8, _ | 9, _ | 10, _ | 11, _ => exact Memref.isWhole_whole _

/-- An element of a result's array is the element of the block that was written back over it. -/
theorem array_read {r : PUnit × MemSt nD τ sig (Elt F)} (h : Pipeline.RDat.FramePost (cf m) (rdat m) (fun c b => V m c b) r)
    (c : Dev nD) (w : Fin (cf m).W) (hw : 3 ≤ w.val) (t : Fin (cf m).N) (hf : ((cf m).win w).flush t = true)
    (val : ((cf m).win w).block.Idx → Elt F ((cf m).win w).elt)
    (hval : ∀ X, (rdat m c).Leaves w t X → X = val)
    (y : ((cf m).win w).block.Idx) (i : ((cf m).win w).shape.Idx)
    (hi : ∀ a, (i a).val = ((cf m).win w).index t a * ((cf m).win w).size a + (y a).val) :
    r.2.mem (((cf m).spec w).arr.view.loc (c.tc : Thread nD τ)) (((cf m).win w).arr.view.emb i)
      = _root_.cast (congrArg (Elt F) ((cf m).win w).arr.view.elt_eq.symm) (val y) := by
  obtain ⟨after, hL, hA⟩ := Pipeline.RDat.FramePost.exists_exact h c
  have hG := hA w
  refine (congrFun hG _).trans ?_
  refine Pipeline.Dat.arrAt_forall_of_covers ((rdat m c).withAfter after) w
    (fun k v => k = ((cf m).win w).arr.view.emb i → v = _root_.cast (congrArg (Elt F) ((cf m).win w).arr.view.elt_eq.symm) (val y))
    (covers m w hw) (fun t' hf' y' e => ?_) _ (whole_out m w hw) rfl
  have e' : ((cf m).win w).arr.view.emb ((((cf m).win w).rect t').emb y') = ((cf m).win w).arr.view.emb i := e
  have e2 := ((cf m).win w).arr.view.emb.injective e'
  have hpos : ∀ a, ((cf m).win w).index t' a * ((cf m).win w).size a + (y' a).val = ((cf m).win w).index t a * ((cf m).win w).size a + (y a).val := fun a => by
    rw [← hi a, ← e2, Pipeline.Window.rect_emb_val _ _ _ _ (kind_out m w hw)]
  have hlt : ∀ a, (y' a).val < ((cf m).win w).size a := fun a => (((cf m).win w).xinj _ y' a).isLt
  have hlt' : ∀ a, (y a).val < ((cf m).win w).size a := fun a => (y a).isLt
  have hix : ((cf m).win w).index t' = ((cf m).win w).index t := funext fun a => by
    have h1 := congrArg (· / ((cf m).win w).size a) (hpos a)
    have hs : 0 < ((cf m).win w).size a := Nat.lt_of_le_of_lt (Nat.zero_le _) (hlt a)
    simpa [Nat.mul_comm _ (((cf m).win w).size a), Nat.mul_add_div hs, Nat.div_eq_of_lt (hlt a), Nat.div_eq_of_lt (hlt' a)] using h1
  obtain rfl := index_inj m w hw t' t hf' hf hix
  have hy : ((cf m).win w).xinj ((cf m).grid.coords t') y' = y := funext fun a => Fin.ext (by
    show (y' a).val = _
    exact Nat.add_left_cancel (hpos a))
  have hX := hval _ (hL w t' hf)
  show _root_.cast _ (after w t' (((cf m).win w).xinj ((cf m).grid.coords t') y')) = _
  rw [hy, hX]

theorem ax {i q s y k : ℕ} (hq : q = k) (h : i = k * s + y) : i = q * s + y := hq ▸ h
theorem ax0 {i q s y : ℕ} (hq : q = 0) (h : i = y) : i = q * s + y := by rw [hq, Nat.zero_mul, Nat.zero_add]; exact h

/-! ## What is left at a grid point -/

theorem flush_out (w : Fin (cf m).W) (hw : 3 ≤ w.val) (h5 : w.val ≠ 5) (t : Fin (cf m).N) : ((cf m).win w).flush t = true := by
  revert t
  have h12 : w.val < 12 := w.isLt
  match w, hw, h5 with
  | 3, _, _ => exact of_decide_eq_true (by sl_kernel_rfl)
  | 4, _, _ => exact of_decide_eq_true (by sl_kernel_rfl)
  | 5, _, h => exact absurd rfl h
  | 6, _, _ => exact of_decide_eq_true (by sl_kernel_rfl)
  | 7, _, _ => exact of_decide_eq_true (by sl_kernel_rfl)
  | 8, _, _ => exact of_decide_eq_true (by sl_kernel_rfl)
  | 9, _, _ => exact of_decide_eq_true (by sl_kernel_rfl)
  | 10, _, _ => exact of_decide_eq_true (by sl_kernel_rfl)
  | 11, _, _ => exact of_decide_eq_true (by sl_kernel_rfl)

theorem flush_qs : ∀ t : Fin (cf m).N, ((cf m).win 5).flush t = decide (t.val = 8) := of_decide_eq_true (by sl_kernel_rfl)
theorem fetch_qs : ∀ t : Fin (cf m).N, ((cf m).win 5).fetch t = false := of_decide_eq_true (by sl_kernel_rfl)
theorem first_at (t : Fin (cf m).N) : first (kvAt m t) ↔ t.val = 0 := by
  rcases fin_N0 t with rfl | rfl | rfl | rfl | rfl | rfl | rfl | rfl | rfl <;> exact of_decide_eq_true (by sl_kernel_rfl)
theorem kv_at (t : Fin (cf m).N) : kvAt m t = BitVec.ofNat 32 t.val := by
  rcases fin_N0 t with rfl | rfl | rfl | rfl | rfl | rfl | rfl | rfl | rfl <;> sl_kernel_rfl

/-- What a result's buffer holds after the body at a grid point, but for the queries' scales. -/
theorem Out_eq (c : Dev nD) (r : Rf) (hr : r ≠ .kt ∧ r ≠ .corr ∧ r ≠ .w) (t : Fin (cf m).N) (Y X : r.shape.Idx → Elt F r.elt) (h : Out m c r t Y X) :
    ∃ σ : St F, σ r = Y ∧ X = tgt (env m c t) scoreC maskC
      (qsAll (env m c t) (kvAt m t) (if first (kvAt m t) then fun _ => FloatOps.ofBits .f32 0x00000000#32 else σ .qs)) (fun _ => FloatOps.ofBits .f32 0x00000000#32) r := by
  obtain ⟨σ, hσ, hX⟩ := h
  exact ⟨σ, hσ, hX.trans (body_run (env m c t) scoreC maskC (fun _ => FloatOps.ofBits .f32 0x00000000#32) (kvAt m t) σ r hr)⟩

/-- The queries' scales after a number of grid points. -/
def qsUp (c : Dev nD) : (n : ℕ) → n < (cf m).N → S6x2x45.Idx → Elt F .f32
  | 0, h => qsAll (env m c ⟨0, h⟩) (kvAt m ⟨0, h⟩) (fun _ => FloatOps.ofBits .f32 0x00000000#32)
  | n + 1, h => qsAll (env m c ⟨n + 1, h⟩) (kvAt m ⟨n + 1, h⟩) (qsUp c n (Nat.lt_of_succ_lt h))

theorem qs_leaves (c : Dev nD) (n : ℕ) (hn : n < (cf m).N) (X : S6x2x45.Idx → Elt F .f32) (h : (rdat m c).Leaves 5 ⟨n, hn⟩ X) : X = qsUp m c n hn := by
  induction n generalizing X with
  | zero =>
    obtain ⟨Y, -, hY⟩ := h
    obtain ⟨σ, -, hX⟩ := Out_eq m c .qs (by decide) ⟨0, hn⟩ Y X hY
    refine hX.trans ?_
    rw [if_pos ((first_at m ⟨0, hn⟩).mpr rfl)]
    rfl
  | succ n ih =>
    obtain ⟨Y, hf, hY⟩ := h
    obtain ⟨σ, hσ, hX⟩ := Out_eq m c .qs (by decide) ⟨n + 1, hn⟩ Y X hY
    have hY' : Y = qsUp m c n (Nat.lt_of_succ_lt hn) := by
      rcases ((rdat m c).finds_of_pos (fetch_qs m _) (Nat.succ_ne_zero n) Y).mp hf with hb | hl
      · have h9 : n + 1 < 9 := hn
        rw [flush_qs] at hb
        exact absurd (of_decide_eq_true hb) (by show n ≠ 8; omega)
      · exact ih _ Y hl
    refine hX.trans ?_
    rw [if_neg (fun h => Nat.succ_ne_zero n ((first_at m ⟨n + 1, hn⟩).mp h)), hσ, hY']
    rfl

variable {r : PUnit × MemSt nD τ sig (Elt F)} (h : Pipeline.RDat.FramePost (cf m) (rdat m) (fun c b => V m c b) r)
include h

theorem out_read (c : Dev nD) (t : Fin (cf m).N) (y : S2x320x768.Idx) (i : S2x2880x768.Idx)
    (h0 : (i 0).val = (y 0).val) (h1 : (i 1).val = t.val * 320 + (y 1).val) (h2 : (i 2).val = (y 2).val) :
    r.2.mem ((c.tc : Thread nD τ).loc main_v3_0) i = outAll (env m c t) scoreC maskC y := by
  have hix : ∀ t : Fin (cf m).N, ((cf m).win 3).index t (⟨0, by decide⟩ : Fin 3) = 0 ∧ ((cf m).win 3).index t (⟨1, by decide⟩ : Fin 3) = t.val ∧ ((cf m).win 3).index t (⟨2, by decide⟩ : Fin 3) = 0 := by
    intro t
    rcases fin_N0 t with rfl | rfl | rfl | rfl | rfl | rfl | rfl | rfl | rfl <;> refine ⟨?_, ?_, ?_⟩ <;> sl_kernel_rfl
  refine array_read m h c 3 (show 3 ≤ 3 by decide) t (flush_out m 3 (show 3 ≤ 3 by decide) (show 3 ≠ 5 by decide) t) (outAll (env m c t) scoreC maskC) (fun X ⟨Y, _, hY⟩ => (Out_eq m c .out (by decide) t Y X hY).choose_spec.2) y i fun a => ?_
  match a with
  | ⟨0, _⟩ => exact ax0 (hix t).1 h0
  | ⟨1, _⟩ => exact ax (hix t).2.1 h1
  | ⟨2, _⟩ => exact ax0 (hix t).2.2 h2

theorem qc_read (c : Dev nD) (t : Fin (cf m).N) (y : S2x5x64x768.Idx) (i : S2x45x64x768.Idx)
    (h0 : (i 0).val = (y 0).val) (h1 : (i 1).val = t.val * 5 + (y 1).val) (h2 : (i 2).val = (y 2).val) (h3 : (i 3).val = (y 3).val) :
    r.2.mem ((c.tc : Thread nD τ).loc main_v3_1) i = qcAll (env m c t) y := by
  have hix : ∀ t : Fin (cf m).N, ((cf m).win 4).index t (⟨0, by decide⟩ : Fin 4) = 0 ∧ ((cf m).win 4).index t (⟨1, by decide⟩ : Fin 4) = t.val ∧ ((cf m).win 4).index t (⟨2, by decide⟩ : Fin 4) = 0 ∧ ((cf m).win 4).index t (⟨3, by decide⟩ : Fin 4) = 0 := by
    intro t
    rcases fin_N0 t with rfl | rfl | rfl | rfl | rfl | rfl | rfl | rfl | rfl <;> refine ⟨?_, ?_, ?_, ?_⟩ <;> sl_kernel_rfl
  refine array_read m h c 4 (show 3 ≤ 4 by decide) t (flush_out m 4 (show 3 ≤ 4 by decide) (show 4 ≠ 5 by decide) t) (qcAll (env m c t)) (fun X ⟨Y, _, hY⟩ => (Out_eq m c .qc (by decide) t Y X hY).choose_spec.2) y i fun a => ?_
  match a with
  | ⟨0, _⟩ => exact ax0 (hix t).1 h0
  | ⟨1, _⟩ => exact ax (hix t).2.1 h1
  | ⟨2, _⟩ => exact ax0 (hix t).2.2.1 h2
  | ⟨3, _⟩ => exact ax0 (hix t).2.2.2 h3

theorem qs_read (c : Dev nD) (i : S6x2x45.Idx) :
    r.2.mem ((c.tc : Thread nD τ).loc main_v3_2) i = qsUp m c 8 (by show 8 < 9; decide) i := by
  have hix : ∀ t : Fin (cf m).N, ((cf m).win 5).index t (⟨0, by decide⟩ : Fin 3) = 0 ∧ ((cf m).win 5).index t (⟨1, by decide⟩ : Fin 3) = 0 ∧ ((cf m).win 5).index t (⟨2, by decide⟩ : Fin 3) = 0 := by
    intro t
    rcases fin_N0 t with rfl | rfl | rfl | rfl | rfl | rfl | rfl | rfl | rfl <;> refine ⟨?_, ?_, ?_⟩ <;> sl_kernel_rfl
  refine array_read m h c 5 (show 3 ≤ 5 by decide) ⟨8, by show 8 < 9; decide⟩ (flush_qs m ⟨8, by show 8 < 9; decide⟩) (qsUp m c 8 (by show 8 < 9; decide)) (qs_leaves m c 8 (by show 8 < 9; decide)) i i fun a => ?_
  match a with
  | ⟨0, _⟩ => exact ax0 (hix ⟨8, by show 8 < 9; decide⟩).1 rfl
  | ⟨1, _⟩ => exact ax0 (hix ⟨8, by show 8 < 9; decide⟩).2.1 rfl
  | ⟨2, _⟩ => exact ax0 (hix ⟨8, by show 8 < 9; decide⟩).2.2 rfl

theorem mq_read (c : Dev nD) (t : Fin (cf m).N) (y : S6x5x2x64.Idx) (i : S6x45x2x64.Idx)
    (h0 : (i 0).val = (y 0).val) (h1 : (i 1).val = t.val * 5 + (y 1).val) (h2 : (i 2).val = (y 2).val) (h3 : (i 3).val = (y 3).val) :
    r.2.mem ((c.tc : Thread nD τ).loc main_v3_3) i = mqAll (env m c t) y := by
  have hix : ∀ t : Fin (cf m).N, ((cf m).win 6).index t (⟨0, by decide⟩ : Fin 4) = 0 ∧ ((cf m).win 6).index t (⟨1, by decide⟩ : Fin 4) = t.val ∧ ((cf m).win 6).index t (⟨2, by decide⟩ : Fin 4) = 0 ∧ ((cf m).win 6).index t (⟨3, by decide⟩ : Fin 4) = 0 := by
    intro t
    rcases fin_N0 t with rfl | rfl | rfl | rfl | rfl | rfl | rfl | rfl | rfl <;> refine ⟨?_, ?_, ?_, ?_⟩ <;> sl_kernel_rfl
  refine array_read m h c 6 (show 3 ≤ 6 by decide) t (flush_out m 6 (show 3 ≤ 6 by decide) (show 6 ≠ 5 by decide) t) (mqAll (env m c t)) (fun X ⟨Y, _, hY⟩ => (Out_eq m c .mq (by decide) t Y X hY).choose_spec.2) y i fun a => ?_
  match a with
  | ⟨0, _⟩ => exact ax0 (hix t).1 h0
  | ⟨1, _⟩ => exact ax (hix t).2.1 h1
  | ⟨2, _⟩ => exact ax0 (hix t).2.2.1 h2
  | ⟨3, _⟩ => exact ax0 (hix t).2.2.2 h3

theorem kc_read (c : Dev nD) (t : Fin (cf m).N) (y : S2x1x64x768.Idx) (i : S2x9x64x768.Idx)
    (h0 : (i 0).val = (y 0).val) (h1 : (i 1).val = t.val * 1 + (y 1).val) (h2 : (i 2).val = (y 2).val) (h3 : (i 3).val = (y 3).val) :
    r.2.mem ((c.tc : Thread nD τ).loc main_v3_4) i = kcAll (env m c t) y := by
  have hix : ∀ t : Fin (cf m).N, ((cf m).win 7).index t (⟨0, by decide⟩ : Fin 4) = 0 ∧ ((cf m).win 7).index t (⟨1, by decide⟩ : Fin 4) = t.val ∧ ((cf m).win 7).index t (⟨2, by decide⟩ : Fin 4) = 0 ∧ ((cf m).win 7).index t (⟨3, by decide⟩ : Fin 4) = 0 := by
    intro t
    rcases fin_N0 t with rfl | rfl | rfl | rfl | rfl | rfl | rfl | rfl | rfl <;> refine ⟨?_, ?_, ?_, ?_⟩ <;> sl_kernel_rfl
  refine array_read m h c 7 (show 3 ≤ 7 by decide) t (flush_out m 7 (show 3 ≤ 7 by decide) (show 7 ≠ 5 by decide) t) (kcAll (env m c t)) (fun X ⟨Y, _, hY⟩ => (Out_eq m c .kc (by decide) t Y X hY).choose_spec.2) y i fun a => ?_
  match a with
  | ⟨0, _⟩ => exact ax0 (hix t).1 h0
  | ⟨1, _⟩ => exact ax (hix t).2.1 h1
  | ⟨2, _⟩ => exact ax0 (hix t).2.2.1 h2
  | ⟨3, _⟩ => exact ax0 (hix t).2.2.2 h3

theorem vc_read (c : Dev nD) (t : Fin (cf m).N) (y : S2x1x64x768.Idx) (i : S2x9x64x768.Idx)
    (h0 : (i 0).val = (y 0).val) (h1 : (i 1).val = t.val * 1 + (y 1).val) (h2 : (i 2).val = (y 2).val) (h3 : (i 3).val = (y 3).val) :
    r.2.mem ((c.tc : Thread nD τ).loc main_v3_7) i = vcAll (env m c t) y := by
  have hix : ∀ t : Fin (cf m).N, ((cf m).win 10).index t (⟨0, by decide⟩ : Fin 4) = 0 ∧ ((cf m).win 10).index t (⟨1, by decide⟩ : Fin 4) = t.val ∧ ((cf m).win 10).index t (⟨2, by decide⟩ : Fin 4) = 0 ∧ ((cf m).win 10).index t (⟨3, by decide⟩ : Fin 4) = 0 := by
    intro t
    rcases fin_N0 t with rfl | rfl | rfl | rfl | rfl | rfl | rfl | rfl | rfl <;> refine ⟨?_, ?_, ?_, ?_⟩ <;> sl_kernel_rfl
  refine array_read m h c 10 (show 3 ≤ 10 by decide) t (flush_out m 10 (show 3 ≤ 10 by decide) (show 10 ≠ 5 by decide) t) (vcAll (env m c t)) (fun X ⟨Y, _, hY⟩ => (Out_eq m c .vc (by decide) t Y X hY).choose_spec.2) y i fun a => ?_
  match a with
  | ⟨0, _⟩ => exact ax0 (hix t).1 h0
  | ⟨1, _⟩ => exact ax (hix t).2.1 h1
  | ⟨2, _⟩ => exact ax0 (hix t).2.2.1 h2
  | ⟨3, _⟩ => exact ax0 (hix t).2.2.2 h3

theorem ks_read (c : Dev nD) (t : Fin (cf m).N) (y : S1x2x12.Idx) (i : S9x2x12.Idx)
    (h0 : (i 0).val = t.val * 1 + (y 0).val) (h1 : (i 1).val = (y 1).val) (h2 : (i 2).val = (y 2).val) :
    r.2.mem ((c.tc : Thread nD τ).loc main_v3_5) i = ksAll (env m c t) y := by
  have hix : ∀ t : Fin (cf m).N, ((cf m).win 8).index t (⟨0, by decide⟩ : Fin 3) = t.val ∧ ((cf m).win 8).index t (⟨1, by decide⟩ : Fin 3) = 0 ∧ ((cf m).win 8).index t (⟨2, by decide⟩ : Fin 3) = 0 := by
    intro t
    rcases fin_N0 t with rfl | rfl | rfl | rfl | rfl | rfl | rfl | rfl | rfl <;> refine ⟨?_, ?_, ?_⟩ <;> sl_kernel_rfl
  refine array_read m h c 8 (show 3 ≤ 8 by decide) t (flush_out m 8 (show 3 ≤ 8 by decide) (show 8 ≠ 5 by decide) t) (ksAll (env m c t)) (fun X ⟨Y, _, hY⟩ => (Out_eq m c .ks (by decide) t Y X hY).choose_spec.2) y i fun a => ?_
  match a with
  | ⟨0, _⟩ => exact ax (hix t).1 h0
  | ⟨1, _⟩ => exact ax0 (hix t).2.1 h1
  | ⟨2, _⟩ => exact ax0 (hix t).2.2 h2

theorem mk_read (c : Dev nD) (t : Fin (cf m).N) (y : S1x2x64.Idx) (i : S9x2x64.Idx)
    (h0 : (i 0).val = t.val * 1 + (y 0).val) (h1 : (i 1).val = (y 1).val) (h2 : (i 2).val = (y 2).val) :
    r.2.mem ((c.tc : Thread nD τ).loc main_v3_6) i = mkAll (env m c t) y := by
  have hix : ∀ t : Fin (cf m).N, ((cf m).win 9).index t (⟨0, by decide⟩ : Fin 3) = t.val ∧ ((cf m).win 9).index t (⟨1, by decide⟩ : Fin 3) = 0 ∧ ((cf m).win 9).index t (⟨2, by decide⟩ : Fin 3) = 0 := by
    intro t
    rcases fin_N0 t with rfl | rfl | rfl | rfl | rfl | rfl | rfl | rfl | rfl <;> refine ⟨?_, ?_, ?_⟩ <;> sl_kernel_rfl
  refine array_read m h c 9 (show 3 ≤ 9 by decide) t (flush_out m 9 (show 3 ≤ 9 by decide) (show 9 ≠ 5 by decide) t) (mkAll (env m c t)) (fun X ⟨Y, _, hY⟩ => (Out_eq m c .mk (by decide) t Y X hY).choose_spec.2) y i fun a => ?_
  match a with
  | ⟨0, _⟩ => exact ax (hix t).1 h0
  | ⟨1, _⟩ => exact ax0 (hix t).2.1 h1
  | ⟨2, _⟩ => exact ax0 (hix t).2.2 h2

theorem vs_read (c : Dev nD) (t : Fin (cf m).N) (y : S1x2x64.Idx) (i : S9x2x64.Idx)
    (h0 : (i 0).val = t.val * 1 + (y 0).val) (h1 : (i 1).val = (y 1).val) (h2 : (i 2).val = (y 2).val) :
    r.2.mem ((c.tc : Thread nD τ).loc main_v3_8) i = vsAll (env m c t) y := by
  have hix : ∀ t : Fin (cf m).N, ((cf m).win 11).index t (⟨0, by decide⟩ : Fin 3) = t.val ∧ ((cf m).win 11).index t (⟨1, by decide⟩ : Fin 3) = 0 ∧ ((cf m).win 11).index t (⟨2, by decide⟩ : Fin 3) = 0 := by
    intro t
    rcases fin_N0 t with rfl | rfl | rfl | rfl | rfl | rfl | rfl | rfl | rfl <;> refine ⟨?_, ?_, ?_⟩ <;> sl_kernel_rfl
  refine array_read m h c 11 (show 3 ≤ 11 by decide) t (flush_out m 11 (show 3 ≤ 11 by decide) (show 11 ≠ 5 by decide) t) (vsAll (env m c t)) (fun X ⟨Y, _, hY⟩ => (Out_eq m c .vs (by decide) t Y X hY).choose_spec.2) y i fun a => ?_
  match a with
  | ⟨0, _⟩ => exact ax (hix t).1 h0
  | ⟨1, _⟩ => exact ax0 (hix t).2.1 h1
  | ⟨2, _⟩ => exact ax0 (hix t).2.2 h2

omit h

/-! ## What a grid point reads -/

theorem V_x (c : Dev nD) : V m c main_v0 = transpose S2x2880x768 [0, 2, 1] (m ((c.tc : Thread nD τ).loc main_arg0) : (⟨S2x768x2880, .bf16⟩ : BufTy).Contents (Elt F)) transposes_S2x768x2880_S2x2880x768_0_2_1 := by
  show StableHlo.after hostOps0 (V₀ m c) main_v0 = _
  after_results

theorem V_k (c : Dev nD) : V m c main_v1 = transpose S2x576x768 [0, 2, 1] (m ((c.tc : Thread nD τ).loc main_arg1) : (⟨S2x768x576, .bf16⟩ : BufTy).Contents (Elt F)) transposes_S2x768x576_S2x576x768_0_2_1 := by
  show StableHlo.after hostOps0 (V₀ m c) main_v1 = _
  after_results

theorem V_v (c : Dev nD) : V m c main_v2 = transpose S2x576x768 [0, 2, 1] (m ((c.tc : Thread nD τ).loc main_arg2) : (⟨S2x768x576, .bf16⟩ : BufTy).Contents (Elt F)) transposes_S2x768x576_S2x576x768_0_2_1 := by
  show StableHlo.after hostOps0 (V₀ m c) main_v2 = _
  after_results

theorem blk_read (c : Dev nD) (w : Fin (cf m).W) (hc : ∀ i a, ((cf m).win w).clip i a = none) (hk : ((cf m).win w).kind = .blocked) (t : Fin (cf m).N) (y : ((cf m).win w).block.Idx)
    (i : ((cf m).win w).shape.Idx) (hi : ∀ a, (i a).val = ((cf m).win w).index t a * ((cf m).win w).size a + (y a).val) :
    blk m c w t y = _root_.cast (congrArg (Elt F) ((cf m).win w).arr.view.elt_eq) (arr m c w (((cf m).win w).arr.view.emb i)) := by
  unfold blk
  have hm : ((cf m).win w).moved ((cf m).grid.coords t) y = true :=
    (((cf m).win w).moved_iff _ y).mpr fun a => by have := (y a).isLt; unfold Pipeline.Window.xsize; rw [hc]; exact this
  unfold Pipeline.Window.fill
  rw [dif_pos hm]
  refine (View.read_apply ..).trans ?_
  refine congrArg (fun k => _root_.cast (congrArg (Elt F) ((cf m).win w).arr.view.elt_eq) (arr m c w k)) ?_
  show ((cf m).win w).arr.view.emb ((((cf m).win w).rect t).emb _) = _
  congr 1
  refine funext fun a => Fin.ext ?_
  rw [hi a, Pipeline.Window.rect_emb_val _ _ _ _ hk]

theorem env_x (c : Dev nD) (t : Fin (cf m).N) (y : S2x320x768.Idx) (i : S2x768x2880.Idx)
    (h0 : (i 0).val = (y 0).val) (h1 : (i 1).val = (y 2).val) (h2 : (i 2).val = t.val * 320 + (y 1).val) :
    (env m c t).inp .x y = m ((c.tc : Thread nD τ).loc main_arg0) i := by
  have hix : ∀ t : Fin (cf m).N, ((cf m).win 0).index t (⟨0, by decide⟩ : Fin 3) = 0 ∧ ((cf m).win 0).index t (⟨1, by decide⟩ : Fin 3) = t.val ∧ ((cf m).win 0).index t (⟨2, by decide⟩ : Fin 3) = 0 := by
    intro t
    rcases fin_N0 t with rfl | rfl | rfl | rfl | rfl | rfl | rfl | rfl | rfl <;> refine ⟨?_, ?_, ?_⟩ <;> sl_kernel_rfl
  have hj : t.val * 320 + (y 1).val < 2880 := h2 ▸ (i 2).isLt
  refine (blk_read m c 0 (fun _ _ => rfl) rfl t y (ix3 (y 0) ⟨t.val * 320 + (y 1).val, hj⟩ (y 2) : S2x2880x768.Idx) fun a => ?_).trans ?_
  · match a with
    | ⟨0, _⟩ => exact ax0 (hix t).1 rfl
    | ⟨1, _⟩ => exact ax (hix t).2.1 rfl
    | ⟨2, _⟩ => exact ax0 (hix t).2.2 rfl
  · show V m c main_v0 _ = _
    rw [V_x]
    refine transpose_apply [0, 2, 1] _ _ _ i fun b => ?_
    match b with
    | ⟨0, _⟩ => exact h0
    | ⟨1, _⟩ => exact h2
    | ⟨2, _⟩ => exact h1

theorem env_k (c : Dev nD) (t : Fin (cf m).N) (y : S2x64x768.Idx) (i : S2x768x576.Idx)
    (h0 : (i 0).val = (y 0).val) (h1 : (i 1).val = (y 2).val) (h2 : (i 2).val = t.val * 64 + (y 1).val) :
    (env m c t).inp .k y = m ((c.tc : Thread nD τ).loc main_arg1) i := by
  have hix : ∀ t : Fin (cf m).N, ((cf m).win 1).index t (⟨0, by decide⟩ : Fin 3) = 0 ∧ ((cf m).win 1).index t (⟨1, by decide⟩ : Fin 3) = t.val ∧ ((cf m).win 1).index t (⟨2, by decide⟩ : Fin 3) = 0 := by
    intro t
    rcases fin_N0 t with rfl | rfl | rfl | rfl | rfl | rfl | rfl | rfl | rfl <;> refine ⟨?_, ?_, ?_⟩ <;> sl_kernel_rfl
  have hj : t.val * 64 + (y 1).val < 576 := h2 ▸ (i 2).isLt
  refine (blk_read m c 1 (fun _ _ => rfl) rfl t y (ix3 (y 0) ⟨t.val * 64 + (y 1).val, hj⟩ (y 2) : S2x576x768.Idx) fun a => ?_).trans ?_
  · match a with
    | ⟨0, _⟩ => exact ax0 (hix t).1 rfl
    | ⟨1, _⟩ => exact ax (hix t).2.1 rfl
    | ⟨2, _⟩ => exact ax0 (hix t).2.2 rfl
  · show V m c main_v1 _ = _
    rw [V_k]
    refine transpose_apply [0, 2, 1] _ _ _ i fun b => ?_
    match b with
    | ⟨0, _⟩ => exact h0
    | ⟨1, _⟩ => exact h2
    | ⟨2, _⟩ => exact h1

theorem env_v (c : Dev nD) (t : Fin (cf m).N) (y : S2x64x768.Idx) (i : S2x768x576.Idx)
    (h0 : (i 0).val = (y 0).val) (h1 : (i 1).val = (y 2).val) (h2 : (i 2).val = t.val * 64 + (y 1).val) :
    (env m c t).inp .v y = m ((c.tc : Thread nD τ).loc main_arg2) i := by
  have hix : ∀ t : Fin (cf m).N, ((cf m).win 2).index t (⟨0, by decide⟩ : Fin 3) = 0 ∧ ((cf m).win 2).index t (⟨1, by decide⟩ : Fin 3) = t.val ∧ ((cf m).win 2).index t (⟨2, by decide⟩ : Fin 3) = 0 := by
    intro t
    rcases fin_N0 t with rfl | rfl | rfl | rfl | rfl | rfl | rfl | rfl | rfl <;> refine ⟨?_, ?_, ?_⟩ <;> sl_kernel_rfl
  have hj : t.val * 64 + (y 1).val < 576 := h2 ▸ (i 2).isLt
  refine (blk_read m c 2 (fun _ _ => rfl) rfl t y (ix3 (y 0) ⟨t.val * 64 + (y 1).val, hj⟩ (y 2) : S2x576x768.Idx) fun a => ?_).trans ?_
  · match a with
    | ⟨0, _⟩ => exact ax0 (hix t).1 rfl
    | ⟨1, _⟩ => exact ax (hix t).2.1 rfl
    | ⟨2, _⟩ => exact ax0 (hix t).2.2 rfl
  · show V m c main_v2 _ = _
    rw [V_v]
    refine transpose_apply [0, 2, 1] _ _ _ i fun b => ?_
    match b with
    | ⟨0, _⟩ => exact h0
    | ⟨1, _⟩ => exact h2
    | ⟨2, _⟩ => exact h1

end Cert.Proof.KI
end
-- ==== Proof.ReadT.lean ====
module
public import proofs.«01_k».proof.Proof.Spec
public import Idealize.ShloMosaic.Lib.Pointwise

@[expose] public section
set_option maxRecDepth 16384

/-!
# The tiles over the reals

What the tiles of the results hold, by the quantities of their rows.
-/

noncomputable section
namespace Cert.Proof
open Cert.KernelIdeal
open Idealize.ShloMosaic Idealize.SL.Sem Idealize.ShloMosaic.TcCoe

/-! ## Folds that write one place -/

/-- Steps that leave a place leave it, -/
theorem fold_keep {A X B : Type} (f : A → X → A) (rd : A → B) (l : List X) (h : ∀ m, ∀ x ∈ l, rd (f m x) = rd m) (m : A) : rd (l.foldl f m) = rd m := by
  induction l generalizing m with
  | nil => rfl
  | cons x l ih => exact (ih (fun m y hy => h m y (.tail _ hy)) (f m x)).trans (h m x (.head _))

/-- and a step that writes it is what it holds, where the others leave it. -/
theorem fold_hit {A X B : Type} (f : A → X → A) (rd : A → B) (v : B) (x0 : X) (l : List X) (hx : x0 ∈ l) (hhit : ∀ m, rd (f m x0) = v)
    (hkeep : ∀ m, ∀ x ∈ l, x ≠ x0 → rd (f m x) = rd m) (m : A) : rd (l.foldl f m) = v := by
  classical
  induction l generalizing m with
  | nil => exact absurd hx (List.not_mem_nil)
  | cons x l ih =>
    by_cases h : x0 ∈ l
    · exact ih h (fun m y hy => hkeep m y (.tail _ hy)) (f m x)
    · have hx' : x0 = x := by
        rcases List.mem_cons.mp hx with e | e
        · exact e
        · exact absurd e h
      subst hx'
      exact (fold_keep f rd l (fun m y hy => hkeep m y (.tail _ hy) (fun e => h (e ▸ hy))) _).trans (hhit m)

theorem mem2 (b : Fin 2) : b ∈ [0, 1] := by revert b; decide
theorem mem5 (b : Fin 5) : b ∈ [0, 1, 2, 3, 4] := by revert b; decide
theorem mem6 (b : Fin 6) : b ∈ [0, 1, 2, 3, 4, 5] := by revert b; decide
theorem mem12 (b : Fin 12) : b ∈ [0, 1, 2, 3, 4, 5, 6, 7, 8, 9, 10, 11] := by revert b; decide

/-- Words of small numbers are equal when the numbers are. -/
theorem sel_eq {x y : ℕ} (hx : x < 2 ^ 32) (hy : y < 2 ^ 32) (a b : EReal) :
    Scalar.select (IntOp.cmpi .eq (BitVec.ofNat 32 x) (BitVec.ofNat 32 y)) a b = if x = y then a else b := by
  unfold IntOp.cmpi Scalar.select
  by_cases h : x = y
  · subst h
    simp
  · have h' : BitVec.ofNat 32 x ≠ BitVec.ofNat 32 y := fun e => h (by
      have := congrArg BitVec.toNat e
      rwa [BitVec.toNat_ofNat, BitVec.toNat_ofNat, Nat.mod_eq_of_lt hx, Nat.mod_eq_of_lt hy] at this)
    simp [h, h', beq_eq_false_iff_ne.mpr h']

theorem setCol_at (m : FVec Ideal S64x128 .f32) (i : ℕ) (hi : i < 128) (a : FVec Ideal S64x1 .f32) (d : Fin 64) (c : Fin 128) :
    setCol (F := Ideal) m i a (ix2 d c) = if c.val = i then a (ix2 d 0) else m (ix2 d c) := by
  rw [← sel_eq (by omega) (by omega)]
  generalize hw : BitVec.ofNat 32 i = w
  unfold setCol
  pointwise [lane64x128, csti, i32]
  rw [hw]

variable (ρ : Env Ideal)

theorem means_at (b : Fin 2) (j : Fin 6) (h : Fin 5) (d : Fin 64) (L : Fin 2 → Row Ideal) :
    means (F := Ideal) L (ix2 d (⟨col b j h, by simp only [col]; omega⟩ : Fin 128)) = qmean (F := Ideal) (L b).n j ((L b).x j h) (ix2 d 0) := by
  have step (m : FVec Ideal S64x128 .f32) (b' : Fin 2) (j' : Fin 6) (h' : Fin 5) (a : FVec Ideal S64x1 .f32) :=
    setCol_at m (col b' j' h') (by simp only [col]; omega) a d ⟨col b j h, by simp only [col]; omega⟩
  unfold means
  refine fold_hit _ (fun m : FVec Ideal S64x128 .f32 => m (ix2 d (⟨col b j h, by simp only [col]; omega⟩ : Fin 128))) _ b _ (mem2 b) (fun m => ?_) (fun m b' _ hb => ?_) _
  · refine fold_hit _ (fun m : FVec Ideal S64x128 .f32 => m (ix2 d (⟨col b j h, by simp only [col]; omega⟩ : Fin 128))) _ j _ (mem6 j) (fun m => ?_) (fun m j' _ hj => ?_) _
    · refine fold_hit _ (fun m : FVec Ideal S64x128 .f32 => m (ix2 d (⟨col b j h, by simp only [col]; omega⟩ : Fin 128))) _ h _ (mem5 h) (fun m => ?_) (fun m h' _ hh => ?_) _
      · exact (step _ _ _ _ _).trans (if_pos rfl)
      · refine (step _ _ _ _ _).trans (if_neg ?_)
        have := Fin.val_ne_of_ne hh
        simp only [col]; omega
    · refine fold_keep _ (fun m : FVec Ideal S64x128 .f32 => m (ix2 d (⟨col b j h, by simp only [col]; omega⟩ : Fin 128))) _ (fun m h' _ => ?_) _
      refine (step _ _ _ _ _).trans (if_neg ?_)
      have := Fin.val_ne_of_ne hj
      simp only [col]; omega
  · refine fold_keep _ (fun m : FVec Ideal S64x128 .f32 => m (ix2 d (⟨col b j h, by simp only [col]; omega⟩ : Fin 128))) _ (fun m j' _ => ?_) _
    refine fold_keep _ (fun m : FVec Ideal S64x128 .f32 => m (ix2 d (⟨col b j h, by simp only [col]; omega⟩ : Fin 128))) _ (fun m h' _ => ?_) _
    refine (step _ _ _ _ _).trans (if_neg ?_)
    have := Fin.val_ne_of_ne hb
    simp only [col]; omega

theorem small_at (L : Fin 2 → Row Ideal) (b : Fin 2) (d : Fin 64) :
    small (F := Ideal) L (ix2 d (⟨b.val, by omega⟩ : Fin 128)) = kmean (F := Ideal) (L b).n (L b).k (ix2 d 0) ∧
    small (F := Ideal) L (ix2 d (⟨2 + b.val, by omega⟩ : Fin 128)) = up64 (vmax (F := Ideal) (L b).n (L b).v) (ix2 d 0) := by
  unfold small
  simp only [List.foldl]
  constructor
  all_goals
    rw [setCol_at _ _ (by decide), setCol_at _ _ (by decide), setCol_at _ _ (by decide), setCol_at _ _ (by decide)]
    fin_cases b <;> rfl

theorem qsrow_at (t : Fin 9) (L : Fin 2 → Row Ideal) (j : Fin 6) (b : Fin 2) (x : Fin 45) :
    qsrow (F := Ideal) (BitVec.ofNat 32 t.val) L j (ix2 b x) = if x.val / 5 = t.val then qup (F := Ideal) (L b).n j ((L b).x j (f5 x.val)) (ix2 0 0) else 0 := by
  have step (m : FVec Ideal S2x45 .f32) (b' : Fin 2) (h' : Fin 5) (a : FVec Ideal S1x1 .f32) :
      (select (andi (cmpi .eq lane45 (broadcast S2x45 (Scalar.addi (Scalar.muli (BitVec.ofNat 32 t.val) 5#32) (i32 h'.val)))) (cmpi .eq sub45 (csti S2x45 b'.val)))
        (broadcastTo S2x45 (shapeCast S1x1 a (by decide)) (by decide)) m : FVec Ideal S2x45 .f32) (ix2 b x) = if x.val = t.val * 5 + h'.val ∧ b = b' then a (ix2 0 0) else m (ix2 b x) := by
    have e1 : Scalar.addi (Scalar.muli (BitVec.ofNat 32 t.val) 5#32) (i32 h'.val) = BitVec.ofNat 32 (t.val * 5 + h'.val) := by
      show BitVec.ofNat 32 t.val * BitVec.ofNat 32 5 + BitVec.ofNat 32 h'.val = _
      rw [← BitVec.ofNat_mul, ← BitVec.ofNat_add]
    rw [e1]
    generalize hw : BitVec.ofNat 32 (t.val * 5 + h'.val) = w
    generalize hw' : BitVec.ofNat 32 b'.val = w'
    pointwise [lane45, sub45, csti, i32]
    rw [hw', ← hw, ← hw']
    have s1 := sel_eq (x := x.val) (y := t.val * 5 + h'.val) (by omega) (by omega) (Scalar.select (IntOp.cmpi .eq (BitVec.ofNat 32 b.val) (BitVec.ofNat 32 b'.val)) (a (ix2 0 0)) (m (ix2 b x))) (m (ix2 b x))
    rw [sel_eq (by omega) (by omega)] at s1
    have s2 (p q : BitVec 1) (u v : EReal) : Scalar.select (IntOp.andi p q) u v = Scalar.select p (Scalar.select q u v) v := by
      have hp : p = 0#1 ∨ p = 1#1 := by revert p; decide
      have hq : q = 0#1 ∨ q = 1#1 := by revert q; decide
      rcases hp with rfl | rfl <;> rcases hq with rfl | rfl <;> rfl
    rw [s2, sel_eq (by omega) (by omega), sel_eq (by omega) (by omega)]
    have : b = b' ↔ b.val = b'.val := Fin.ext_iff
    split_ifs <;> first | rfl | (exfalso; omega)
  unfold qsrow
  by_cases hx : x.val / 5 = t.val
  · rw [if_pos hx]
    refine fold_hit _ (fun m : FVec Ideal S2x45 .f32 => m (ix2 b x)) _ b _ (mem2 b) (fun m => ?_) (fun m b' _ hb => ?_) _
    · refine fold_hit _ (fun m : FVec Ideal S2x45 .f32 => m (ix2 b x)) _ (f5 x.val) _ (mem5 _) (fun m => ?_) (fun m h' _ hh => ?_) _
      · exact (step _ _ _ _).trans (if_pos ⟨by show x.val = t.val * 5 + x.val % 5; omega, rfl⟩)
      · refine (step _ _ _ _).trans (if_neg ?_)
        rintro ⟨h1, -⟩
        exact hh (Fin.ext (by show h'.val = x.val % 5; omega))
    · refine fold_keep _ (fun m : FVec Ideal S2x45 .f32 => m (ix2 b x)) _ (fun m h' _ => ?_) _
      refine (step _ _ _ _).trans (if_neg ?_)
      rintro ⟨-, h1⟩
      exact hb h1.symm
  · rw [if_neg hx]
    refine (fold_keep _ (fun m : FVec Ideal S2x45 .f32 => m (ix2 b x)) _ (fun m b' _ => ?_) _).trans ?_
    · refine fold_keep _ (fun m : FVec Ideal S2x45 .f32 => m (ix2 b x)) _ (fun m h' _ => ?_) _
      refine (step _ _ _ _).trans (if_neg ?_)
      rintro ⟨h1, -⟩
      omega
    · exact Ideal.ofBits_zero_f32

/-! ## The tiles -/

theorem kcT_at (b : Fin 2) (d : Fin 64) (s : Fin 768) : kcT ρ b (ix4 0 0 d s) = kq (F := Ideal) (rowOf ρ b).n (rowOf ρ b).k (ix2 d s) := by
  unfold kcT
  generalize kq (F := Ideal) (rowOf ρ b).n (rowOf ρ b).k = z
  pointwise []
theorem vcT_at (b : Fin 2) (d : Fin 64) (s : Fin 768) : vcT ρ b (ix4 0 0 d s) = vq (F := Ideal) (rowOf ρ b).n (rowOf ρ b).v (ix2 d s) := by
  unfold vcT
  generalize vq (F := Ideal) (rowOf ρ b).n (rowOf ρ b).v = z
  pointwise []
theorem qcT_at (b : Fin 2) (j : Fin 6) (h : Fin 5) (d : Fin 64) (l : Fin 128) : qcT ρ b j h (ix4 0 0 d l) = qq (F := Ideal) (rowOf ρ b).n j ((rowOf ρ b).x j h) (ix2 d l) := by
  unfold qcT
  generalize qq (F := Ideal) (rowOf ρ b).n j ((rowOf ρ b).x j h) = z
  pointwise []
theorem mqT_at (b : Fin 2) (j : Fin 6) (h : Fin 5) (d : Fin 64) : mqT ρ j h (ix4 0 0 b d) = qmean (F := Ideal) (rowOf ρ b).n j ((rowOf ρ b).x j h) (ix2 d 0) := by
  rw [← means_at b j h d (rowOf ρ)]
  unfold mqT
  generalize means (F := Ideal) (rowOf ρ) = z
  pointwise []
theorem mkT_at (b : Fin 2) (d : Fin 64) : mkT ρ (ix3 0 b d) = kmean (F := Ideal) (rowOf ρ b).n (rowOf ρ b).k (ix2 d 0) := by
  rw [← (small_at (rowOf ρ) b d).1]
  unfold mkT
  generalize small (F := Ideal) (rowOf ρ) = z
  pointwise []
theorem vsT_at (b : Fin 2) (d : Fin 64) : vsT ρ (ix3 0 b d) = up64 (vmax (F := Ideal) (rowOf ρ b).n (rowOf ρ b).v) (ix2 d 0) := by
  rw [← (small_at (rowOf ρ) b d).2]
  unfold vsT
  generalize small (F := Ideal) (rowOf ρ) = z
  pointwise []
theorem ksrow_at (n : BitVec 32) (k : Vec Ideal S1x64x768 .bf16) (g : Fin 12) : ksrow (F := Ideal) n k (ix2 0 g) = kup (F := Ideal) n k g (ix2 0 0) := by
  unfold ksrow
  generalize kup (F := Ideal) n k = z
  refine fold_hit _ (fun m : FVec Ideal S1x12 .f32 => m (ix2 (0 : Fin 1) g)) _ g _ (mem12 g) (fun m => ?_) (fun m g' _ hg => ?_) _
  all_goals
    generalize hw : csti S1x12 _ = w
    pointwise []
    rw [← hw]
    refine (sel_eq (by omega) (by omega) _ _).trans ?_
  · rw [if_pos rfl]
  · rw [if_neg fun e => hg (Fin.ext e).symm]
theorem ksT_at (b : Fin 2) (g : Fin 12) : ksT ρ (ix3 0 b g) = kup (F := Ideal) (rowOf ρ b).n (rowOf ρ b).k g (ix2 0 0) := by
  rw [← ksrow_at]
  unfold ksT
  generalize rowOf ρ = L
  generalize hz : (fun b => ksrow (F := Ideal) (L b).n (L b).k) = z
  rw [show ksrow (F := Ideal) (L b).n (L b).k = z b from congrFun hz b, show ksrow (F := Ideal) (L 0).n (L 0).k = z 0 from congrFun hz 0, show ksrow (F := Ideal) (L 1).n (L 1).k = z 1 from congrFun hz 1]
  fin_cases b <;> pointwise []
theorem qsT_at (t : Fin 9) (Z : S6x2x45.Idx → EReal) (j : Fin 6) (b : Fin 2) (x : Fin 45) : qsT ρ (BitVec.ofNat 32 t.val) Z j (ix3 0 b x) =
    Z (ix3 j b x) + (if x.val / 5 = t.val then qup (F := Ideal) (rowOf ρ b).n j ((rowOf ρ b).x j (f5 x.val)) (ix2 0 0) else 0) := by
  rw [← qsrow_at]
  have e : Z (ix3 j b x) = (fun y => Z ((rQs j).emb y) : Vec Ideal S1x2x45 .f32) (ix3 0 b x) := congrArg Z (funext fun a => Fin.ext (by
    rw [unit_emb_val]
    match a with
    | ⟨0, _⟩ => rfl
    | ⟨1, _⟩ => exact (Nat.zero_add _).symm
    | ⟨2, _⟩ => exact (Nat.zero_add _).symm))
  rw [e]
  unfold qsT
  generalize (fun y => Z ((rQs j).emb y) : Vec Ideal S1x2x45 .f32) = z
  generalize qsrow (F := Ideal) _ _ j = y
  pointwise []

end Cert.Proof
end
-- ==== Proof.Scale.lean ====
module
public import proofs.«01_k».proof.Proof.Pure
public import Idealize.ShloMosaic.Lib.Pointwise
public import Idealize.ShloMosaic.Lib.IndicatorCount

@[expose] public section

/-!
# The power of two scale of a maximum

Over the reals the kernel counts the powers of two a scaled maximum reaches, and the reference takes the smallest
power above it. Both give the same scale, and the kernel's inverse scale is its inverse.
-/

noncomputable section
namespace Cert.Proof

open Cert.KernelIdeal
open Idealize.ShloMosaic Idealize.SL.Sem
open Idealize.ShloMosaic.TcCoe

/-- The power of two with biased exponent `t`. -/
def pw (t : ℕ) : EReal := ((2 : ℝ) ^ ((t : ℤ) - 127) : ℝ)

theorem pw_lt {s t : ℕ} : pw s < pw t ↔ s < t := by
  unfold pw
  rw [EReal.coe_lt_coe_iff, zpow_lt_zpow_iff_right₀ (by norm_num)]
  omega
theorem pw_le {s t : ℕ} : pw s ≤ pw t ↔ s ≤ t := by
  unfold pw
  rw [EReal.coe_le_coe_iff, zpow_le_zpow_iff_right₀ (by norm_num)]
  omega
theorem pw_127 : pw 127 = 1 := by unfold pw; norm_num

theorem bits_field : ∀ t : Fin 256, ((BitVec.ofNat 32 t.val <<< 23).extractLsb' 31 1 == 1#1) = false
    ∧ ((BitVec.ofNat 32 t.val <<< 23).extractLsb' 23 8).toNat = t.val ∧ ((BitVec.ofNat 32 t.val <<< 23).extractLsb' 0 23).toNat = 0 := by
  decide +kernel

theorem ieee_pw (b : BitVec 32) (t : ℕ) (e1 : (b.extractLsb' 31 1 == 1#1) = false) (e2 : (b.extractLsb' 23 8).toNat = t)
    (e3 : (b.extractLsb' 0 23).toNat = 0) : Ideal.ieee 8 23 b = if t = 255 then (⊤ : EReal) else if t = 0 then 0 else pw t := by
  unfold Ideal.ieee
  dsimp only
  rw [e2, e3]
  have e1' : (b.extractLsb' (8 + 23) 1 == 1#1) = false := e1
  rw [e1']
  by_cases h : t = 255
  · rw [if_pos (by rw [h]; norm_num), if_pos rfl, if_neg (by decide), if_pos h]
  rw [if_neg (by omega), if_neg h]
  by_cases h0 : t = 0
  · rw [if_pos h0, if_pos h0]; simp
  rw [if_neg h0, if_neg h0]
  unfold pw
  have : (2 : ℝ) ^ ((t : ℤ) - 127) = 2 ^ (23 : ℤ) * 2 ^ ((t : ℤ) - (2 ^ (8 - 1) - 1) - 23) := by
    rw [← zpow_add₀ (by norm_num)]
    congr 1
    norm_num
  rw [this]
  norm_num
theorem ofBits_pw (t : ℕ) (h1 : 1 ≤ t) (h2 : t ≤ 254) : Ideal.ofBits .f32 (BitVec.ofNat 32 t <<< 23) = pw t := by
  obtain ⟨e1, e2, e3⟩ := bits_field ⟨t, by omega⟩
  generalize hb : BitVec.ofNat 32 t <<< 23 = b
  rw [hb] at e1 e2 e3
  exact (ieee_pw b t e1 e2 e3).trans (by rw [if_neg (by omega), if_neg (by omega)])
theorem ofBits_255 : Ideal.ofBits .f32 (BitVec.ofNat 32 255 <<< 23) = (⊤ : EReal) := by
  obtain ⟨e1, e2, e3⟩ := bits_field ⟨255, by omega⟩
  generalize hb : BitVec.ofNat 32 255 <<< 23 = b
  rw [hb] at e1 e2 e3
  exact (ieee_pw b 255 e1 e2 e3).trans (if_pos rfl)

/-- How many powers of two a value below `pw 253` reaches. -/
theorem exists_lead (y : EReal) (hy : y < pw 253) : ∃ K : ℕ, K ≤ 252 ∧ ∀ t, 1 ≤ t → (pw t ≤ y ↔ t ≤ K) := by
  classical
  refine ⟨Nat.findGreatest (fun t => 1 ≤ t ∧ pw t ≤ y) 252, Nat.findGreatest_le _, fun t ht => ⟨fun h => ?_, fun h => ?_⟩⟩
  · have : t < 253 := pw_lt.mp (h.trans_lt hy)
    exact Nat.le_findGreatest (by omega) ⟨ht, h⟩
  · have hp := Nat.findGreatest_of_ne_zero (P := fun t => 1 ≤ t ∧ pw t ≤ y) (n := 252) rfl (by omega)
    exact (pw_le.mpr h).trans hp.2

/-- The scaled maximum. -/
def sc448 (a : EReal) : EReal := a * Ideal.ofBits .f32 0x3B124925#32

/-- How many of the powers a value reaches, as the kernel counts them. -/
def bcnt (y : EReal) : BitVec 32 :=
  Finset.fold IntOp.addi (0#32) (fun x : Fin 255 => BitVec.setWidth 32 (BitVec.ofBool (decide
    (Ideal.ofBits FTy.f32 (IntOp.shli ArithUnit.vector (IntOp.addi (BitVec.ofNat 32 ↑x) (i32 1)) (i32 23)) ≤ y)))) Finset.univ

/-- The kernel's exponent, -/
def expE (a : EReal) : BitVec 32 :=
  Scalar.select (IntOp.cmpi CmpIPredicate.eq (bcnt (sc448 a)) (i32 0)) (i32 0) (IntOp.subi (bcnt (sc448 a)) (i32 126))

/-- scale -/
def upE (a : EReal) : EReal := Ideal.ofBits .f32 (IntOp.shli ArithUnit.vector (IntOp.addi (expE a) (i32 127)) (i32 23))

/-- and inverse scale. -/
def downE (a : EReal) : EReal := Ideal.ofBits .f32 (IntOp.shli ArithUnit.vector (IntOp.subi (i32 127) (expE a)) (i32 23))

/-- The reference's scale. -/
def refE (a : EReal) : EReal :=
  if sc448 a < Ideal.ofBits .f32 0x00800000#32 then Ideal.ofBits .f32 0x3F800000#32 else
    Finset.univ.fold min (Ideal.ofBits .f32 0x7F800000#32) fun x : Fin 254 =>
      if sc448 a < Ideal.ofBits FTy.f32 (IntOp.shli ArithUnit.host (IntOp.addi (1#32) (BitVec.ofNat 32 ↑x)) 23#32) then
        Ideal.ofBits FTy.f32 (IntOp.shli ArithUnit.host (IntOp.addi (1#32) (BitVec.ofNat 32 ↑x)) 23#32) else Ideal.ofBits .f32 0x7F800000#32

theorem shl_kernel : ∀ x : Fin 255, IntOp.shli ArithUnit.vector (IntOp.addi (BitVec.ofNat 32 x.val) (i32 1)) (i32 23) = BitVec.ofNat 32 (x.val + 1) <<< 23 := by
  decide +kernel
theorem shl_ref : ∀ x : Fin 254, IntOp.shli ArithUnit.host (IntOp.addi (1#32) (BitVec.ofNat 32 x.val)) 23#32 = BitVec.ofNat 32 (x.val + 1) <<< 23 := by
  decide +kernel
theorem thr_kernel (x : Fin 255) (h : x.val < 254) :
    Ideal.ofBits FTy.f32 (IntOp.shli ArithUnit.vector (IntOp.addi (BitVec.ofNat 32 x.val) (i32 1)) (i32 23)) = pw (x.val + 1) := by
  rw [shl_kernel]; exact ofBits_pw _ (by omega) (by omega)
theorem thr_ref (x : Fin 254) :
    Ideal.ofBits FTy.f32 (IntOp.shli ArithUnit.host (IntOp.addi (1#32) (BitVec.ofNat 32 x.val)) 23#32) = pw (x.val + 1) := by
  rw [shl_ref]; exact ofBits_pw _ (by omega) (by omega)
theorem bits_inf : Ideal.ofBits .f32 0x7F800000#32 = (⊤ : EReal) := ofBits_255
theorem bits_tiny : Ideal.ofBits .f32 0x00800000#32 = pw 1 := ofBits_pw 1 (by decide) (by decide)

theorem bcnt_eq (y : EReal) (K : ℕ) (h252 : K ≤ 252) (hK : ∀ t, 1 ≤ t → (pw t ≤ y ↔ t ≤ K)) (hy : y < ⊤) : bcnt y = BitVec.ofNat 32 K := by
  unfold bcnt
  rw [IndicatorCount.fold_addi_setWidth_eq_card]
  congr 1
  have : (Finset.univ.filter fun x : Fin 255 => BitVec.ofBool (decide
      (Ideal.ofBits FTy.f32 (IntOp.shli ArithUnit.vector (IntOp.addi (BitVec.ofNat 32 ↑x) (i32 1)) (i32 23)) ≤ y)) = 1#1)
      = Finset.univ.filter fun x : Fin 255 => x.val < K := by
    refine Finset.filter_congr fun x _ => ?_
    have e : ∀ p : Prop, [Decidable p] → (BitVec.ofBool (decide p) = 1#1 ↔ p) := by
      intro p _; by_cases hp : p <;> simp [hp]
    rw [e]
    by_cases hx : x.val < 254
    · rw [thr_kernel x hx, hK _ (by omega)]; omega
    · have hx' : x.val = 254 := by omega
      rw [shl_kernel, hx', ofBits_255, top_le_iff]
      exact ⟨fun h => absurd h hy.ne, fun h => by omega⟩
  rw [this, Fin.card_filter_val_lt]
  omega

theorem exp_words : ∀ K : Fin 253, IntOp.shli ArithUnit.vector (IntOp.addi (Scalar.select (IntOp.cmpi CmpIPredicate.eq (BitVec.ofNat 32 K.val) (i32 0)) (i32 0) (IntOp.subi (BitVec.ofNat 32 K.val) (i32 126))) (i32 127)) (i32 23)
      = BitVec.ofNat 32 (if K.val = 0 then 127 else K.val + 1) <<< 23
    ∧ IntOp.shli ArithUnit.vector (IntOp.subi (i32 127) (Scalar.select (IntOp.cmpi CmpIPredicate.eq (BitVec.ofNat 32 K.val) (i32 0)) (i32 0) (IntOp.subi (BitVec.ofNat 32 K.val) (i32 126)))) (i32 23)
      = BitVec.ofNat 32 (if K.val = 0 then 127 else 253 - K.val) <<< 23 := by
  decide +kernel

/-- One positive real is the kernel's scale, the reference's, and the inverse of the kernel's inverse scale. -/
theorem scale_main (a : EReal) (h : sc448 a < pw 253) :
    ∃ s : ℝ, 0 < s ∧ upE a = (s : EReal) ∧ downE a = ((1 / s : ℝ) : EReal) ∧ refE a = (s : EReal) := by
  obtain ⟨K, h252, hK⟩ := exists_lead _ h
  have hb := bcnt_eq _ K h252 hK (h.trans (EReal.coe_lt_top _))
  obtain ⟨w1, w2⟩ := exp_words ⟨K, by omega⟩
  have hu : upE a = pw (if K = 0 then 127 else K + 1) := by
    unfold upE expE
    rw [hb, w1]
    exact ofBits_pw _ (by split_ifs <;> omega) (by dsimp only; split_ifs <;> omega)
  have hd : downE a = pw (if K = 0 then 127 else 253 - K) := by
    unfold downE expE
    rw [hb, w2]
    exact ofBits_pw _ (by dsimp only; split_ifs <;> omega) (by dsimp only; split_ifs <;> omega)
  refine ⟨(2 : ℝ) ^ (((if K = 0 then 127 else K + 1 : ℕ) : ℤ) - 127), by positivity, hu, ?_, ?_⟩
  · rw [hd]
    unfold pw
    congr 1
    rw [one_div, ← zpow_neg]
    congr 1
    split_ifs <;> omega
  · show refE a = pw _
    unfold refE
    by_cases hk : K = 0
    · rw [if_pos hk, if_pos, Ideal.ofBits_one_f32, pw_127]
      rw [bits_tiny]
      exact not_le.mp fun hle => absurd ((hK 1 le_rfl).mp hle) (by omega)
    · rw [if_neg hk, if_neg]
      · rw [bits_inf]
        apply le_antisymm
        · rw [Finset.fold_min_le]
          refine .inr ⟨⟨K, by omega⟩, Finset.mem_univ _, ?_⟩
          rw [thr_ref, if_pos (not_le.mp fun hle => absurd ((hK _ (by omega)).mp hle) (by simp))]
        · rw [Finset.le_fold_min]
          refine ⟨le_top, fun x _ => ?_⟩
          rw [thr_ref]
          split_ifs with hx
          · exact pw_le.mpr (by by_contra hc; exact absurd ((hK (x.val + 1) (by omega)).mpr (by omega)) (not_le.mpr hx))
          · exact le_top
      · rw [bits_tiny, not_lt]
        exact (hK 1 le_rfl).mpr (by omega)

set_option maxRecDepth 16384 in
theorem up1_apply (a : FVec Ideal S1x1 .f32) : up1 a (ix2 0 0) = upE (a (ix2 0 0)) := by
  pointwise [up1, exp1]
  rfl
set_option maxRecDepth 16384 in
theorem down1_apply (a : FVec Ideal S1x1 .f32) : down1 a (ix2 0 0) = downE (a (ix2 0 0)) := by
  pointwise [down1, exp1]
  rfl
set_option maxRecDepth 16384 in
theorem up64_apply (a : FVec Ideal S64x1 .f32) (d : Fin 64) : up64 a (ix2 d 0) = upE (a (ix2 d 0)) := by
  pointwise [up64, exp64]
  rfl
set_option maxRecDepth 16384 in
theorem down64_apply (a : FVec Ideal S64x1 .f32) (d : Fin 64) : down64 a (ix2 d 0) = downE (a (ix2 d 0)) := by
  pointwise [down64, exp64]
  rfl

/-- Clipping to the fp8 range. -/
def clipE (x : EReal) : EReal := min (Ideal.ofBits .f32 0x43E00000#32) (max (Ideal.ofBits .f32 0xC3E00000#32) x)

/-- The codes agree. -/
theorem codes_eq (x a : EReal) (h : sc448 a < pw 253) : x * downE a = Ideal.div x (refE a) := by
  obtain ⟨s, hs, -, hd, hr⟩ := scale_main a h
  rw [hd, hr, Ideal.div_coe hs.ne']
theorem scales_eq (a : EReal) (h : sc448 a < pw 253) : upE a = refE a := by
  obtain ⟨s, hs, hu, hd, hr⟩ := scale_main a h
  rw [hu, hr]

/-- A maximum below `2^130` is in range. -/
theorem sc448_lt (a : EReal) (h0 : 0 ≤ a) (h : a ≤ pw 256) : sc448 a < pw 253 := by
  have hc : Ideal.ofBits .f32 0x3B124925#32 = (((2 ^ 23 + 1198373 : ℕ) : ℝ) * 2 ^ (-32 : ℤ) : ℝ) := by
    simp [Ideal.ofBits, Ideal.ieee, -EReal.coe_mul]
  unfold sc448
  rw [hc]
  lift a to ℝ using ⟨(h.trans_lt (EReal.coe_lt_top _)).ne, (lt_of_lt_of_le EReal.bot_lt_zero h0).ne'⟩
  unfold pw at h ⊢
  rw [EReal.coe_le_coe_iff] at h
  rw [← EReal.coe_mul, EReal.coe_lt_coe_iff]
  calc a * (((2 ^ 23 + 1198373 : ℕ) : ℝ) * 2 ^ (-32 : ℤ)) ≤ 2 ^ (((256 : ℕ) : ℤ) - 127) * (((2 ^ 23 + 1198373 : ℕ) : ℝ) * 2 ^ (-32 : ℤ)) := by gcongr
    _ < _ := by norm_num

end Cert.Proof
end
-- ==== Proof.Mid.lean ====
module
public import proofs.«01_k».proof.Proof.Scale

@[expose] public section

/-!
# The quantiser over the extended reals

The mathematics both programs share, over plain index types: masked means, deviations from them, the largest
magnitude of a group, its scale and its codes; and that for finite inputs every such maximum is in range.
-/

noncomputable section
namespace Cert.Proof

open Idealize.ShloMosaic Idealize.SL.Sem

/-- Whether a position is below the row's length. -/
def vb (n : BitVec 32) (s : ℕ) : BitVec 1 := IntOp.cmpi .slt (BitVec.ofNat 32 s) n

/-- A value where the position is valid, zero elsewhere. -/
def mskE (n : BitVec 32) (s : ℕ) (x : EReal) : EReal := Scalar.select (vb n s) x 0

section
variable {N : ℕ} (n : BitVec 32) (pos : Fin N → ℕ)

/-- How many positions are valid, and at least one. -/
def cntE : EReal := max (∑ s, (((vb n (pos s)).toNat : ℝ) : EReal)) 1
/-- The mean of the valid positions, -/
def meanE (f : Fin N → EReal) : EReal := Ideal.div (∑ s, mskE n (pos s) (f s)) (cntE n pos)
/-- and the deviation from it. -/
def devE (f : Fin N → EReal) (s : Fin N) : EReal := mskE n (pos s) (f s - meanE n pos f)
end

/-- The largest magnitude. -/
def supE {ι : Type} [Fintype ι] (g : ι → EReal) : EReal := Finset.univ.fold max ⊥ fun i => max (g i) (-g i)

theorem supE_le {ι : Type} [Fintype ι] (g : ι → EReal) (c : EReal) : supE g ≤ c ↔ ∀ i, max (g i) (-g i) ≤ c := by
  unfold supE
  rw [Finset.fold_max_le]
  simp

theorem abs_nonneg' (x : EReal) : 0 ≤ max x (-x) := by
  rcases le_total 0 x with h | h
  · exact h.trans (le_max_left _ _)
  · exact (EReal.neg_nonneg.mpr h).trans (le_max_right _ _)

theorem supE_nonneg {ι : Type} [Fintype ι] [Nonempty ι] (g : ι → EReal) : 0 ≤ supE g :=
  (abs_nonneg' (g (Classical.arbitrary ι))).trans ((supE_le g _).mp le_rfl _)

/-- A group's code. -/
def codeE (x a : EReal) : EReal := clipE (Ideal.div x (refE a))

/-! ## Everything stays in range -/

theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]
theorem coe_max' (a b : ℝ) : ((max a b : ℝ) : EReal) = max (a : EReal) (b : EReal) := EReal.coe_strictMono.monotone.map_max

/-- A value is real and of magnitude at most the largest bf16. -/
def Fin' (x : EReal) : Prop := ∃ r : ℝ, x = r ∧ |r| ≤ 2 ^ 128

theorem vb_cases (n : BitVec 32) (s : ℕ) : vb n s = 0#1 ∨ vb n s = 1#1 := by
  generalize vb n s = b
  revert b
  decide

theorem mskE_fin {n : BitVec 32} {s : ℕ} {x : EReal} (h : Fin' x) : Fin' (mskE n s x) := by
  unfold mskE
  rcases vb_cases n s with e | e
  · rw [e]; exact ⟨0, by simp [Scalar.select], by simp⟩
  · rw [e]; simpa [Scalar.select] using h

theorem mean_fin {N : ℕ} (n : BitVec 32) (pos : Fin N → ℕ) (f : Fin N → EReal) (h : ∀ s, Fin' (f s)) : Fin' (meanE n pos f) := by
  choose r hr hb using h
  have hs : ∑ s, mskE n (pos s) (f s) = ((∑ s, if vb n (pos s) = 1#1 then r s else 0 : ℝ) : EReal) := by
    rw [coe_sum']
    refine Finset.sum_congr rfl fun s _ => ?_
    unfold mskE
    rcases vb_cases n (pos s) with e | e <;> rw [e] <;> simp [Scalar.select, hr]
  have hc : cntE n pos = ((max (∑ s, if vb n (pos s) = 1#1 then (1 : ℝ) else 0) 1 : ℝ) : EReal) := by
    unfold cntE
    rw [coe_max', coe_sum']
    refine congrArg₂ max (Finset.sum_congr rfl fun s _ => ?_) rfl
    rcases vb_cases n (pos s) with e | e <;> rw [e] <;> simp
  unfold meanE
  rw [hs, hc]
  set C : ℝ := ∑ s, if vb n (pos s) = 1#1 then (1 : ℝ) else 0 with hC
  have hm : (0 : ℝ) < max C 1 := lt_max_of_lt_right one_pos
  refine ⟨(∑ s, if vb n (pos s) = 1#1 then r s else 0) * (1 / max C 1), ?_, ?_⟩
  · rw [Ideal.div_coe hm.ne', ← EReal.coe_mul]
  · rw [abs_mul, abs_of_pos (one_div_pos.mpr hm), mul_one_div, div_le_iff₀ hm]
    calc |∑ s, if vb n (pos s) = 1#1 then r s else 0| ≤ ∑ s, |if vb n (pos s) = 1#1 then r s else 0| := Finset.abs_sum_le_sum_abs _ _
      _ ≤ ∑ s, 2 ^ 128 * (if vb n (pos s) = 1#1 then (1 : ℝ) else 0) := Finset.sum_le_sum fun s _ => by
          split_ifs
          · simpa using hb s
          · simp
      _ = 2 ^ 128 * C := by rw [hC, Finset.mul_sum]
      _ ≤ 2 ^ 128 * max C 1 := by gcongr; exact le_max_left _ _

theorem pw_256 : pw 256 = ((2 ^ 129 : ℝ) : EReal) := by unfold pw; norm_num

theorem abs_le_of (x : EReal) (r c : ℝ) (h : x = r) (hr : |r| ≤ c) : max x (-x) ≤ (c : EReal) := by
  subst h
  rw [← EReal.coe_neg, ← coe_max', EReal.coe_le_coe_iff]
  exact hr

theorem dev_real {N : ℕ} (n : BitVec 32) (pos : Fin N → ℕ) (f : Fin N → EReal) (h : ∀ s, Fin' (f s)) (s : Fin N) :
    ∃ r : ℝ, devE n pos f s = r ∧ |r| ≤ 2 ^ 129 := by
  obtain ⟨a, ha, hab⟩ := h s
  obtain ⟨b, hb, hbb⟩ := mean_fin n pos f h
  unfold devE mskE
  rcases vb_cases n (pos s) with e | e
  · rw [e]; exact ⟨0, by simp [Scalar.select], by simp⟩
  · rw [e, ha, hb]
    refine ⟨a - b, by simp [Scalar.select], (abs_sub _ _).trans ?_⟩
    linarith

theorem sup_range {ι : Type} [Fintype ι] [Nonempty ι] (g : ι → EReal) (h : ∀ i, ∃ r : ℝ, g i = r ∧ |r| ≤ 2 ^ 129) : sc448 (supE g) < pw 253 := by
  refine sc448_lt _ (supE_nonneg g) ((supE_le g _).mpr fun i => ?_)
  obtain ⟨r, hr, hb⟩ := h i
  rw [pw_256]
  exact abs_le_of _ r _ hr hb

theorem fin_big {x : EReal} (h : Fin' x) : ∃ r : ℝ, x = r ∧ |r| ≤ 2 ^ 129 := by
  obtain ⟨r, hr, hb⟩ := h
  exact ⟨r, hr, hb.trans (by norm_num)⟩

end Cert.Proof
end
-- ==== Proof.ReadK.lean ====
module
public import proofs.«01_k».proof.Proof.Pure
public import proofs.«01_k».proof.Proof.Scale
public import proofs.«01_k».proof.Proof.Mid
public import Idealize.ShloMosaic.Lib.Pointwise

@[expose] public section
set_option maxRecDepth 16384

/-!
# Counts and maxima of the kernel

The count a mean divides by is the number of valid positions, and a vector maximum is a largest magnitude.
-/

noncomputable section
namespace Cert.Proof
open Cert.KernelIdeal
open Idealize.ShloMosaic Idealize.SL.Sem Idealize.ShloMosaic.TcCoe

theorem neg_inf' : Ideal.ofBits .f32 0xFF800000#32 = (⊥ : EReal) := by
  simp [Ideal.ofBits, Ideal.ieee]

/-- A vector maximum over the elements of a list of indices. -/
theorem max_red {s t : Shape} {axes : List (Fin s.rank)} {ι : Type} [Fintype ι] (x : FVec Ideal s .f32)
    (h : s.Reduces axes t) (hφ : FKind.Formats .f32) (hacc : (0xFF800000#32 : BitVec FTy.f32.bits) = FKind.maximumf.neutral .f32 hφ) (J : t.Idx) (mk : ι → s.Idx) (h1 : ∀ i, h.drop i = J → ∃ k, i = mk k) (h2 : ∀ k, h.drop (mk k) = J) :
    multiReduction .maximumf axes t x 0xFF800000#32 h hφ hacc J = Finset.univ.fold max (⊥ : EReal) fun k => x (mk k) := by
  rw [multiReduction_maximumf_eq_fold]
  refine eq_of_forall_ge_iff fun c => ?_
  refine (Finset.fold_max_le (s := Finset.univ.filter fun i => h.drop i = J) (f := x) c).trans (Iff.trans ?_ (Finset.fold_max_le c).symm)
  refine and_congr ?_ ?_
  · rw [show (FloatOps.ofBits (F := Ideal) .f32 0xFF800000#32 : EReal) = ⊥ from neg_inf']
  · simp only [Finset.mem_filter, Finset.mem_univ, true_and, true_implies]
    exact ⟨fun H k => H _ (h2 k), fun H i hi => by obtain ⟨k, rfl⟩ := h1 i hi; exact H k⟩

/-! ## Counts -/

theorem toInt_small (s : ℕ) (hs : s < 2 ^ 31) : (BitVec.ofNat 32 s).toInt = s := by
  rw [BitVec.toInt_eq_toNat_cond, BitVec.toNat_ofNat, Nat.mod_eq_of_lt (by omega), if_pos (by omega)]

theorem vb_iff (n : BitVec 32) (s : ℕ) (hs : s < 2 ^ 31) : vb n s = 1#1 ↔ (s : ℤ) < n.toInt := by
  unfold vb IntOp.cmpi
  rw [← toInt_small s hs]
  generalize BitVec.ofNat 32 s = w
  simp only [BitVec.slt]
  by_cases h : w.toInt < n.toInt <;> simp [h]

theorem sum_lt (N M : ℕ) : (∑ s : Fin N, if s.val < M then (1 : ℝ) else 0) = ((min M N : ℕ) : ℝ) := by
  rw [Fin.sum_univ_eq_sum_range (fun i => if i < M then (1 : ℝ) else 0) N, Finset.sum_boole,
    show (Finset.range N).filter (fun s => s < M) = Finset.range (min M N) from by ext; simp; omega, Finset.card_range]

/-- How many positions are valid. -/
theorem cnt_sum (n : BitVec 32) (a N M : ℕ) (hN : a + N ≤ 2 ^ 31) (hM : ∀ s < N, ((a + s : ℕ) : ℤ) < n.toInt ↔ s < M) :
    cntE n (fun s : Fin N => a + s.val) = max (((min M N : ℕ) : ℝ) : EReal) 1 := by
  unfold cntE
  rw [← sum_lt N M, coe_sum']
  congr 1
  refine Finset.sum_congr rfl fun s _ => ?_
  have h := (vb_iff n (a + s.val) (by omega)).trans (hM s.val s.isLt)
  rcases vb_cases n (a + s.val) with e | e
  · rw [e] at h ⊢
    rw [if_neg (fun h' => by simpa using h.mpr h')]
    simp
  · rw [if_pos (h.mp e), e]
    simp

/-- The keys' count. -/
theorem cnt_eq (n : BitVec 32) (h : n.toInt ≤ 768) : cnt (F := Ideal) n = cntE n (fun s : Fin 768 => s.val) := by
  have e := cnt_sum n 0 768 n.toInt.toNat (by norm_num) (fun s _ => by omega)
  simp only [Nat.zero_add] at e
  rw [e]
  have e1 : cnt (F := Ideal) n = max ((n.toInt : ℝ) : EReal) 1 := by
    unfold cnt
    exact congrArg (max ((n.toInt : ℝ) : EReal)) Ideal.ofBits_one_f32
  rw [e1, show min n.toInt.toNat 768 = n.toInt.toNat by omega]
  rcases le_total 0 n.toInt with h0 | h0
  · have : ((n.toInt.toNat : ℕ) : ℝ) = (n.toInt : ℝ) := by exact_mod_cast Int.toNat_of_nonneg h0
    rw [this]
  · rw [Int.toNat_of_nonpos h0]
    have h1 : ((n.toInt : ℝ) : EReal) ≤ 1 := by
      have : (n.toInt : ℝ) ≤ 1 := by exact_mod_cast h0.trans zero_le_one
      exact_mod_cast this
    rw [max_eq_right h1, max_eq_right (by simp)]

/-- A block's queries' count, but where none is valid. -/
theorem qcnt_eq (n : BitVec 32) (j : Fin 6) :
    (qcnt (F := Ideal) n j = cntE n (fun l : Fin 128 => j.val * 128 + l.val)) ∨
    ((∀ l : Fin 128, vb n (j.val * 128 + l.val) = 0#1) ∧ ∃ r : ℝ, r ≠ 0 ∧ qcnt (F := Ideal) n j = r) := by
  have hj := j.isLt
  have hj' : (BitVec.ofNat 32 (j.val * 128)).toInt = j.val * 128 := by
    rw [toInt_small _ (by omega)]; push_cast; rfl
  have e1 (z : ℤ) (hz : (IntOp.minsi 128#32 (IntOp.maxsi 0#32 (n - BitVec.ofNat 32 (j.val * 128)))).toInt = z) :
      qcnt (F := Ideal) n j = max ((z : ℝ) : EReal) 1 := by
    unfold qcnt
    rw [← hz]
    exact congrArg (max _) Ideal.ofBits_one_f32
  by_cases hn : n.toInt ≤ j.val * 128
  · right
    refine ⟨fun l => ?_, ?_⟩
    · rcases vb_cases n (j.val * 128 + l.val) with e | e
      · exact e
      · exact absurd ((vb_iff n _ (by omega)).mp e) (by push_cast; omega)
    · obtain ⟨z, hz⟩ : ∃ z, (IntOp.minsi 128#32 (IntOp.maxsi 0#32 (n - BitVec.ofNat 32 (j.val * 128)))).toInt = z := ⟨_, rfl⟩
      rw [e1 z hz]
      refine ⟨max (z : ℝ) 1, ne_of_gt (lt_of_lt_of_le one_pos (le_max_right _ _)), ?_⟩
      rw [coe_max', EReal.coe_one]
  · left
    have hn' := BitVec.toInt_lt (x := n)
    have hw : (n - BitVec.ofNat 32 (j.val * 128)).toInt = n.toInt - j.val * 128 := by
      rw [BitVec.toInt_sub, hj', Int.bmod_def]; omega
    rw [cnt_sum n (j.val * 128) 128 (n.toInt - j.val * 128).toNat (by omega) (fun s _ => by push_cast; omega)]
    rw [e1 ((min (n.toInt - j.val * 128).toNat 128 : ℕ) : ℤ) ?_]
    · norm_cast
    · unfold IntOp.minsi IntOp.maxsi
      generalize n - BitVec.ofNat 32 (j.val * 128) = w at hw
      have h0 : (0#32).toInt = 0 := rfl
      have h1 : (128#32).toInt = 128 := rfl
      simp only [BitVec.slt, BitVec.sle, h0, hw]
      split <;> split <;> simp_all <;> omega

end Cert.Proof
end
-- ==== Proof.ReadKK.lean ====
module
public import proofs.«01_k».proof.Proof.ReadK

@[expose] public section
set_option maxRecDepth 16384

/-!
# The kernel's keys and values over the reals
-/

noncomputable section
namespace Cert.Proof
open Cert.KernelIdeal
open Idealize.ShloMosaic Idealize.SL.Sem Idealize.ShloMosaic.TcCoe

variable (n : BitVec 32) (blk : Vec Ideal S1x64x768 .bf16)

/-- A dimension of a block of k or v. -/
def lin (d : Fin 64) (s : Fin 768) : EReal := blk (ix3 0 d s)

theorem masked_at (d : Fin 64) (s : Fin 768) : masked (F := Ideal) n blk (ix2 d s) = mskE n s.val (lin blk d s) := by
  pointwise [masked, valid, cst]
  rfl

theorem kmean_at (h : n.toInt ≤ 768) (d : Fin 64) : kmean (F := Ideal) n blk (ix2 d 0) = meanE n (fun s : Fin 768 => s.val) (lin blk d) := by
  have e (s : Fin 768) := masked_at n blk d s
  unfold kmean
  generalize masked (F := Ideal) n blk = z at e
  rw [cnt_eq n h]
  pointwise []
  unfold meanE
  simp only [← e]

theorem kdev_at (h : n.toInt ≤ 768) (d : Fin 64) (s : Fin 768) : kdev (F := Ideal) n blk (ix2 d s) = devE n (fun s : Fin 768 => s.val) (lin blk d) s := by
  have e := masked_at n blk d s
  have e1 := kmean_at n blk h d
  unfold kdev
  generalize masked (F := Ideal) n blk = z at e
  generalize kmean (F := Ideal) n blk = y at e1
  pointwise [valid, cst]
  rw [e, e1]
  unfold devE mskE
  rcases vb_cases n s.val with h | h <;> rw [show IntOp.cmpi .slt (BitVec.ofNat 32 s.val) n = vb n s.val from rfl, h] <;> rfl

theorem kabs_at (s : Fin 768) : kabs (F := Ideal) n blk (ix2 0 s) = Finset.univ.fold max (⊥ : EReal) fun d : Fin 64 => max (kdev (F := Ideal) n blk (ix2 d s)) (-kdev (F := Ideal) n blk (ix2 d s)) := by
  unfold kabs
  generalize kdev (F := Ideal) n blk = z
  pointwise []
  rw [neg_inf']
  rfl

theorem vmax_at (d : Fin 64) : vmax (F := Ideal) n blk (ix2 d 0) = supE fun s : Fin 768 => mskE n s.val (lin blk d s) := by
  have e (s : Fin 768) := masked_at n blk d s
  unfold vmax
  generalize masked (F := Ideal) n blk = z at e
  pointwise []
  unfold supE
  simp only [← e]
  rw [neg_inf']
  rfl

/-- The lane of a tile that key `s` is. -/
theorem kinv_at (t : Fin 6) (l : Fin 128) : kinv (F := Ideal) n blk (ix2 0 (⟨t.val * 128 + l.val, by omega⟩ : Fin 768)) = kinvTile (F := Ideal) n blk t (ix2 0 l) := by
  unfold kinv
  generalize kinvTile (F := Ideal) n blk = z
  fin_cases t <;> pointwise []
  all_goals
    repeat rw [dif_neg (by omega)]
    try rw [dif_pos (by omega)]
    exact congrArg (fun i => z _ (ix2 0 i)) (Fin.ext (by dsimp only; omega))

/-- A choice by a lane's half. -/
theorem sel_half {l : ℕ} (hl : l < 128) (a b : EReal) : Scalar.select (IntOp.cmpi .slt (BitVec.ofNat 32 l) 64#32) a b = if l < 64 then a else b := by
  have h := vb_iff 64#32 l (by omega)
  rw [show IntOp.cmpi .slt (BitVec.ofNat 32 l) 64#32 = vb 64#32 l from rfl]
  rcases vb_cases 64#32 l with e | e
  · rw [e] at h ⊢
    rw [if_neg (fun h' => by simpa using h.mpr (by rw [show (64#32).toInt = 64 from rfl]; omega))]
    rfl
  · rw [if_pos (by have := h.mp e; rw [show (64#32).toInt = 64 from rfl] at this; omega), e]
    rfl

theorem kinvTile_at (t : Fin 6) (l : Fin 128) : kinvTile (F := Ideal) n blk t (ix2 0 l) =
    if l.val < 64 then downE (kmax (F := Ideal) n blk ⟨2 * t.val, by omega⟩ (ix2 0 0)) else downE (kmax (F := Ideal) n blk ⟨2 * t.val + 1, by omega⟩ (ix2 0 0)) := by
  unfold kinvTile
  have e1 := down1_apply (kmax (F := Ideal) n blk ⟨2 * t.val, by omega⟩)
  have e2 := down1_apply (kmax (F := Ideal) n blk ⟨2 * t.val + 1, by omega⟩)
  rw [← e1, ← e2]
  generalize down1 (kmax (F := Ideal) n blk ⟨2 * t.val, by omega⟩) = y
  generalize down1 (kmax (F := Ideal) n blk ⟨2 * t.val + 1, by omega⟩) = z
  pointwise [lane128, csti, i32]
  exact sel_half l.isLt _ _

theorem half_at (g : Fin 12) (l : Fin 128) (a : EReal) : Scalar.select (half g (ix2 0 l)) a 0 = if l.val / 64 = g.val % 2 then a else 0 := by
  have hl := l.isLt
  have hs := sel_half hl
  have c1 : cmpi .slt lane128 (csti S1x128 64) (ix2 0 l) = IntOp.cmpi .slt (BitVec.ofNat 32 l.val) 64#32 := by
    pointwise [lane128, csti, i32]
  have c2 : cmpi .sge lane128 (csti S1x128 64) (ix2 0 l) = IntOp.cmpi .sge (BitVec.ofNat 32 l.val) 64#32 := by
    pointwise [lane128, csti, i32]
  unfold half
  by_cases h : g.val % 2 = 0
  · rw [if_pos h, c1]
    refine (hs a 0).trans ?_
    congr 1
    simp only [eq_iff_iff]; omega
  · rw [if_neg h, c2]
    have : Scalar.select (IntOp.cmpi .sge (BitVec.ofNat 32 l.val) 64#32) a 0 = Scalar.select (IntOp.cmpi .slt (BitVec.ofNat 32 l.val) 64#32) 0 a := by
      unfold IntOp.cmpi Scalar.select
      simp only [BitVec.slt, BitVec.sle, show (64#32).toInt = 64 from rfl]
      by_cases h' : (BitVec.ofNat 32 l.val).toInt < 64
      · have h'' : ¬ 64 ≤ (BitVec.ofNat 32 l.val).toInt := by omega
        simp [h', h'']
      · have h'' : 64 ≤ (BitVec.ofNat 32 l.val).toInt := by omega
        simp [h', h'']
    refine this.trans ((hs 0 a).trans ?_)
    split_ifs <;> first | rfl | omega

/-- The largest magnitude of a group. -/
theorem kmax_at (h : n.toInt ≤ 768) (g : Fin 12) : kmax (F := Ideal) n blk g (ix2 0 0) =
    supE fun p : Fin 64 × Fin 64 => devE n (fun s : Fin 768 => s.val) (lin blk p.1) (⟨g.val * 64 + p.2.val, by omega⟩ : Fin 768) := by
  have e (s : Fin 768) := kabs_at n blk s
  have e1 (d : Fin 64) (s : Fin 768) := kdev_at n blk h d s
  have hf (l : Fin 128) (a : EReal) := half_at g l a
  unfold kmax
  generalize kabs (F := Ideal) n blk = z at e
  generalize kdev (F := Ideal) n blk = y at e e1
  generalize half g = w at hf
  pointwise [cst]
  rw [neg_inf']
  refine eq_of_forall_ge_iff fun c => ?_
  rw [supE_le]
  refine (Finset.fold_max_le c).trans ?_
  constructor
  · rintro ⟨-, H⟩ p
    have h1 := H (⟨g.val % 2 * 64 + p.2.val, by omega⟩ : Fin 128) (Finset.mem_univ _)
    rw [hf, if_pos (by dsimp only; omega), e] at h1
    have h2 := ((Finset.fold_max_le c).mp h1).2 p.1 (Finset.mem_univ _)
    rw [e1] at h2
    rw [show (⟨g.val * 64 + p.2.val, by omega⟩ : Fin 768) = ⟨g.val / 2 * 128 + (g.val % 2 * 64 + p.2.val), by omega⟩ from Fin.ext (by dsimp only; omega)]
    exact h2
  · intro H
    refine ⟨bot_le, fun l _ => ?_⟩
    rw [hf]
    split_ifs with h1
    · rw [e]
      refine (Finset.fold_max_le c).mpr ⟨bot_le, fun d _ => ?_⟩
      rw [e1]
      have h2 := H (d, ⟨l.val % 64, by omega⟩)
      rw [show (⟨g.val / 2 * 128 + l.val, by omega⟩ : Fin 768) = ⟨g.val * 64 + l.val % 64, by omega⟩ from Fin.ext (by dsimp only; omega)]
      exact h2
    · exact (abs_nonneg' _).trans (H (0, 0))

/-! ## Scales and codes -/

variable (hF : ∀ d s, Fin' (lin blk d s))
include hF

/-- The scale of a group. -/
theorem kup_at (h : n.toInt ≤ 768) (g : Fin 12) : kup (F := Ideal) n blk g (ix2 0 0) =
    refE (supE fun p : Fin 64 × Fin 64 => devE n (fun s : Fin 768 => s.val) (lin blk p.1) (⟨g.val * 64 + p.2.val, by omega⟩ : Fin 768)) := by
  unfold kup
  rw [up1_apply, kmax_at n blk h g]
  exact scales_eq _ (sup_range _ fun p => dev_real _ _ _ (hF p.1) _)

theorem kq_at (h : n.toInt ≤ 768) (d : Fin 64) (g : Fin 12) (l : Fin 64) :
    kq (F := Ideal) n blk (ix2 d (⟨g.val * 64 + l.val, by omega⟩ : Fin 768)) =
    codeE (devE n (fun s : Fin 768 => s.val) (lin blk d) ⟨g.val * 64 + l.val, by omega⟩)
      (supE fun p : Fin 64 × Fin 64 => devE n (fun s : Fin 768 => s.val) (lin blk p.1) (⟨g.val * 64 + p.2.val, by omega⟩ : Fin 768)) := by
  have e := kdev_at n blk h d ⟨g.val * 64 + l.val, by omega⟩
  have e1 := kinv_at n blk ⟨g.val / 2, by omega⟩ ⟨g.val % 2 * 64 + l.val, by omega⟩
  rw [kinvTile_at, show (⟨g.val / 2 * 128 + (g.val % 2 * 64 + l.val), by omega⟩ : Fin 768) = ⟨g.val * 64 + l.val, by omega⟩ from Fin.ext (by dsimp only; omega)] at e1
  have e2 : (if g.val % 2 * 64 + l.val < 64 then downE (kmax (F := Ideal) n blk ⟨2 * (g.val / 2), by omega⟩ (ix2 0 0)) else downE (kmax (F := Ideal) n blk ⟨2 * (g.val / 2) + 1, by omega⟩ (ix2 0 0))) = downE (kmax (F := Ideal) n blk g (ix2 0 0)) := by
    split_ifs with h1
    · rw [show (⟨2 * (g.val / 2), by omega⟩ : Fin 12) = g from Fin.ext (by dsimp only; omega)]
    · rw [show (⟨2 * (g.val / 2) + 1, by omega⟩ : Fin 12) = g from Fin.ext (by dsimp only; omega)]
  rw [e2, kmax_at n blk h g] at e1
  unfold codeE
  have hs := sup_range (fun p : Fin 64 × Fin 64 => devE n (fun s : Fin 768 => s.val) (lin blk p.1) (⟨g.val * 64 + p.2.val, by omega⟩ : Fin 768))
    (fun p => dev_real _ _ _ (hF p.1) _)
  rw [← codes_eq _ _ hs, ← e1, ← e]
  unfold kq clip448
  generalize kdev (F := Ideal) n blk = y
  generalize kinv (F := Ideal) n blk = z
  pointwise [cst]
  rfl

theorem vup_at (d : Fin 64) : up64 (vmax (F := Ideal) n blk) (ix2 d 0) = refE (supE fun s : Fin 768 => mskE n s.val (lin blk d s)) := by
  rw [up64_apply, vmax_at]
  exact scales_eq _ (sup_range _ fun s => fin_big (mskE_fin (hF d s)))

theorem vq_at (d : Fin 64) (s : Fin 768) : vq (F := Ideal) n blk (ix2 d s) =
    codeE (mskE n s.val (lin blk d s)) (supE fun s : Fin 768 => mskE n s.val (lin blk d s)) := by
  have e := masked_at n blk d s
  have e1 := down64_apply (vmax (F := Ideal) n blk) d
  rw [vmax_at] at e1
  unfold codeE
  have hs := sup_range (fun s : Fin 768 => mskE n s.val (lin blk d s)) (fun s => fin_big (mskE_fin (hF d s)))
  rw [← codes_eq _ _ hs, ← e1, ← e]
  unfold vq clip448
  generalize masked (F := Ideal) n blk = y
  generalize down64 (vmax (F := Ideal) n blk) = z
  pointwise [cst]
  rfl

end Cert.Proof
end
-- ==== Proof.ReadKQ.lean ====
module
public import proofs.«01_k».proof.Proof.ReadK

@[expose] public section
set_option maxRecDepth 16384

/-!
# The kernel's queries over the reals
-/

noncomputable section
namespace Cert.Proof
open Cert.KernelIdeal
open Idealize.ShloMosaic Idealize.SL.Sem Idealize.ShloMosaic.TcCoe

variable (n : BitVec 32) (j : Fin 6) (blk : Vec Ideal S1x64x128 .bf16)

/-- The positions of a block's queries, -/
abbrev qp (j : Fin 6) (l : Fin 128) : ℕ := j.val * 128 + l.val
/-- and a dimension of a block. -/
def lin1 (d : Fin 64) (l : Fin 128) : EReal := blk (ix3 0 d l)

/-- The word of a position. -/
theorem word_at (l : Fin 128) : IntOp.addi (BitVec.ofNat 32 l.val) (BitVec.ofNat 32 (j.val * 128)) = BitVec.ofNat 32 (qp j l) := by
  unfold IntOp.addi
  rw [← BitVec.ofNat_add, Nat.add_comm]

theorem qvalid_at (d : Fin 64) (l : Fin 128) : qvalid n j (ix2 d l) = vb n (qp j l) := by
  unfold vb
  rw [← word_at]
  generalize hw : BitVec.ofNat 32 (j.val * 128) = w
  pointwise [qvalid, qvalid1, lane128, csti, i32]
  rw [hw]

theorem qmasked_at (d : Fin 64) (l : Fin 128) : qmasked (F := Ideal) n j blk (ix2 d l) = mskE n (qp j l) (lin1 blk d l) := by
  have e := qvalid_at n j d l
  unfold qmasked
  generalize qvalid n j = z at e
  pointwise [cst]
  rw [e]
  rfl

/-- Nothing over a real other than zero is nothing. -/
theorem div_none {r : ℝ} (h : r ≠ 0) : Ideal.div 0 (r : EReal) = 0 := by
  rw [Ideal.div_coe h, zero_mul]

theorem cntE_real (pos : Fin 128 → ℕ) : ∃ r : ℝ, r ≠ 0 ∧ cntE n pos = r := by
  unfold cntE
  rw [← coe_sum', ← EReal.coe_one, ← coe_max']
  exact ⟨_, ne_of_gt (lt_of_lt_of_le one_pos (le_max_right _ _)), rfl⟩

theorem qmean_at (d : Fin 64) : qmean (F := Ideal) n j blk (ix2 d 0) = meanE n (qp j) (lin1 blk d) := by
  have e (l : Fin 128) := qmasked_at n j blk d l
  have e1 : qmean (F := Ideal) n j blk (ix2 d 0) = Ideal.div (∑ l : Fin 128, qmasked (F := Ideal) n j blk (ix2 d l)) (qcnt (F := Ideal) n j) := by
    unfold qmean
    generalize qmasked (F := Ideal) n j blk = z
    generalize qcnt (F := Ideal) n j = y
    pointwise []
  rw [e1]
  unfold meanE
  simp only [e]
  rcases qcnt_eq n j with h | ⟨h, r, hr, hq⟩
  · rw [h]
  · have h0 : ∑ l : Fin 128, mskE n (qp j l) (lin1 blk d l) = 0 := Finset.sum_eq_zero fun l _ => by
      unfold mskE
      rw [h l]
      rfl
    obtain ⟨r', hr', hq'⟩ := cntE_real n (qp j)
    rw [h0, hq, hq', div_none hr, div_none hr']

theorem qdev_at (d : Fin 64) (l : Fin 128) : qdev (F := Ideal) n j blk (ix2 d l) = devE n (qp j) (lin1 blk d) l := by
  have e := qmasked_at n j blk d l
  have e1 := qmean_at n j blk d
  have e2 := qvalid_at n j d l
  unfold qdev
  generalize qmasked (F := Ideal) n j blk = z at e
  generalize qmean (F := Ideal) n j blk = y at e1
  generalize qvalid n j = w at e2
  pointwise [cst]
  rw [e, e1, e2]
  unfold devE mskE
  rcases vb_cases n (qp j l) with h | h <;> rw [h] <;> rfl

theorem qmax_at (i : S1x1.Idx) : qmax (F := Ideal) n j blk i = supE fun p : Fin 64 × Fin 128 => devE n (qp j) (lin1 blk p.1) p.2 := by
  have e (d : Fin 64) (l : Fin 128) := qdev_at n j blk d l
  unfold qmax
  generalize qdev (F := Ideal) n j blk = z at e
  generalize hR : multiReduction .maximumf [1, 2] S1 (shapeCast S1x64x128 (absf z) (by decide)) 0xFF800000#32 (by decide) (.inl rfl) rfl = R
  have e1 : R (ix1 0) = supE fun p : Fin 64 × Fin 128 => devE n (qp j) (lin1 blk p.1) p.2 := by
    rw [← hR]
    refine (max_red _ _ _ _ _ (fun p : Fin 64 × Fin 128 => ix3 0 p.1 p.2) (fun i hi => ?_) (fun k => ?_)).trans ?_
    · idx_vars i
      have e0 : i0 = 0 := Subsingleton.elim _ _
      subst e0
      exact ⟨(_, _), rfl⟩
    · funext a
      match a with
      | ⟨0, _⟩ => rfl
    · unfold supE
      refine congrArg (fun F : Fin 64 × Fin 128 → EReal => Finset.univ.fold max ⊥ F) (funext fun p => ?_)
      have e2 : shapeCast S1x64x128 (absf z) (by decide) (ix3 0 p.1 p.2) = max (z (ix2 p.1 p.2)) (-z (ix2 p.1 p.2)) := by
        pointwise []
        rfl
      exact e2.trans (by rw [e])
  rw [← e1]
  pointwise []

variable (hF : ∀ d s, Fin' (lin1 blk d s))
include hF

theorem qup_at : qup (F := Ideal) n j blk (ix2 0 0) = refE (supE fun p : Fin 64 × Fin 128 => devE n (qp j) (lin1 blk p.1) p.2) := by
  unfold qup
  rw [up1_apply, qmax_at]
  exact scales_eq _ (sup_range _ fun p => dev_real _ _ _ (hF p.1) _)

theorem qq_at (d : Fin 64) (l : Fin 128) : qq (F := Ideal) n j blk (ix2 d l) =
    codeE (devE n (qp j) (lin1 blk d) l) (supE fun p : Fin 64 × Fin 128 => devE n (qp j) (lin1 blk p.1) p.2) := by
  have e := qdev_at n j blk d l
  have e1 := down1_apply (qmax (F := Ideal) n j blk)
  rw [qmax_at] at e1
  unfold codeE
  have hs := sup_range (fun p : Fin 64 × Fin 128 => devE n (qp j) (lin1 blk p.1) p.2) (fun p => dev_real _ _ _ (hF p.1) _)
  rw [← codes_eq _ _ hs, ← e1, ← e]
  unfold qq clip448
  generalize qdev (F := Ideal) n j blk = y
  generalize down1 (qmax (F := Ideal) n j blk) = z
  pointwise [cst]
  rfl

end Cert.Proof
end
-- ==== Proof.ReadR.lean ====
module
public import proofs.«01_k».proof.Proof.Gen.ReferenceIdeal.Read
public import proofs.«01_k».proof.Proof.Mid

@[expose] public section
set_option maxRecDepth 16384

/-!
# Reading the reference

Maxima and minima of the host as folds, and the queries, keys and values by head.
-/

noncomputable section
namespace Cert.Proof.RI
open Cert.ReferenceIdeal Cert.ReferenceIdeal.Gen Cert.ReferenceIdeal.Read
open Idealize.ShloMosaic Idealize.SL.Sem Idealize.ShloMosaic.TcCoe

/-- A host maximum over the elements of a list of indices, -/
theorem host_max_eq {s t u : Shape} {axes : List (Fin s.rank)} {ι : Type} [Fintype ι] (x : s.Idx → EReal) (init : u.Idx → EReal)
    (h : s.ReducesTo axes t) (hu : 0 < u.numel) (J : t.Idx) (mk : ι → s.Idx) (h1 : ∀ i, h.drop i = J → ∃ k, i = mk k) (h2 : ∀ k, h.drop (mk k) = J) :
    Host.reduce (FloatOps.maximumf (F := Ideal) (φ := .f32)) x init h hu J = Finset.univ.fold max (init (Shape.Idx.first hu)) fun k => x (mk k) := by
  rw [Host.reduce_eq_fold]
  refine eq_of_forall_ge_iff fun c => ?_
  refine (Finset.fold_max_le (s := Finset.univ.filter fun i => h.drop i = J) (f := x) c).trans (Iff.trans (and_congr_right fun _ => ?_) (Finset.fold_max_le c).symm)
  simp only [Finset.mem_filter, Finset.mem_univ, true_and, true_implies]
  exact ⟨fun H k => H _ (h2 k), fun H i hi => by obtain ⟨k, rfl⟩ := h1 i hi; exact H k⟩

/-- and a host minimum. -/
theorem host_min_eq {s t u : Shape} {axes : List (Fin s.rank)} {ι : Type} [Fintype ι] (x : s.Idx → EReal) (init : u.Idx → EReal)
    (h : s.ReducesTo axes t) (hu : 0 < u.numel) (J : t.Idx) (mk : ι → s.Idx) (h1 : ∀ i, h.drop i = J → ∃ k, i = mk k) (h2 : ∀ k, h.drop (mk k) = J) :
    Host.reduce (FloatOps.minimumf (F := Ideal) (φ := .f32)) x init h hu J = Finset.univ.fold min (init (Shape.Idx.first hu)) fun k => x (mk k) := by
  rw [Host.reduce_eq_fold]
  refine eq_of_forall_le_iff fun c => ?_
  refine (Finset.le_fold_min (s := Finset.univ.filter fun i => h.drop i = J) (f := x) c).trans (Iff.trans (and_congr_right fun _ => ?_) (Finset.le_fold_min c).symm)
  simp only [Finset.mem_filter, Finset.mem_univ, true_and, true_implies]
  exact ⟨fun H k => H _ (h2 k), fun H i hi => by obtain ⟨k, rfl⟩ := h1 i hi; exact H k⟩

theorem neg_inf : Ideal.ofBits .f32 0xFF800000#32 = (⊥ : EReal) := by
  simp [Ideal.ofBits, Ideal.ieee]

/-- A scale put together. -/
theorem refE_of {a v y w : EReal} {g : Fin 254 → EReal}
    (h44 : v = if y < Ideal.ofBits .f32 0x00800000#32 then Ideal.ofBits .f32 0x3F800000#32 else w)
    (h43 : w = Finset.univ.fold min (Ideal.ofBits .f32 0x7F800000#32) g) (hy : y = sc448 a)
    (hg : ∀ k : Fin 254, g k = if sc448 a < Ideal.ofBits FTy.f32 (IntOp.shli ArithUnit.host (IntOp.addi (1#32) (BitVec.ofNat 32 k.val)) 23#32) then
        Ideal.ofBits FTy.f32 (IntOp.shli ArithUnit.host (IntOp.addi (1#32) (BitVec.ofNat 32 k.val)) 23#32) else Ideal.ofBits .f32 0x7F800000#32) : v = refE a := by
  rw [h44, h43, hy, funext hg]
  rfl

abbrev X0 := (⟨S2x768x2880, .bf16⟩ : BufTy).Contents (Elt Ideal)
abbrev X1 := (⟨S2x768x576, .bf16⟩ : BufTy).Contents (Elt Ideal)
abbrev X3 := (⟨S2, .i32⟩ : BufTy).Contents (Elt Ideal)
variable (x0 : X0) (x1 x2 : X1) (x3 : X3)

/-- The position of a query of block `j`. -/
abbrev qpos (j : Fin 6) (l : Fin 128) : ℕ := j.val * 128 + l.val
/-- The queries of a block and head, -/
def xq (b : Fin 2) (j : Fin 6) (h : Fin 45) (d : Fin 64) (l : Fin 128) : EReal :=
  x0 (ix3 b (⟨j.val * 128 + l.val, by omega⟩ : Fin 768) (⟨h.val * 64 + d.val, by omega⟩ : Fin 2880))
/-- and the keys or values of a head. -/
def xk (b : Fin 2) (h : Fin 9) (d : Fin 64) (s : Fin 768) : EReal := x1 (ix3 b s (⟨h.val * 64 + d.val, by omega⟩ : Fin 576))
def len (b : Fin 2) : BitVec 32 := x3 (ix1 b)

/-- The position of a key of group `g`. -/
abbrev kpos (g : Fin 12) (l : Fin 64) : Fin 768 := ⟨g.val * 64 + l.val, by omega⟩

end Cert.Proof.RI
end
-- ==== Proof.ReadE.lean ====
module
public import proofs.«01_k».proof.Proof.Final
public import proofs.«01_k».proof.Proof.ReadT
public import proofs.«01_k».proof.Proof.ReadKK
public import proofs.«01_k».proof.Proof.ReadKQ
public import proofs.«01_k».proof.Proof.ReadR

@[expose] public section
set_option maxRecDepth 16384

/-!
# The kernel's quantised results by its arguments
-/

noncomputable section
namespace Cert.Proof.KI

open Cert.KernelIdeal Cert.KernelIdeal.Gen
open Idealize.ShloMosaic
open Idealize.ShloMosaic.TcCoe
open Idealize.SL Idealize.SL.RA Idealize.SL.Sem

variable (m : (ℓ : Loc nD τ sig) → Buf (Elt Ideal) ℓ) (c : Dev nD)

/-- The arguments' contents. -/
abbrev a0 : RI.X0 := m ((c.tc : Thread nD τ).loc main_arg0)
abbrev a1 : RI.X1 := m ((c.tc : Thread nD τ).loc main_arg1)
abbrev a2 : RI.X1 := m ((c.tc : Thread nD τ).loc main_arg2)
abbrev a3 : RI.X3 := m ((c.tc : Thread nD τ).loc main_arg3)
/-- The grid point of a kv head. -/
abbrev pt (t : Fin 9) : Fin (cf m).N := ⟨t.val, t.isLt⟩
/-- What a head's point reads of a row. -/
abbrev rowAt (t : Fin 9) (b : Fin 2) : Row Ideal := rowOf (env m c (pt m t)) b
/-- A kv head's query heads. -/
abbrev qh (t : Fin 9) (h : Fin 5) : Fin 45 := ⟨t.val * 5 + h.val, by omega⟩

theorem lift0 (t : Fin 9) : t.val = t.val * 1 + (0 + 0) := by omega
theorem row_n (t : Fin 9) (b : Fin 2) : (rowAt m c t b).n = RI.len (a3 m c) b := by
  obtain rfl : c = (0 : Dev nD) := Subsingleton.elim _ _
  refine congrArg (a3 m (0 : Dev nD)) (funext fun a => Fin.ext ?_)
  match a with
  | ⟨0, _⟩ =>
    refine (unit_emb_val _ _ _).trans ?_
    have h := ((Shape.Idx.first ((one_rLen b).symm ▸ Nat.one_pos) : (rLen b).shape.Idx) (0 : Fin 1)).isLt
    have h' : ((Shape.Idx.first ((one_rLen b).symm ▸ Nat.one_pos) : (rLen b).shape.Idx) (0 : Fin 1)).val = 0 := Nat.lt_one_iff.mp h
    show b.val + _ = b.val
    exact congrArg (b.val + ·) h'

theorem row_k (t : Fin 9) (b : Fin 2) (d : Fin 64) : lin (rowAt m c t b).k d = RI.xk (a1 m c) b t d := by
  funext s
  refine env_k m c (pt m t) ((rK b).emb (ix3 0 d s)) _ ?_ ?_ ?_ <;> rw [unit_emb_val]
  · rfl
  · exact (Nat.zero_add _).symm
  · exact congrArg (t.val * 64 + ·) (Nat.zero_add _).symm
theorem row_v (t : Fin 9) (b : Fin 2) (d : Fin 64) : lin (rowAt m c t b).v d = RI.xk (a2 m c) b t d := by
  funext s
  refine env_v m c (pt m t) ((rK b).emb (ix3 0 d s)) _ ?_ ?_ ?_ <;> rw [unit_emb_val]
  · rfl
  · exact (Nat.zero_add _).symm
  · exact congrArg (t.val * 64 + ·) (Nat.zero_add _).symm
theorem row_x (t : Fin 9) (b : Fin 2) (j : Fin 6) (h : Fin 5) (d : Fin 64) : lin1 ((rowAt m c t b).x j h) d = RI.xq (a0 m c) b j (qh t h) d := by
  funext l
  refine env_x m c (pt m t) ((rX b j h).emb (ix3 0 d l)) _ ?_ ?_ ?_ <;> rw [unit_emb_val]
  · rfl
  · rfl
  · show (t.val * 5 + h.val) * 64 + d.val = t.val * 320 + (h.val * 64 + d.val)
    omega

variable (hn : ∀ b, (RI.len (a3 m c) b).toInt ≤ 768)
variable (hx : ∀ i, Fin' (a0 m c i)) (hk : ∀ i, Fin' (a1 m c i)) (hv : ∀ i, Fin' (a2 m c i))
variable {r : PUnit × MemSt nD τ sig (Elt Ideal)} (h : Pipeline.RDat.FramePost (cf m) (rdat m) (fun c b => V m c b) r)
include h

section keys
include hn
theorem e_mk (b : Fin 2) (t : Fin 9) (d : Fin 64) : r.2.mem ((c.tc : Thread nD τ).loc main_v3_6) (ix3 t b d) =
    meanE (RI.len (a3 m c) b) (fun s : Fin 768 => s.val) (RI.xk (a1 m c) b t d) := by
  have hn' : (rowAt m c t b).n.toInt ≤ 768 := by rw [row_n m c t b]; exact hn b
  rw [mk_read m h c (pt m t) (rMk.emb (ix3 0 b d)) (ix3 t b d) (by rw [unit_emb_val]; exact lift0 t) (by rw [unit_emb_val]; exact (Nat.zero_add _).symm) (by rw [unit_emb_val]; exact (Nat.zero_add _).symm),
    mkAll_at, mkT_at, kmean_at _ _ hn', row_k m c t b, row_n m c t b]
include hk
theorem e_ks (b : Fin 2) (t : Fin 9) (g : Fin 12) : r.2.mem ((c.tc : Thread nD τ).loc main_v3_5) (ix3 t b g) =
    refE (supE fun p : Fin 64 × Fin 64 => devE (RI.len (a3 m c) b) (fun s : Fin 768 => s.val) (RI.xk (a1 m c) b t p.1) (RI.kpos g p.2)) := by
  have hn' : (rowAt m c t b).n.toInt ≤ 768 := by rw [row_n m c t b]; exact hn b
  have hF : ∀ d s, Fin' (lin (rowAt m c t b).k d s) := fun d s => by rw [row_k]; exact hk _
  rw [ks_read m h c (pt m t) (rKs.emb (ix3 0 b g)) (ix3 t b g) (by rw [unit_emb_val]; exact lift0 t) (by rw [unit_emb_val]; exact (Nat.zero_add _).symm) (by rw [unit_emb_val]; exact (Nat.zero_add _).symm),
    ksAll_at, ksT_at, kup_at _ _ hF hn', ← row_n m c t b]
  simp only [← row_k m c t b]
theorem e_kc (b : Fin 2) (t : Fin 9) (d : Fin 64) (g : Fin 12) (l : Fin 64) : r.2.mem ((c.tc : Thread nD τ).loc main_v3_4) (ix4 b t d (RI.kpos g l)) =
    codeE (devE (RI.len (a3 m c) b) (fun s : Fin 768 => s.val) (RI.xk (a1 m c) b t d) (RI.kpos g l))
      (supE fun p : Fin 64 × Fin 64 => devE (RI.len (a3 m c) b) (fun s : Fin 768 => s.val) (RI.xk (a1 m c) b t p.1) (RI.kpos g p.2)) := by
  have hn' : (rowAt m c t b).n.toInt ≤ 768 := by rw [row_n m c t b]; exact hn b
  have hF : ∀ d s, Fin' (lin (rowAt m c t b).k d s) := fun d s => by rw [row_k]; exact hk _
  rw [kc_read m h c (pt m t) ((rKc b).emb (ix4 0 0 d (RI.kpos g l))) (ix4 b t d (RI.kpos g l)) (by rw [unit_emb_val]; rfl) (by rw [unit_emb_val]; exact lift0 t) (by rw [unit_emb_val]; exact (Nat.zero_add _).symm) (by rw [unit_emb_val]; exact (Nat.zero_add _).symm),
    kcAll_at, kcT_at, kq_at _ _ hF hn', ← row_n m c t b]
  simp only [← row_k m c t b]
end keys

section values
include hv
theorem e_vs (b : Fin 2) (t : Fin 9) (d : Fin 64) : r.2.mem ((c.tc : Thread nD τ).loc main_v3_8) (ix3 t b d) =
    refE (supE fun s : Fin 768 => mskE (RI.len (a3 m c) b) s.val (RI.xk (a2 m c) b t d s)) := by
  have hF : ∀ d s, Fin' (lin (rowAt m c t b).v d s) := fun d s => by rw [row_v]; exact hv _
  rw [vs_read m h c (pt m t) (rVs.emb (ix3 0 b d)) (ix3 t b d) (by rw [unit_emb_val]; exact lift0 t) (by rw [unit_emb_val]; exact (Nat.zero_add _).symm) (by rw [unit_emb_val]; exact (Nat.zero_add _).symm),
    vsAll_at, vsT_at, vup_at _ _ hF, ← row_n m c t b]
  simp only [← row_v m c t b]
theorem e_vc (b : Fin 2) (t : Fin 9) (d : Fin 64) (s : Fin 768) : r.2.mem ((c.tc : Thread nD τ).loc main_v3_7) (ix4 b t d s) =
    codeE (mskE (RI.len (a3 m c) b) s.val (RI.xk (a2 m c) b t d s)) (supE fun s : Fin 768 => mskE (RI.len (a3 m c) b) s.val (RI.xk (a2 m c) b t d s)) := by
  have hF : ∀ d s, Fin' (lin (rowAt m c t b).v d s) := fun d s => by rw [row_v]; exact hv _
  rw [vc_read m h c (pt m t) ((rKc b).emb (ix4 0 0 d s)) (ix4 b t d s) (by rw [unit_emb_val]; rfl) (by rw [unit_emb_val]; exact lift0 t) (by rw [unit_emb_val]; exact (Nat.zero_add _).symm) (by rw [unit_emb_val]; exact (Nat.zero_add _).symm),
    vcAll_at, vcT_at, vq_at _ _ hF, ← row_n m c t b]
  simp only [← row_v m c t b]
end values

theorem e_mq (b : Fin 2) (t : Fin 9) (h' : Fin 5) (j : Fin 6) (d : Fin 64) : r.2.mem ((c.tc : Thread nD τ).loc main_v3_3) (ix4 j (qh t h') b d) =
    meanE (RI.len (a3 m c) b) (RI.qpos j) (RI.xq (a0 m c) b j (qh t h') d) := by
  rw [mq_read m h c (pt m t) ((rMq j h').emb (ix4 0 0 b d)) (ix4 j (qh t h') b d) (by rw [unit_emb_val]; rfl) (by rw [unit_emb_val]; rfl) (by rw [unit_emb_val]; exact (Nat.zero_add _).symm) (by rw [unit_emb_val]; exact (Nat.zero_add _).symm),
    mqAll_at, mqT_at, qmean_at, row_n m c t b, row_x m c t b]

section queries
include hx
theorem e_qc (b : Fin 2) (t : Fin 9) (h' : Fin 5) (d : Fin 64) (j : Fin 6) (l : Fin 128) :
    r.2.mem ((c.tc : Thread nD τ).loc main_v3_1) (ix4 b (qh t h') d (⟨j.val * 128 + l.val, by omega⟩ : Fin 768)) =
    codeE (devE (RI.len (a3 m c) b) (RI.qpos j) (RI.xq (a0 m c) b j (qh t h') d) l)
      (supE fun p : Fin 64 × Fin 128 => devE (RI.len (a3 m c) b) (RI.qpos j) (RI.xq (a0 m c) b j (qh t h') p.1) p.2) := by
  have hF : ∀ d s, Fin' (lin1 ((rowAt m c t b).x j h') d s) := fun d s => by rw [row_x]; exact hx _
  rw [qc_read m h c (pt m t) ((rQc b j h').emb (ix4 0 0 d l)) (ix4 b (qh t h') d (⟨j.val * 128 + l.val, by omega⟩ : Fin 768)) (by rw [unit_emb_val]; rfl) (by rw [unit_emb_val]; rfl) (by rw [unit_emb_val]; exact (Nat.zero_add _).symm) (by rw [unit_emb_val]; rfl),
    qcAll_at, qcT_at, qq_at _ _ _ hF, ← row_n m c t b]
  simp only [← row_x m c t b]
omit h in
/-- What a head's scale is. -/
theorem qup_val (t : Fin 9) (b : Fin 2) (j : Fin 6) (h' : Fin 5) : qup (F := Ideal) (rowAt m c t b).n j ((rowAt m c t b).x j h') (ix2 0 0) =
    refE (supE fun p : Fin 64 × Fin 128 => devE (RI.len (a3 m c) b) (RI.qpos j) (RI.xq (a0 m c) b j (qh t h') p.1) p.2) := by
  have hF : ∀ d s, Fin' (lin1 ((rowAt m c t b).x j h') d s) := fun d s => by rw [row_x]; exact hx _
  rw [qup_at _ _ _ hF, ← row_n m c t b]
  simp only [← row_x m c t b]
omit h in
/-- The scales gathered over the grid points so far. -/
theorem qsUp_at (j : Fin 6) (b : Fin 2) (x : Fin 45) (n : ℕ) (hN : n < (cf m).N) : qsUp m c n hN (ix3 j b x) =
    if x.val < 5 * (n + 1) then refE (supE fun p : Fin 64 × Fin 128 => devE (RI.len (a3 m c) b) (RI.qpos j) (RI.xq (a0 m c) b j x p.1) p.2) else 0 := by
  have step (n : ℕ) (hN : n < (cf m).N) (Z : S6x2x45.Idx → EReal) : qsAll (env m c ⟨n, hN⟩) (kvAt m ⟨n, hN⟩) Z (ix3 j b x) =
      Z (ix3 j b x) + (if x.val / 5 = n then refE (supE fun p : Fin 64 × Fin 128 => devE (RI.len (a3 m c) b) (RI.qpos j) (RI.xq (a0 m c) b j x p.1) p.2) else 0) := by
    have e : (ix3 j b x : S6x2x45.Idx) = (rQs j).emb (ix3 0 b x) := funext fun a => Fin.ext (by
      rw [unit_emb_val]
      match a with
      | ⟨0, _⟩ => rfl
      | ⟨1, _⟩ => exact (Nat.zero_add _).symm
      | ⟨2, _⟩ => exact (Nat.zero_add _).symm)
    refine (congrArg _ e).trans ((qsAll_at _ _ _ _ _).trans ?_)
    rw [kv_at]
    refine (qsT_at (env m c ⟨n, hN⟩) (⟨n, hN⟩ : Fin 9) Z j b x).trans ?_
    congr 1
    split_ifs with hx5
    · refine (qup_val m c hx (⟨n, hN⟩ : Fin 9) b j (f5 x.val)).trans ?_
      rw [show qh (⟨n, hN⟩ : Fin 9) (f5 x.val) = x from Fin.ext (by have hx6 : x.val / 5 = n := hx5; show n * 5 + x.val % 5 = x.val; omega)]
    · rfl
  induction n with
  | zero =>
    refine (step 0 hN _).trans ?_
    rw [show (FloatOps.ofBits (F := Ideal) .f32 0x00000000#32 : EReal) = 0 from Ideal.ofBits_zero_f32, zero_add]
    congr 1
    simp only [eq_iff_iff]; omega
  | succ n ih =>
    refine (step (n + 1) hN _).trans ?_
    rw [ih (Nat.lt_of_succ_lt hN)]
    by_cases h1 : x.val < 5 * (n + 1)
    · rw [if_pos h1, if_neg (by omega), if_pos (by omega), add_zero]
    · rw [if_neg h1, zero_add]
      congr 1
      simp only [eq_iff_iff]; omega
theorem e_qs (j : Fin 6) (b : Fin 2) (x : Fin 45) : r.2.mem ((c.tc : Thread nD τ).loc main_v3_2) (ix3 j b x) =
    refE (supE fun p : Fin 64 × Fin 128 => devE (RI.len (a3 m c) b) (RI.qpos j) (RI.xq (a0 m c) b j x p.1) p.2) := by
  rw [qs_read m h c, qsUp_at m c hx j b x 8, if_pos (by omega)]
end queries

end Cert.Proof.KI
end
-- ==== Proof.ReadRQ.lean ====
module
public import proofs.«01_k».proof.Proof.ReadR

@[expose] public section
set_option maxRecDepth 16384

/-!
# The reference's quantised queries
-/

noncomputable section
namespace Cert.Proof.RI
open Cert.ReferenceIdeal Cert.ReferenceIdeal.Gen Cert.ReferenceIdeal.Read
open Idealize.ShloMosaic Idealize.SL.Sem Idealize.ShloMosaic.TcCoe
variable (x0 : X0) (x1 x2 : X1) (x3 : X3)

theorem mq_at (b : Fin 2) (j : Fin 6) (h : Fin 45) (d : Fin 64) :
    val_main_v18 (F := Ideal) x0 x3 (ix4 b j h d) = meanE (len x3 b) (qpos j) (xq x0 b j h d) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_1, val_main_cst_2, val_main_call0_v1, val_main_call0_v2, val_main_call0_v0, val_main_cst_0, id, constant]
  rfl
theorem qd_at (b : Fin 2) (j : Fin 6) (h : Fin 45) (d : Fin 64) (l : Fin 128) :
    val_main_v23 (F := Ideal) x0 x3 (ix5 b j l h d) = devE (len x3 b) (qpos j) (xq x0 b j h d) l := by
  pointwise [val_main_v23, val_main_v22, val_main_v21, val_main_v20, val_main_v19, val_main_v9, val_main_v8, val_main_v7, val_main_v6, val_main_v5, val_main_v4, val_main_v3, val_main_v2, val_main_v1, val_main_v0, val_main_call1_v1, val_main_call1_v2, val_main_call1_v0, val_main_cst_3, id, constant]
  rw [mq_at]
  rfl
theorem qmax_at (b : Fin 2) (j : Fin 6) (h : Fin 45) :
    val_main_v25 (F := Ideal) x0 x3 (ix3 b j h) = supE fun p : Fin 64 × Fin 128 => devE (len x3 b) (qpos j) (xq x0 b j h p.1) p.2 := by
  unfold val_main_v25
  refine (host_max_eq _ _ _ _ _ (fun p : Fin 64 × Fin 128 => ix5 b j p.2 h p.1) (fun i hi => ?_) (fun k => ?_)).trans ?_
  · idx_vars i
    have e0 := congrFun hi (0 : Fin 3)
    have e1 := congrFun hi (1 : Fin 3)
    have e2 := congrFun hi (2 : Fin 3)
    exact ⟨(_, _), by rw [← (show _ = b from e0), ← (show _ = j from e1), ← (show _ = h from e2)]; rfl⟩
  · funext a
    match a with
    | ⟨0, _⟩ => rfl
    | ⟨1, _⟩ => rfl
    | ⟨2, _⟩ => rfl
  · unfold supE
    rw [show val_main_cst_4 (F := Ideal) (Shape.Idx.first h_S_) = (⊥ : EReal) from neg_inf]
    refine congrArg (fun F : Fin 64 × Fin 128 → EReal => Finset.univ.fold max ⊥ F) (funext fun p => ?_)
    exact (show val_main_v24 (F := Ideal) x0 x3 (ix5 b j p.2 h p.1) = max (val_main_v23 (F := Ideal) x0 x3 (ix5 b j p.2 h p.1)) (-val_main_v23 (F := Ideal) x0 x3 (ix5 b j p.2 h p.1)) from rfl).trans (by rw [qd_at])
theorem qs_at (b : Fin 2) (j : Fin 6) (h : Fin 45) :
    val_main_v44 (F := Ideal) x0 x3 (ix5 b j 0 h 0) = refE (val_main_v25 (F := Ideal) x0 x3 (ix3 b j h)) := by
  have e43 : val_main_v43 (F := Ideal) x0 x3 (ix5 b j 0 h 0) = Finset.univ.fold min (Ideal.ofBits .f32 0x7F800000#32) fun k : Fin 254 => val_main_v40 (F := Ideal) x0 x3 (ix6 b j 0 h 0 k) := by
    unfold val_main_v43
    refine (host_min_eq _ _ _ _ _ (fun k : Fin 254 => ix6 b j 0 h 0 k) (fun i hi => ?_) (fun k => ?_))
    · idx_vars i
      have e0 := congrFun hi (0 : Fin 5)
      have e1 := congrFun hi (1 : Fin 5)
      have e3 := congrFun hi (3 : Fin 5)
      have e2 : i2 = 0 := Subsingleton.elim _ _
      have e4 : i4 = 0 := Subsingleton.elim _ _
      subst e2 e4
      exact ⟨_, by rw [← (show _ = b from e0), ← (show _ = j from e1), ← (show _ = h from e3)]; rfl⟩
    · funext a
      match a with
      | ⟨0, _⟩ => rfl
      | ⟨1, _⟩ => rfl
      | ⟨2, _⟩ => rfl
      | ⟨3, _⟩ => rfl
      | ⟨4, _⟩ => rfl
  have e28 : val_main_v28 (F := Ideal) x0 x3 (ix5 b j 0 h 0) = sc448 (val_main_v25 (F := Ideal) x0 x3 (ix3 b j h)) := by
    rw [val_main_v28_apply, val_main_v27_apply, val_main_v26_apply]
    have e : idx_main_v26 (ix5 b j 0 h 0) = ix3 b j h := by
      funext a
      match a with
      | ⟨0, _⟩ => rfl
      | ⟨1, _⟩ => rfl
      | ⟨2, _⟩ => rfl
    rw [e]
    generalize val_main_v25 (F := Ideal) x0 x3 (ix3 b j h) = y
    rfl
  have e40 (k : Fin 254) : val_main_v40 (F := Ideal) x0 x3 (ix6 b j 0 h 0 k) =
      if sc448 (val_main_v25 (F := Ideal) x0 x3 (ix3 b j h)) < Ideal.ofBits FTy.f32 (IntOp.shli ArithUnit.host (IntOp.addi (1#32) (BitVec.ofNat 32 k.val)) 23#32) then
        Ideal.ofBits FTy.f32 (IntOp.shli ArithUnit.host (IntOp.addi (1#32) (BitVec.ofNat 32 k.val)) 23#32) else Ideal.ofBits .f32 0x7F800000#32 := by
    rw [← e28, val_main_v40_apply, val_main_v39_apply, val_main_v38_apply, val_main_v35_apply, val_main_v37_apply, val_main_v36_apply, val_main_call2_v2_apply, val_main_call2_v0_apply, val_main_call2_v1_apply]
    have e : idx_main_v35 (idx_main_v38 (ix6 b j 0 h 0 k)) = ix5 b j 0 h 0 := by
      funext a
      match a with
      | ⟨0, _⟩ => rfl
      | ⟨1, _⟩ => rfl
      | ⟨2, _⟩ => rfl
      | ⟨3, _⟩ => rfl
      | ⟨4, _⟩ => rfl
    have e1 : idx_main_v36 (idx_main_v37 (ix6 b j 0 h 0 k)) = ix1 k := by
      funext a
      match a with
      | ⟨0, _⟩ => rfl
    have e2 : idx_main_call2_v1 (ix6 b j 0 h 0 k) = ix1 k := by
      funext a
      match a with
      | ⟨0, _⟩ => rfl
    rw [e, e1, e2]
    generalize val_main_v28 (F := Ideal) x0 x3 (ix5 b j 0 h 0) = y
    pointwise [val_main_v34, val_main_v33, val_main_v32, val_main_v31, val_main_v30, val_main_v29, val_main_c, val_main_c_6, val_main_cst_7, constant, constantI, id]
  have e44 : val_main_v44 (F := Ideal) x0 x3 (ix5 b j 0 h 0) = if val_main_v28 (F := Ideal) x0 x3 (ix5 b j 0 h 0) < Ideal.ofBits .f32 0x00800000#32 then Ideal.ofBits .f32 0x3F800000#32 else val_main_v43 (F := Ideal) x0 x3 (ix5 b j 0 h 0) := by
    rw [val_main_v44_apply, val_main_v42_apply, val_main_v41_apply, val_main_call3_v1_apply, val_main_call3_v0_apply]
    generalize val_main_v43 (F := Ideal) x0 x3 (ix5 b j 0 h 0) = z
    generalize val_main_v28 (F := Ideal) x0 x3 (ix5 b j 0 h 0) = y
    pointwise [val_main_cst_8, val_main_cst_10, constant, id]
  exact refE_of e44 e43 e28 e40

theorem qcode_at (b : Fin 2) (j : Fin 6) (h : Fin 45) (d : Fin 64) (l : Fin 128) :
    val_main_v47 (F := Ideal) x0 x3 (ix5 b j l h d) = codeE (val_main_v23 (F := Ideal) x0 x3 (ix5 b j l h d)) (val_main_v25 (F := Ideal) x0 x3 (ix3 b j h)) := by
  have e : val_main_v47 (F := Ideal) x0 x3 (ix5 b j l h d) = clipE (Ideal.div (val_main_v23 (F := Ideal) x0 x3 (ix5 b j l h d)) (val_main_v44 (F := Ideal) x0 x3 (ix5 b j 0 h 0))) := by
    rw [val_main_v47_apply, val_main_call4_v4_apply, val_main_call4_v3_apply, val_main_call4_v2_apply, val_main_call4_v1_apply, val_main_call4_v0_apply, val_main_v46_apply, val_main_v45_apply]
    have e : idx_main_v45 (ix5 b j l h d) = ix5 b j 0 h 0 := by
      funext a
      match a with
      | ⟨0, _⟩ => rfl
      | ⟨1, _⟩ => rfl
      | ⟨2, _⟩ => rfl
      | ⟨3, _⟩ => rfl
      | ⟨4, _⟩ => rfl
    rw [e]
    generalize val_main_v44 (F := Ideal) x0 x3 (ix5 b j 0 h 0) = z
    generalize val_main_v23 (F := Ideal) x0 x3 (ix5 b j l h d) = y
    rfl
  rw [e, qs_at]
  rfl

end Cert.Proof.RI
end
-- ==== Proof.ReadRK.lean ====
module
public import proofs.«01_k».proof.Proof.ReadR

@[expose] public section
set_option maxRecDepth 16384

/-!
# The reference's quantised keys
-/

noncomputable section
namespace Cert.Proof.RI
open Cert.ReferenceIdeal Cert.ReferenceIdeal.Gen Cert.ReferenceIdeal.Read
open Idealize.ShloMosaic Idealize.SL.Sem Idealize.ShloMosaic.TcCoe
variable (x0 : X0) (x1 x2 : X1) (x3 : X3)

/-! ## The keys -/

theorem mk_at (b : Fin 2) (h : Fin 9) (d : Fin 64) :
    val_main_v61 (F := Ideal) x1 x3 (ix3 b h d) = meanE (len x3 b) (fun s : Fin 768 => s.val) (xk x1 b h d) := by
  pointwise [val_main_v61, val_main_v60, val_main_v59, val_main_v58, val_main_v57, val_main_v56, val_main_v55, val_main_v54, val_main_v53, val_main_v52, val_main_v51, val_main_v50, val_main_v49, val_main_v5, val_main_v4, val_main_v3, val_main_v2, val_main_v1, val_main_v0, val_main_cst_13, val_main_cst_14, val_main_cst_15, val_main_cst_16, val_main_call5_v0, val_main_call5_v1, val_main_call5_v2, id, constant]
  rfl
theorem kd_at (b : Fin 2) (h : Fin 9) (d : Fin 64) (s : Fin 768) :
    val_main_v66 (F := Ideal) x1 x3 (ix4 b s h d) = devE (len x3 b) (fun s : Fin 768 => s.val) (xk x1 b h d) s := by
  pointwise [val_main_v66, val_main_v65, val_main_v64, val_main_v63, val_main_v62, val_main_v51, val_main_v50, val_main_v49, val_main_v5, val_main_v4, val_main_v3, val_main_v2, val_main_v1, val_main_v0, val_main_cst_17, val_main_call6_v0, val_main_call6_v1, val_main_call6_v2, id, constant]
  rw [mk_at]
  rfl
theorem kg_at (b : Fin 2) (g : Fin 12) (l : Fin 64) (h : Fin 9) (d : Fin 64) :
    val_main_v67 (F := Ideal) x1 x3 (ix5 b g l h d) = devE (len x3 b) (fun s : Fin 768 => s.val) (xk x1 b h d) (kpos g l) := by
  pointwise [val_main_v67]
  rw [← kd_at]
theorem kmax_at (b : Fin 2) (g : Fin 12) (h : Fin 9) :
    val_main_v69 (F := Ideal) x1 x3 (ix3 b g h) = supE fun p : Fin 64 × Fin 64 => devE (len x3 b) (fun s : Fin 768 => s.val) (xk x1 b h p.1) (kpos g p.2) := by
  unfold val_main_v69
  refine (host_max_eq _ _ _ _ _ (fun p : Fin 64 × Fin 64 => ix5 b g p.2 h p.1) (fun i hi => ?_) (fun k => ?_)).trans ?_
  · idx_vars i
    have e0 := congrFun hi (0 : Fin 3)
    have e1 := congrFun hi (1 : Fin 3)
    have e2 := congrFun hi (2 : Fin 3)
    exact ⟨(_, _), by rw [← (show _ = b from e0), ← (show _ = g from e1), ← (show _ = h from e2)]; rfl⟩
  · funext a
    match a with
    | ⟨0, _⟩ => rfl
    | ⟨1, _⟩ => rfl
    | ⟨2, _⟩ => rfl
  · unfold supE
    rw [show val_main_cst_18 (F := Ideal) (Shape.Idx.first h_S_) = (⊥ : EReal) from neg_inf]
    refine congrArg (fun F : Fin 64 × Fin 64 → EReal => Finset.univ.fold max ⊥ F) (funext fun p => ?_)
    exact (show val_main_v68 (F := Ideal) x1 x3 (ix5 b g p.2 h p.1) = max (val_main_v67 (F := Ideal) x1 x3 (ix5 b g p.2 h p.1)) (-val_main_v67 (F := Ideal) x1 x3 (ix5 b g p.2 h p.1)) from rfl).trans (by rw [kg_at])
theorem ks_at (b : Fin 2) (j : Fin 12) (h : Fin 9) :
    val_main_v88 (F := Ideal) x1 x3 (ix5 b j 0 h 0) = refE (val_main_v69 (F := Ideal) x1 x3 (ix3 b j h)) := by
  have e43 : val_main_v87 (F := Ideal) x1 x3 (ix5 b j 0 h 0) = Finset.univ.fold min (Ideal.ofBits .f32 0x7F800000#32) fun k : Fin 254 => val_main_v84 (F := Ideal) x1 x3 (ix6 b j 0 h 0 k) := by
    unfold val_main_v87
    refine (host_min_eq _ _ _ _ _ (fun k : Fin 254 => ix6 b j 0 h 0 k) (fun i hi => ?_) (fun k => ?_))
    · idx_vars i
      have e0 := congrFun hi (0 : Fin 5)
      have e1 := congrFun hi (1 : Fin 5)
      have e3 := congrFun hi (3 : Fin 5)
      have e2 : i2 = 0 := Subsingleton.elim _ _
      have e4 : i4 = 0 := Subsingleton.elim _ _
      subst e2 e4
      exact ⟨_, by rw [← (show _ = b from e0), ← (show _ = j from e1), ← (show _ = h from e3)]; rfl⟩
    · funext a
      match a with
      | ⟨0, _⟩ => rfl
      | ⟨1, _⟩ => rfl
      | ⟨2, _⟩ => rfl
      | ⟨3, _⟩ => rfl
      | ⟨4, _⟩ => rfl
  have e28 : val_main_v72 (F := Ideal) x1 x3 (ix5 b j 0 h 0) = sc448 (val_main_v69 (F := Ideal) x1 x3 (ix3 b j h)) := by
    pointwise [val_main_v72, val_main_v71, val_main_v70, val_main_cst_19, constant]
    rfl
  have e40 (k : Fin 254) : val_main_v84 (F := Ideal) x1 x3 (ix6 b j 0 h 0 k) =
      if sc448 (val_main_v69 (F := Ideal) x1 x3 (ix3 b j h)) < Ideal.ofBits FTy.f32 (IntOp.shli ArithUnit.host (IntOp.addi (1#32) (BitVec.ofNat 32 k.val)) 23#32) then
        Ideal.ofBits FTy.f32 (IntOp.shli ArithUnit.host (IntOp.addi (1#32) (BitVec.ofNat 32 k.val)) 23#32) else Ideal.ofBits .f32 0x7F800000#32 := by
    rw [← e28]
    pointwise [val_main_v84, val_main_v83, val_main_v82, val_main_v81, val_main_v80, val_main_v79, val_main_v78, val_main_v77, val_main_v76, val_main_v75, val_main_v74, val_main_v73, val_main_c_20, val_main_c_21, val_main_call7_v0, val_main_call7_v1, val_main_call7_v2, val_main_cst_22, constant, constantI, id]
  have e44 : val_main_v88 (F := Ideal) x1 x3 (ix5 b j 0 h 0) = if val_main_v72 (F := Ideal) x1 x3 (ix5 b j 0 h 0) < Ideal.ofBits .f32 0x00800000#32 then Ideal.ofBits .f32 0x3F800000#32 else val_main_v87 (F := Ideal) x1 x3 (ix5 b j 0 h 0) := by
    generalize hg : val_main_v87 (F := Ideal) x1 x3 (ix5 b j 0 h 0) = z
    rw [val_main_v88_apply, hg]
    pointwise [val_main_v86, val_main_v85, val_main_cst_23, val_main_call8_v1, val_main_call8_v0, val_main_cst_25, constant, id]
  exact refE_of e44 e43 e28 e40
theorem kcode_at (b : Fin 2) (g : Fin 12) (l : Fin 64) (h : Fin 9) (d : Fin 64) :
    val_main_v91 (F := Ideal) x1 x3 (ix5 b g l h d) = codeE (val_main_v67 (F := Ideal) x1 x3 (ix5 b g l h d)) (val_main_v69 (F := Ideal) x1 x3 (ix3 b g h)) := by
  have e : val_main_v91 (F := Ideal) x1 x3 (ix5 b g l h d) = clipE (Ideal.div (val_main_v67 (F := Ideal) x1 x3 (ix5 b g l h d)) (val_main_v88 (F := Ideal) x1 x3 (ix5 b g 0 h 0))) := by
    unfold val_main_v91 val_main_call9_v2 val_main_v90 val_main_v89
    generalize val_main_v88 (F := Ideal) x1 x3 = z
    generalize val_main_v67 (F := Ideal) x1 x3 = y
    pointwise [val_main_call9_v0, val_main_call9_v1, val_main_call9_v3, val_main_call9_v4, val_main_cst_26, val_main_cst_27, constant, id]
    rfl
  rw [e, ks_at]
  rfl

end Cert.Proof.RI
end
-- ==== Proof.ReadRV.lean ====
module
public import proofs.«01_k».proof.Proof.ReadR

@[expose] public section
set_option maxRecDepth 16384

/-!
# The reference's quantised values
-/

noncomputable section
namespace Cert.Proof.RI
open Cert.ReferenceIdeal Cert.ReferenceIdeal.Gen Cert.ReferenceIdeal.Read
open Idealize.ShloMosaic Idealize.SL.Sem Idealize.ShloMosaic.TcCoe
variable (x0 : X0) (x1 x2 : X1) (x3 : X3)

/-! ## The values -/

theorem vd_at (b : Fin 2) (h : Fin 9) (d : Fin 64) (s : Fin 768) :
    val_main_v95 (F := Ideal) x2 x3 (ix4 b s h d) = mskE (len x3 b) s.val (xk x2 b h d s) := by
  pointwise [val_main_v95, val_main_v94, val_main_v93, val_main_v51, val_main_v5, val_main_v4, val_main_v3, val_main_v2, val_main_v1, val_main_v0, val_main_cst_28, val_main_call10_v0, val_main_call10_v1, val_main_call10_v2, id, constant]
  rfl
theorem vmax_at (b : Fin 2) (h : Fin 9) (d : Fin 64) :
    val_main_v97 (F := Ideal) x2 x3 (ix3 b h d) = supE fun s : Fin 768 => mskE (len x3 b) s.val (xk x2 b h d s) := by
  unfold val_main_v97
  refine (host_max_eq _ _ _ _ _ (fun s : Fin 768 => ix4 b s h d) (fun i hi => ?_) (fun k => ?_)).trans ?_
  · idx_vars i
    have e0 := congrFun hi (0 : Fin 3)
    have e1 := congrFun hi (1 : Fin 3)
    have e2 := congrFun hi (2 : Fin 3)
    exact ⟨_, by rw [← (show _ = b from e0), ← (show _ = h from e1), ← (show _ = d from e2)]; rfl⟩
  · funext a
    match a with
    | ⟨0, _⟩ => rfl
    | ⟨1, _⟩ => rfl
    | ⟨2, _⟩ => rfl
  · unfold supE
    rw [show val_main_cst_29 (F := Ideal) (Shape.Idx.first h_S_) = (⊥ : EReal) from neg_inf]
    refine congrArg (fun F : Fin 768 → EReal => Finset.univ.fold max ⊥ F) (funext fun s => ?_)
    exact (show val_main_v96 (F := Ideal) x2 x3 (ix4 b s h d) = max (val_main_v95 (F := Ideal) x2 x3 (ix4 b s h d)) (-val_main_v95 (F := Ideal) x2 x3 (ix4 b s h d)) from rfl).trans (by rw [vd_at])
theorem vs_at (b : Fin 2) (h : Fin 9) (d : Fin 64) :
    val_main_v116 (F := Ideal) x2 x3 (ix4 b 0 h d) = refE (val_main_v97 (F := Ideal) x2 x3 (ix3 b h d)) := by
  have e43 : val_main_v115 (F := Ideal) x2 x3 (ix4 b 0 h d) = Finset.univ.fold min (Ideal.ofBits .f32 0x7F800000#32) fun k : Fin 254 => val_main_v112 (F := Ideal) x2 x3 (ix5 b 0 h d k) := by
    unfold val_main_v115
    refine (host_min_eq _ _ _ _ _ (fun k : Fin 254 => ix5 b 0 h d k) (fun i hi => ?_) (fun k => ?_))
    · idx_vars i
      have e0 := congrFun hi (0 : Fin 4)
      have e2 := congrFun hi (2 : Fin 4)
      have e3 := congrFun hi (3 : Fin 4)
      have e1 : i1 = 0 := Subsingleton.elim _ _
      subst e1
      exact ⟨_, by rw [← (show _ = b from e0), ← (show _ = h from e2), ← (show _ = d from e3)]; rfl⟩
    · funext a
      match a with
      | ⟨0, _⟩ => rfl
      | ⟨1, _⟩ => rfl
      | ⟨2, _⟩ => rfl
      | ⟨3, _⟩ => rfl
  have e28 : val_main_v100 (F := Ideal) x2 x3 (ix4 b 0 h d) = sc448 (val_main_v97 (F := Ideal) x2 x3 (ix3 b h d)) := by
    pointwise [val_main_v100, val_main_v99, val_main_v98, val_main_cst_30, constant]
    rfl
  have e40 (k : Fin 254) : val_main_v112 (F := Ideal) x2 x3 (ix5 b 0 h d k) =
      if sc448 (val_main_v97 (F := Ideal) x2 x3 (ix3 b h d)) < Ideal.ofBits FTy.f32 (IntOp.shli ArithUnit.host (IntOp.addi (1#32) (BitVec.ofNat 32 k.val)) 23#32) then
        Ideal.ofBits FTy.f32 (IntOp.shli ArithUnit.host (IntOp.addi (1#32) (BitVec.ofNat 32 k.val)) 23#32) else Ideal.ofBits .f32 0x7F800000#32 := by
    rw [← e28]
    pointwise [val_main_v112, val_main_v111, val_main_v110, val_main_v109, val_main_v108, val_main_v107, val_main_v106, val_main_v105, val_main_v104, val_main_v103, val_main_v102, val_main_v101, val_main_c_31, val_main_c_32, val_main_call11_v0, val_main_call11_v1, val_main_call11_v2, val_main_cst_33, constant, constantI, id]
  have e44 : val_main_v116 (F := Ideal) x2 x3 (ix4 b 0 h d) = if val_main_v100 (F := Ideal) x2 x3 (ix4 b 0 h d) < Ideal.ofBits .f32 0x00800000#32 then Ideal.ofBits .f32 0x3F800000#32 else val_main_v115 (F := Ideal) x2 x3 (ix4 b 0 h d) := by
    generalize hg : val_main_v115 (F := Ideal) x2 x3 (ix4 b 0 h d) = z
    rw [val_main_v116_apply, hg]
    pointwise [val_main_v114, val_main_v113, val_main_cst_34, val_main_call12_v1, val_main_call12_v0, val_main_cst_36, constant, id]
  exact refE_of e44 e43 e28 e40
theorem vcode_at (b : Fin 2) (h : Fin 9) (d : Fin 64) (s : Fin 768) :
    val_main_v119 (F := Ideal) x2 x3 (ix4 b s h d) = codeE (val_main_v95 (F := Ideal) x2 x3 (ix4 b s h d)) (val_main_v97 (F := Ideal) x2 x3 (ix3 b h d)) := by
  have e : val_main_v119 (F := Ideal) x2 x3 (ix4 b s h d) = clipE (Ideal.div (val_main_v95 (F := Ideal) x2 x3 (ix4 b s h d)) (val_main_v116 (F := Ideal) x2 x3 (ix4 b 0 h d))) := by
    unfold val_main_v119 val_main_call13_v2 val_main_v118 val_main_v117
    generalize val_main_v116 (F := Ideal) x2 x3 = z
    generalize val_main_v95 (F := Ideal) x2 x3 = y
    pointwise [val_main_call13_v0, val_main_call13_v1, val_main_call13_v3, val_main_call13_v4, val_main_cst_37, val_main_cst_38, constant, id]
    rfl
  rw [e, vs_at]
  rfl

end Cert.Proof.RI
end
-- ==== Proof.ReadRes.lean ====
module
public import proofs.«01_k».proof.Proof.ReadR

@[expose] public section
set_option maxRecDepth 16384

/-!
# The reference's results as they leave
-/

noncomputable section
namespace Cert.Proof.RI
open Cert.ReferenceIdeal Cert.ReferenceIdeal.Gen Cert.ReferenceIdeal.Read
open Idealize.ShloMosaic Idealize.SL.Sem Idealize.ShloMosaic.TcCoe
variable (x0 : X0) (x1 x2 : X1) (x3 : X3)

variable (b : Fin 2)
theorem r_qc (h : Fin 45) (d : Fin 64) (j : Fin 6) (l : Fin 128) :
    val_main_v184 (F := Ideal) x0 x3 (ix4 b h d (⟨j.val * 128 + l.val, by omega⟩ : Fin 768)) = val_main_v47 (F := Ideal) x0 x3 (ix5 b j l h d) := by
  rw [val_main_v184_apply, val_main_v183_apply, val_main_v182_apply]
  refine congrArg (val_main_v47 (F := Ideal) x0 x3) (funext fun a => ?_)
  match a with
  | ⟨0, _⟩ => exact Fin.ext (by have hb := b.isLt; have hh := h.isLt; have hd := d.isLt; show ((((b.val * 45 + h.val) * 64 + d.val) * 768 + (j.val * 128 + l.val)) / 2211840) = b.val; omega)
  | ⟨1, _⟩ => exact Fin.ext (by have hb := b.isLt; have hh := h.isLt; have hd := d.isLt; show (((b.val * 45 + h.val) * 64 + d.val) * 768 + (j.val * 128 + l.val)) / 128 % 6 = j.val; omega)
  | ⟨2, _⟩ => exact Fin.ext (by have hb := b.isLt; have hh := h.isLt; have hd := d.isLt; show (((b.val * 45 + h.val) * 64 + d.val) * 768 + (j.val * 128 + l.val)) % 128 = l.val; omega)
  | ⟨3, _⟩ => exact Fin.ext (by have hb := b.isLt; have hh := h.isLt; have hd := d.isLt; show (((b.val * 45 + h.val) * 64 + d.val) * 768 + (j.val * 128 + l.val)) / 49152 % 45 = h.val; omega)
  | ⟨4, _⟩ => exact Fin.ext (by have hb := b.isLt; have hh := h.isLt; have hd := d.isLt; show (((b.val * 45 + h.val) * 64 + d.val) * 768 + (j.val * 128 + l.val)) / 768 % 64 = d.val; omega)
theorem r_kc (h : Fin 9) (d : Fin 64) (g : Fin 12) (l : Fin 64) :
    val_main_v189 (F := Ideal) x1 x3 (ix4 b h d (kpos g l)) = val_main_v91 (F := Ideal) x1 x3 (ix5 b g l h d) := by
  rw [val_main_v189_apply, val_main_v188_apply, val_main_v187_apply]
  refine congrArg (val_main_v91 (F := Ideal) x1 x3) (funext fun a => ?_)
  match a with
  | ⟨0, _⟩ => exact Fin.ext (by have hb := b.isLt; have hh := h.isLt; have hd := d.isLt; show ((((b.val * 9 + h.val) * 64 + d.val) * 768 + (g.val * 64 + l.val)) / 442368) = b.val; omega)
  | ⟨1, _⟩ => exact Fin.ext (by have hb := b.isLt; have hh := h.isLt; have hd := d.isLt; show (((b.val * 9 + h.val) * 64 + d.val) * 768 + (g.val * 64 + l.val)) / 64 % 12 = g.val; omega)
  | ⟨2, _⟩ => exact Fin.ext (by have hb := b.isLt; have hh := h.isLt; have hd := d.isLt; show (((b.val * 9 + h.val) * 64 + d.val) * 768 + (g.val * 64 + l.val)) % 64 = l.val; omega)
  | ⟨3, _⟩ => exact Fin.ext (by have hb := b.isLt; have hh := h.isLt; have hd := d.isLt; show (((b.val * 9 + h.val) * 64 + d.val) * 768 + (g.val * 64 + l.val)) / 49152 % 9 = h.val; omega)
  | ⟨4, _⟩ => exact Fin.ext (by have hb := b.isLt; have hh := h.isLt; have hd := d.isLt; show (((b.val * 9 + h.val) * 64 + d.val) * 768 + (g.val * 64 + l.val)) / 768 % 64 = d.val; omega)
theorem r_vc (h : Fin 9) (d : Fin 64) (s : Fin 768) :
    val_main_v193 (F := Ideal) x2 x3 (ix4 b h d s) = val_main_v119 (F := Ideal) x2 x3 (ix4 b s h d) := by
  rw [val_main_v193_apply, val_main_v192_apply]
  refine congrArg (val_main_v119 (F := Ideal) x2 x3) (funext fun a => ?_)
  match a with
  | ⟨0, _⟩ => exact Fin.ext (by rfl)
  | ⟨1, _⟩ => exact Fin.ext (by rfl)
  | ⟨2, _⟩ => exact Fin.ext (by rfl)
  | ⟨3, _⟩ => exact Fin.ext (by rfl)
theorem r_qs (j : Fin 6) (h : Fin 45) :
    val_main_v185 (F := Ideal) x0 x3 (ix3 j b h) = val_main_v44 (F := Ideal) x0 x3 (ix5 b j 0 h 0) := by
  rw [val_main_v185_apply, val_main_v48_apply]
  refine congrArg (val_main_v44 (F := Ideal) x0 x3) (funext fun a => ?_)
  match a with
  | ⟨0, _⟩ => exact Fin.ext (by have hb := b.isLt; have hh := h.isLt; show ((b.val * 6 + j.val) * 45 + h.val) / 270 = b.val; omega)
  | ⟨1, _⟩ => exact Fin.ext (by have hb := b.isLt; have hh := h.isLt; show ((b.val * 6 + j.val) * 45 + h.val) / 45 % 6 = j.val; omega)
  | ⟨2, _⟩ => exact Fin.ext (by rfl)
  | ⟨3, _⟩ => exact Fin.ext (by have hb := b.isLt; have hh := h.isLt; show ((b.val * 6 + j.val) * 45 + h.val) / 1 % 45 = h.val; omega)
  | ⟨4, _⟩ => exact Fin.ext (by rfl)
theorem r_mq (j : Fin 6) (h : Fin 45) (d : Fin 64) :
    val_main_v186 (F := Ideal) x0 x3 (ix4 j h b d) = val_main_v18 (F := Ideal) x0 x3 (ix4 b j h d) := by
  rw [val_main_v186_apply]
  refine congrArg (val_main_v18 (F := Ideal) x0 x3) (funext fun a => ?_)
  match a with
  | ⟨0, _⟩ => exact Fin.ext (by rfl)
  | ⟨1, _⟩ => exact Fin.ext (by rfl)
  | ⟨2, _⟩ => exact Fin.ext (by rfl)
  | ⟨3, _⟩ => exact Fin.ext (by rfl)
theorem r_ks (g : Fin 12) (h : Fin 9) :
    val_main_v190 (F := Ideal) x1 x3 (ix3 h b g) = val_main_v88 (F := Ideal) x1 x3 (ix5 b g 0 h 0) := by
  rw [val_main_v190_apply, val_main_v92_apply]
  refine congrArg (val_main_v88 (F := Ideal) x1 x3) (funext fun a => ?_)
  match a with
  | ⟨0, _⟩ => exact Fin.ext (by have hb := b.isLt; have hh := h.isLt; show ((b.val * 12 + g.val) * 9 + h.val) / 108 = b.val; omega)
  | ⟨1, _⟩ => exact Fin.ext (by have hb := b.isLt; have hh := h.isLt; show ((b.val * 12 + g.val) * 9 + h.val) / 9 % 12 = g.val; omega)
  | ⟨2, _⟩ => exact Fin.ext (by rfl)
  | ⟨3, _⟩ => exact Fin.ext (by have hb := b.isLt; have hh := h.isLt; show ((b.val * 12 + g.val) * 9 + h.val) / 1 % 9 = h.val; omega)
  | ⟨4, _⟩ => exact Fin.ext (by rfl)
theorem r_mk (h : Fin 9) (d : Fin 64) :
    val_main_v191 (F := Ideal) x1 x3 (ix3 h b d) = val_main_v61 (F := Ideal) x1 x3 (ix3 b h d) := by
  rw [val_main_v191_apply]
  refine congrArg (val_main_v61 (F := Ideal) x1 x3) (funext fun a => ?_)
  match a with
  | ⟨0, _⟩ => exact Fin.ext (by rfl)
  | ⟨1, _⟩ => exact Fin.ext (by rfl)
  | ⟨2, _⟩ => exact Fin.ext (by rfl)
theorem r_vs (h : Fin 9) (d : Fin 64) :
    val_main_v194 (F := Ideal) x2 x3 (ix3 h b d) = val_main_v116 (F := Ideal) x2 x3 (ix4 b 0 h d) := by
  rw [val_main_v194_apply, val_main_v120_apply]
  refine congrArg (val_main_v116 (F := Ideal) x2 x3) (funext fun a => ?_)
  match a with
  | ⟨0, _⟩ => exact Fin.ext (by have hb := b.isLt; have hh := h.isLt; show ((b.val * 9 + h.val) * 64 + d.val) / 576 = b.val; omega)
  | ⟨1, _⟩ => exact Fin.ext (by rfl)
  | ⟨2, _⟩ => exact Fin.ext (by have hb := b.isLt; have hh := h.isLt; show ((b.val * 9 + h.val) * 64 + d.val) / 64 % 9 = h.val; omega)
  | ⟨3, _⟩ => exact Fin.ext (by have hb := b.isLt; have hh := h.isLt; show ((b.val * 9 + h.val) * 64 + d.val) % 64 = d.val; omega)

end Cert.Proof.RI
end
-- ==== Proof.ReadF.lean ====
module
public import proofs.«01_k».proof.Proof.ReadE
public import proofs.«01_k».proof.Proof.ReadRQ
public import proofs.«01_k».proof.Proof.ReadRK
public import proofs.«01_k».proof.Proof.ReadRV
public import proofs.«01_k».proof.Proof.ReadRes

@[expose] public section
set_option maxRecDepth 16384

/-!
# The kernel's quantised results are the reference's
-/

noncomputable section
namespace Cert.Proof.KI

open Cert.KernelIdeal Cert.KernelIdeal.Gen
open Cert.ReferenceIdeal.Read
open Idealize.ShloMosaic
open Idealize.ShloMosaic.TcCoe
open Idealize.SL Idealize.SL.RA Idealize.SL.Sem

/-- A query head by its kv head and its place. -/
theorem head_split (x : Fin 45) : ∃ (t : Fin 9) (h : Fin 5), x = qh t h :=
  ⟨⟨x.val / 5, by omega⟩, ⟨x.val % 5, by omega⟩, Fin.ext (by show x.val = x.val / 5 * 5 + x.val % 5; omega)⟩
/-- A position by its query block and lane, -/
theorem q_split (s : Fin 768) : ∃ (j : Fin 6) (l : Fin 128), s = ⟨j.val * 128 + l.val, by omega⟩ :=
  ⟨⟨s.val / 128, by omega⟩, ⟨s.val % 128, by omega⟩, Fin.ext (by show s.val = s.val / 128 * 128 + s.val % 128; omega)⟩
/-- or by its key block. -/
theorem k_split (s : Fin 768) : ∃ (g : Fin 12) (l : Fin 64), s = RI.kpos g l :=
  ⟨⟨s.val / 64, by omega⟩, ⟨s.val % 64, by omega⟩, Fin.ext (by show s.val = s.val / 64 * 64 + s.val % 64; omega)⟩

variable (m : (ℓ : Loc nD τ sig) → Buf (Elt Ideal) ℓ) (c : Dev nD)
variable (hn : ∀ b, (RI.len (a3 m c) b).toInt ≤ 768)
variable (hx : ∀ i, Fin' (a0 m c i)) (hk : ∀ i, Fin' (a1 m c i)) (hv : ∀ i, Fin' (a2 m c i))
variable {r : PUnit × MemSt nD τ sig (Elt Ideal)} (h : Pipeline.RDat.FramePost (cf m) (rdat m) (fun c b => V m c b) r)
include h

include hx in
theorem res_qc : r.2.mem ((c.tc : Thread nD τ).loc main_v3_1) = val_main_v184 (F := Ideal) (a0 m c) (a3 m c) := by
  funext i
  idx_vars i
  obtain ⟨t, h', rfl⟩ := head_split i1
  obtain ⟨j, l, rfl⟩ := q_split i3
  rw [RI.r_qc, RI.qcode_at, RI.qd_at, RI.qmax_at]
  exact e_qc m c hx h i0 t h' i2 j l
include hx in
theorem res_qs : r.2.mem ((c.tc : Thread nD τ).loc main_v3_2) = val_main_v185 (F := Ideal) (a0 m c) (a3 m c) := by
  funext i
  idx_vars i
  rw [RI.r_qs, RI.qs_at, RI.qmax_at]
  exact e_qs m c hx h i0 i1 i2
theorem res_mq : r.2.mem ((c.tc : Thread nD τ).loc main_v3_3) = val_main_v186 (F := Ideal) (a0 m c) (a3 m c) := by
  funext i
  idx_vars i
  obtain ⟨t, h', rfl⟩ := head_split i1
  rw [RI.r_mq, RI.mq_at]
  exact e_mq m c h i2 t h' i0 i3
include hn hk in
theorem res_kc : r.2.mem ((c.tc : Thread nD τ).loc main_v3_4) = val_main_v189 (F := Ideal) (a1 m c) (a3 m c) := by
  funext i
  idx_vars i
  obtain ⟨g, l, rfl⟩ := k_split i3
  rw [RI.r_kc, RI.kcode_at, RI.kg_at, RI.kmax_at]
  exact e_kc m c hn hk h i0 i1 i2 g l
include hn hk in
theorem res_ks : r.2.mem ((c.tc : Thread nD τ).loc main_v3_5) = val_main_v190 (F := Ideal) (a1 m c) (a3 m c) := by
  funext i
  idx_vars i
  rw [RI.r_ks, RI.ks_at, RI.kmax_at]
  exact e_ks m c hn hk h i1 i0 i2
include hn in
theorem res_mk : r.2.mem ((c.tc : Thread nD τ).loc main_v3_6) = val_main_v191 (F := Ideal) (a1 m c) (a3 m c) := by
  funext i
  idx_vars i
  rw [RI.r_mk, RI.mk_at]
  exact e_mk m c hn h i1 i0 i2
include hv in
theorem res_vc : r.2.mem ((c.tc : Thread nD τ).loc main_v3_7) = val_main_v193 (F := Ideal) (a2 m c) (a3 m c) := by
  funext i
  idx_vars i
  rw [RI.r_vc, RI.vcode_at, RI.vd_at, RI.vmax_at]
  exact e_vc m c hv h i0 i1 i2 i3
include hv in
theorem res_vs : r.2.mem ((c.tc : Thread nD τ).loc main_v3_8) = val_main_v194 (F := Ideal) (a2 m c) (a3 m c) := by
  funext i
  idx_vars i
  rw [RI.r_vs, RI.vs_at, RI.vmax_at]
  exact e_vs m c hv h i1 i0 i2

end Cert.Proof.KI
end
-- ==== Proof.ReadP.lean ====
module
public import proofs.«01_k».proof.Defs
public import proofs.«01_k».proof.Proof.Gen.Pre_in_range
public import proofs.«01_k».proof.Proof.ReadE
public import Idealize.ShloMosaic.Lib.ReduceAll
public import Idealize.ShloMosaic.Lib.Pointwise

@[expose] public section
set_option maxRecDepth 16384

/-!
# What the precondition says

Every element is at most the largest bf16 in size, and no length is above the sequence's.
-/

noncomputable section
namespace Cert.Proof

open Idealize.ShloMosaic
open Idealize.ShloMosaic.TcCoe
open Idealize.SL Idealize.SL.RA Idealize.SL.Sem

instance : Cert.Pre_in_range.Facts := Cert.Pre_in_range.Gen.facts
instance : Subsingleton Cert.Pre_in_range.S_.Idx := ⟨fun a b => funext fun i => i.elim0⟩

theorem andi_one (a b : BitVec 1) (h : IntOp.andi a b = 1#1) : a = 1#1 ∧ b = 1#1 := by revert a b; decide

theorem max_bf16 : Ideal.ofBits .f32 0x7F7F0000#32 = (((2 : ℝ) ^ 127 * (255 / 128) : ℝ) : EReal) := by
  have e : ((2 : ℝ) ^ 127 * (255 / 128) : ℝ) = 16711680 * 2 ^ 104 := by norm_num
  rw [e]
  simp [Ideal.ofBits, Ideal.ieee]

/-- An element that is not above the bound in size is a number of size at most 2 ^ 128. -/
theorem fin_of (x : EReal) (h : BitVec.ofBool (decide (max x (-x) ≤ Ideal.ofBits .f32 0x7F7F0000#32)) = 1#1) : Fin' x := by
  have h' : max x (-x) ≤ Ideal.ofBits .f32 0x7F7F0000#32 := by
    by_contra hc
    rw [decide_eq_false hc] at h
    exact absurd h (by decide)
  rw [max_bf16] at h'
  induction x using EReal.rec with
  | bot => exact absurd (le_trans (le_max_right _ _) h') (not_le.mpr (EReal.coe_lt_top _))
  | top => exact absurd (le_trans (le_max_left _ _) h') (not_le.mpr (EReal.coe_lt_top _))
  | coe r =>
    refine ⟨r, rfl, abs_le.mpr ⟨?_, ?_⟩⟩
    · have := le_trans (le_max_right _ _) h'
      have h2 : -r ≤ (2 : ℝ) ^ 127 * (255 / 128) := by exact_mod_cast this
      norm_num at h2 ⊢
      linarith
    · have := le_trans (le_max_left _ _) h'
      have h2 : r ≤ (2 : ℝ) ^ 127 * (255 / 128) := by exact_mod_cast this
      norm_num at h2 ⊢
      linarith

section
open Cert.Pre_in_range
variable (x : FVec Ideal S2x768x2880 .bf16) (k v : FVec Ideal S2x768x576 .bf16) (n : IVec S2 32)

theorem pre_all (h : fn (F := Ideal) x k v n = fun _ => 1#1) :
    (∀ i, Fin' (x i)) ∧ (∀ i, Fin' (k i)) ∧ (∀ i, Fin' (v i)) ∧ ∀ b, (n b).toInt ≤ 768 := by
  have h0 := congrFun h (fun a => a.elim0)
  unfold fn fn_part1 at h0
  obtain ⟨h1, hn⟩ := andi_one _ _ h0
  obtain ⟨h2, hv⟩ := andi_one _ _ h1
  obtain ⟨hx, hk⟩ := andi_one _ _ h2
  refine ⟨fun i => fin_of _ (Host.reduce_andi_all _ _ _ _ _ hx i), fun i => fin_of _ (Host.reduce_andi_all _ _ _ _ _ hk i),
    fun i => fin_of _ (Host.reduce_andi_all _ _ _ _ _ hv i), fun b => ?_⟩
  have hb : IntOp.cmpi .sle (n b) 768#32 = 1#1 := Host.reduce_andi_all _ _ _ _ _ hn b
  by_contra hc
  have : (n b).sle 768#32 = false := by
    rw [BitVec.sle_eq_decide]
    exact decide_eq_false (by simpa using hc)
  unfold IntOp.cmpi at hb
  simp [this] at hb
end

end Cert.Proof
end
-- ==== Proof.ReadA.lean ====
module
public import proofs.«01_k».proof.Proof.ReadK
public import proofs.«01_k».proof.Proof.Spec

@[expose] public section
set_option maxRecDepth 16384

/-!
# The pieces of the attention over the reals
-/

noncomputable section
namespace Cert.Proof
open Cert.KernelIdeal
open Idealize.ShloMosaic Idealize.SL.Sem Idealize.ShloMosaic.TcCoe

theorem corrAll_at (mq : FVec Ideal S64x128 .bf16) (kt : Vec Ideal S1x768x64 .fp8e4m3) (s : Fin 768) (i : Fin 128) :
    corrAll (F := Ideal) mq kt (ix2 s i) = ∑ d : Fin 64, kt (ix3 0 s d) * mq (ix2 d i) := by
  pointwise [corrAll]
theorem rawScore_at (kt : Vec Ideal S1x128x64 .fp8e4m3) (q : Vec Ideal S1x1x64x128 .fp8e4m3) (s l : Fin 128) :
    rawScore (F := Ideal) kt q (ix2 s l) = ∑ d : Fin 64, kt (ix3 0 s d) * q (ix4 0 0 d l) := by
  pointwise [rawScore]
theorem corrOf_at (score : EReal) (C : FVec Ideal S768x128 .f32) (ks : Fin 12 → FVec Ideal S1x1 .f32) (g : Fin 12) (s : Fin 64) (i : Fin 128) :
    corrOf (F := Ideal) score C ks g (ix2 s i) = C (ix2 ⟨g.val * 64 + s.val, by omega⟩ i) * (ks g (ix2 0 0) * score) := by
  unfold corrOf
  generalize ks g = k
  pointwise []
theorem logits_at (score msk : EReal) (S : FVec Ideal S128x128 .f32) (qs ks : FVec Ideal S1x1 .f32) (diag : Bool) (u : Fin 2) (cc : Vec Ideal S1x64x1 .f32) (s : Fin 64) (l : Fin 128) :
    logits (F := Ideal) score msk keyIx queryIx S qs ks diag u cc (ix2 s l) =
      if diag = true ∧ ¬ u.val * 64 + s.val ≤ l.val then msk
      else S (ix2 ⟨u.val * 64 + s.val, by omega⟩ l) * (qs (ix2 0 0) * ks (ix2 0 0) * score) + cc (ix3 0 s 0) := by
  have hs : IntOp.cmpi .sle (BitVec.ofNat 32 (u.val * 64 + s.val)) (BitVec.ofNat 32 l.val) = if u.val * 64 + s.val ≤ l.val then 1#1 else 0#1 := by
    unfold IntOp.cmpi
    dsimp only
    rw [BitVec.sle_eq_decide, toInt_small _ (by omega), toInt_small _ (by omega)]
    by_cases h : u.val * 64 + s.val ≤ l.val
    · rw [if_pos h, decide_eq_true (by exact_mod_cast h)]; rfl
    · rw [if_neg h, decide_eq_false (by exact_mod_cast h)]; rfl
  cases diag
  · rw [if_neg (by simp)]
    unfold logits
    rw [if_neg (by simp)]
    pointwise []
  · unfold logits
    rw [if_pos rfl]
    pointwise [keyIx, queryIx]
    rw [hs]
    by_cases h : u.val * 64 + s.val ≤ l.val
    · rw [if_pos h, if_neg (by simp [h])]; rfl
    · rw [if_neg h, if_pos (by simp [h])]; rfl

/-- The running maximum is below a bound where it was and the new logarithms are. -/
theorem maxStep_le (m : FVec Ideal S8x128 .f32) (w : FVec Ideal S64x128 .f32) (r : Fin 8) (l : Fin 128) (C : EReal) :
    maxStep (F := Ideal) m w (ix2 r l) ≤ C ↔ m (ix2 r l) ≤ C ∧ ∀ a : Fin 8, w (ix2 ⟨a.val * 8 + r.val, by omega⟩ l) ≤ C := by
  have e : maxStep (F := Ideal) m w (ix2 r l) = max (m (ix2 r l)) (Finset.univ.fold max ⊥ fun a : Fin 8 => w (ix2 ⟨a.val * 8 + r.val, by omega⟩ l)) := by
    unfold maxStep
    pointwise [neg_inf']
  rw [e, max_le_iff, Finset.fold_max_le]
  simp
theorem level_at (m : FVec Ideal S8x128 .f32) (l : Fin 128) :
    level (F := Ideal) m (ix2 0 l) = (Finset.univ.fold max ⊥ fun r : Fin 8 => m (ix2 r l)) - Ideal.ofBits .f32 0x41000000#32 := by
  unfold level
  pointwise [neg_inf', cst]
theorem weights_at (w : Vec Ideal S1x128x128 .f32) (m : FVec Ideal S1x128 .f32) (s l : Fin 128) :
    weights (F := Ideal) w m (ix2 s l) = Ideal.exp2 (w (ix3 0 s l) - m (ix2 0 l)) := by
  pointwise [weights]
  rfl
theorem accStep_at (a : FVec Ideal S8x128 .f32) (p : FVec Ideal S128x128 .f32) (r : Fin 8) (l : Fin 128) :
    accStep (F := Ideal) a p (ix2 r l) = a (ix2 r l) + ∑ i : Fin 16, p (ix2 ⟨i.val * 8 + r.val, by omega⟩ l) := by
  unfold accStep
  pointwise []
theorem outStep_at (o : FVec Ideal S64x128 .f32) (vc : Vec Ideal S1x1x64x128 .fp8e4m3) (p : FVec Ideal S128x128 .f32) (d : Fin 64) (l : Fin 128) :
    outStep (F := Ideal) o vc p (ix2 d l) = o (ix2 d l) + ∑ s : Fin 128, vc (ix4 0 0 d s) * p (ix2 s l) := by
  unfold outStep
  pointwise []
theorem finish_at (n : BitVec 32) (j : Fin 6) (vs : FVec Ideal S64x1 .f32) (a : FVec Ideal S8x128 .f32) (o : FVec Ideal S64x128 .f32) (d : Fin 64) (l : Fin 128) :
    finish (F := Ideal) lane128 n j vs a o (ix2 d l) =
      Scalar.select (vb n (j.val * 128 + l.val)) (Ideal.div (o (ix2 d l) * vs (ix2 d 0)) (∑ r : Fin 8, a (ix2 r l))) 0 := by
  have hw' : IntOp.addi (BitVec.ofNat 32 l.val) (BitVec.ofNat 32 (j.val * 128)) = BitVec.ofNat 32 (j.val * 128 + l.val) := by
    unfold IntOp.addi
    rw [← BitVec.ofNat_add, Nat.add_comm]
  unfold vb
  rw [← hw']
  unfold finish
  generalize hw : BitVec.ofNat 32 (j.val * 128) = w
  pointwise [lane128, csti, i32, cst]
  rw [hw]

end Cert.Proof
end
-- ==== Proof.AttM.lean ====
module
public import proofs.«01_k».proof.Proof.Mid

@[expose] public section

/-!
# The softmax over real scores

The kernel weighs the keys by powers of two, eight binades above the largest weight, and divides by the sum of
those weights; the reference weighs them by exponentials, scales the weights by 256 and takes that factor back.
-/

noncomputable section
namespace Cert.Proof

open Idealize.ShloMosaic Idealize.SL.Sem

variable (Q : ℕ) (z : Fin 768 → ℝ)

/-- The kernel's logarithms of the weights, -/
def wE (s : Fin 768) : EReal := if s.val ≤ Q then ((z s / Real.log 2 : ℝ) : EReal) else ⊥
/-- their maximum, -/
def topE : EReal := Finset.univ.fold max ⊥ (wE Q z)
/-- and the weights. -/
def pE (s : Fin 768) : EReal := Ideal.exp2 (wE Q z s - (topE Q z - ((8 : ℝ) : EReal)))

/-- The reference's masked scores, -/
def zE (s : Fin 768) : EReal := if s.val ≤ Q then (z s : EReal) else ⊥
/-- and its weights. -/
def rE (s : Fin 768) : EReal := if s.val ≤ Q then Ideal.exp ((z s : EReal) - Finset.univ.fold max ⊥ (zE Q z)) else 0
/-- The weights it multiplies the values by. -/
def cE (s : Fin 768) : EReal := min (Ideal.ofBits .f32 0x43E00000#32) (max 0 (rE Q z s * ((256 : ℝ) : EReal)))

theorem pE_far (s : Fin 768) (h : ¬ s.val ≤ Q) (ht : topE Q z ≠ ⊥) : pE Q z s = 0 := by
  unfold pE wE
  rw [if_neg h, EReal.bot_sub]
  rfl

theorem two_pow (x μ : ℝ) : Real.rpow 2 (x / Real.log 2 - (μ / Real.log 2 - 8)) = 256 * Real.exp (x - μ) := by
  have hl : Real.log 2 ≠ 0 := (Real.log_pos one_lt_two).ne'
  show (2 : ℝ) ^ (x / Real.log 2 - (μ / Real.log 2 - 8)) = _
  rw [Real.rpow_def_of_pos two_pos, show Real.log 2 * (x / Real.log 2 - (μ / Real.log 2 - 8)) = Real.log 2 * 8 + (x - μ) by field_simp; ring, Real.exp_add,
    ← Real.rpow_def_of_pos two_pos]
  norm_num

theorem c448 : Ideal.ofBits .f32 0x43E00000#32 = ((448 : ℝ) : EReal) := by
  have e : (448 : ℝ) = 14680064 * ((2 : ℝ) ^ 15)⁻¹ := by norm_num
  rw [e]
  simp [Ideal.ofBits, Ideal.ieee]

/-- There is a largest score. -/
theorem top_score : ∃ s0 : Fin 768, s0.val ≤ Q ∧ ∀ s : Fin 768, s.val ≤ Q → z s ≤ z s0 := by
  obtain ⟨s0, h0, h1⟩ := Finset.exists_max_image (Finset.univ.filter fun s : Fin 768 => s.val ≤ Q) z ⟨0, by simp⟩
  exact ⟨s0, by simpa using h0, fun s hs => h1 s (by simpa using hs)⟩

theorem top_z (s0 : Fin 768) (h0 : s0.val ≤ Q) (h1 : ∀ s : Fin 768, s.val ≤ Q → z s ≤ z s0) : Finset.univ.fold max ⊥ (zE Q z) = (z s0 : EReal) := by
  apply le_antisymm
  · rw [Finset.fold_max_le]
    refine ⟨bot_le, fun s _ => ?_⟩
    unfold zE
    split_ifs with h
    · exact EReal.coe_le_coe_iff.mpr (h1 s h)
    · exact bot_le
  · rw [Finset.le_fold_max]
    refine .inr ⟨s0, Finset.mem_univ _, ?_⟩
    unfold zE
    rw [if_pos h0]
theorem top_w (s0 : Fin 768) (h0 : s0.val ≤ Q) (h1 : ∀ s : Fin 768, s.val ≤ Q → z s ≤ z s0) : topE Q z = ((z s0 / Real.log 2 : ℝ) : EReal) := by
  have hl : 0 < Real.log 2 := Real.log_pos one_lt_two
  unfold topE
  apply le_antisymm
  · rw [Finset.fold_max_le]
    refine ⟨bot_le, fun s _ => ?_⟩
    unfold wE
    split_ifs with h
    · exact EReal.coe_le_coe_iff.mpr (div_le_div_of_nonneg_right (h1 s h) hl.le)
    · exact bot_le
  · rw [Finset.le_fold_max]
    refine .inr ⟨s0, Finset.mem_univ _, ?_⟩
    unfold wE
    rw [if_pos h0]

/-- The two quotients are one. -/
theorem att_eq (vc : Fin 768 → ℝ) (vs : ℝ) :
    Ideal.div ((∑ s, (vc s : EReal) * pE Q z s) * (vs : EReal)) (∑ s, pE Q z s)
      = Ideal.div ((∑ s, cE Q z s * (vc s : EReal)) * ((vs : EReal) * ((1 / 256 : ℝ) : EReal))) (∑ s, rE Q z s) := by
  obtain ⟨s0, h0, h1⟩ := top_score Q z
  set E : Fin 768 → ℝ := fun s => if s.val ≤ Q then Real.exp (z s - z s0) else 0 with hE
  have e0 (s) : 0 ≤ E s := by rw [hE]; dsimp only; split_ifs; exacts [(Real.exp_pos _).le, le_rfl]
  have e1 (s) : E s ≤ 1 := by
    rw [hE]; dsimp only; split_ifs with h
    · exact Real.exp_le_one_iff.mpr (sub_nonpos.mpr (h1 s h))
    · exact zero_le_one
  have hr (s) : rE Q z s = (E s : EReal) := by
    unfold rE
    rw [top_z Q z s0 h0 h1, hE]
    dsimp only
    split_ifs
    · rw [← EReal.coe_sub, Ideal.exp_coe]
    · rfl
  have hp (s) : pE Q z s = ((256 * E s : ℝ) : EReal) := by
    unfold pE wE
    rw [top_w Q z s0 h0 h1, hE]
    dsimp only
    split_ifs
    · rw [← EReal.coe_sub, ← EReal.coe_sub, Ideal.exp2_coe, two_pow]
    · rw [EReal.bot_sub, Ideal.exp2_bot, mul_zero]; rfl
  have hc (s) : cE Q z s = ((256 * E s : ℝ) : EReal) := by
    unfold cE
    have a0 := e0 s
    have a1 := e1 s
    rw [hr, c448, ← EReal.coe_mul, max_eq_right (EReal.coe_nonneg.mpr (by positivity)), min_eq_right (EReal.coe_le_coe_iff.mpr (by linarith)), mul_comm]
  have hpos : 0 < ∑ s, E s := Finset.sum_pos' (fun s _ => e0 s) ⟨s0, Finset.mem_univ _, by rw [hE]; dsimp only; rw [if_pos h0]; exact Real.exp_pos _⟩
  simp only [hp, hr, hc, ← EReal.coe_mul, ← coe_sum']
  rw [← Finset.mul_sum, Ideal.div_coe (by positivity), Ideal.div_coe hpos.ne', ← EReal.coe_mul, ← EReal.coe_mul]
  congr 1
  rw [show ∑ s, vc s * (256 * E s) = ∑ s, 256 * E s * vc s from Finset.sum_congr rfl fun s _ => mul_comm _ _]
  field_simp

end Cert.Proof
end
-- ==== Proof.ReadB.lean ====
module
public import proofs.«01_k».proof.Proof.ReadT
public import proofs.«01_k».proof.Proof.ReadA
public import proofs.«01_k».proof.Proof.AttM

@[expose] public section
set_option maxRecDepth 16384

/-!
# The attention's result over the reals

For a row whose codes and scales are real: the logarithms of the weights, their maximum, the weights, their sums, and
what a block writes.
-/

noncomputable section
namespace Cert.Proof
open Cert.KernelIdeal
open Idealize.ShloMosaic Idealize.SL.Sem Idealize.ShloMosaic.TcCoe

/-! ## Folds over the tiles -/

theorem fold_le {A X : Type} (f : A → X → A) (rd : A → EReal) (P : X → Prop) (C : EReal) (l : List X)
    (h : ∀ m, ∀ x ∈ l, rd (f m x) ≤ C ↔ rd m ≤ C ∧ P x) (m : A) : rd (l.foldl f m) ≤ C ↔ rd m ≤ C ∧ ∀ x ∈ l, P x := by
  induction l generalizing m with
  | nil => simp
  | cons x l ih =>
    refine (ih (fun m y hy => h m y (.tail _ hy)) (f m x)).trans ?_
    rw [h m x (.head _)]
    simp [and_assoc]
theorem fold_add {A X : Type} (f : A → X → A) (rd : A → EReal) (g : X → EReal) (l : List X)
    (h : ∀ m, ∀ x ∈ l, rd (f m x) = rd m + g x) (m : A) : rd (l.foldl f m) = rd m + (l.map g).sum := by
  induction l generalizing m with
  | nil => simp
  | cons x l ih =>
    refine (ih (fun m y hy => h m y (.tail _ hy)) (f m x)).trans ?_
    rw [h m x (.head _), List.map_cons, List.sum_cons, add_assoc]
theorem mem_tiles (j c : Fin 6) : c ∈ tiles j ↔ c.val ≤ j.val := by revert j c; decide
theorem sum_tiles (j : Fin 6) (g : Fin 6 → EReal) (h : ∀ c : Fin 6, ¬ c.val ≤ j.val → g c = 0) : ((tiles j).map g).sum = ∑ c, g c := by
  rw [Fin.sum_univ_six]
  fin_cases j
  · simp [h 1 (by decide), h 2 (by decide), h 3 (by decide), h 4 (by decide), h 5 (by decide)]
  · simp [h 2 (by decide), h 3 (by decide), h 4 (by decide), h 5 (by decide)]
  · simp [h 3 (by decide), h 4 (by decide), h 5 (by decide), add_assoc]
  · simp [h 4 (by decide), h 5 (by decide), add_assoc]
  · simp [h 5 (by decide), add_assoc]
  · simp [add_assoc]
theorem sum_split {A B N : ℕ} (hN : N = A * B) (F : Fin N → EReal) (hlt : ∀ (a : Fin A) (b : Fin B), a.val * B + b.val < N) :
    ∑ a : Fin A, ∑ b : Fin B, F ⟨a.val * B + b.val, hlt a b⟩ = ∑ s, F s := by
  subst hN
  rw [← Fintype.sum_prod_type']
  refine Fintype.sum_equiv finProdFinEquiv _ _ fun p => congrArg F (Fin.ext ?_)
  show p.1.val * B + p.2.val = p.2.val + B * p.1.val
  rw [Nat.add_comm, Nat.mul_comm]

theorem busy_iff (n : BitVec 32) (j : Fin 6) : busy n j ↔ ((j.val * 128 : ℕ) : ℤ) < n.toInt := by
  have h := vb_iff n (j.val * 128) (by omega)
  have e : Scalar.cmpi .sgt n (i32 (j.val * 128)) = vb n (j.val * 128) := rfl
  rw [← h]
  unfold busy
  rw [e]
  generalize vb n (j.val * 128) = w
  revert w
  decide

/-! ## The tiles of the attention -/

variable (ρ : Env Ideal) (score : EReal)

theorem ktT_at (b : Fin 2) (s : Fin 768) (d : Fin 64) : ktT ρ b (ix3 0 s d) = kq (F := Ideal) (rowOf ρ b).n (rowOf ρ b).k (ix2 d s) := by
  unfold ktT
  generalize kq (F := Ideal) (rowOf ρ b).n (rowOf ρ b).k = z
  pointwise []
theorem ktt_at (b : Fin 2) (c : Fin 6) (s : Fin 128) (d : Fin 64) : ktAll ρ ((rKtt b c).emb (ix3 0 s d)) = kq (F := Ideal) (rowOf ρ b).n (rowOf ρ b).k (ix2 d (⟨c.val * 128 + s.val, by omega⟩ : Fin 768)) := by
  rw [← ktT_at, ← ktAll_at]
  refine congrArg (ktAll ρ) (funext fun a => Fin.ext ?_)
  rw [unit_emb_val, unit_emb_val]
  match a with
  | ⟨0, _⟩ => rfl
  | ⟨1, _⟩ => exact (Nat.zero_add _).symm
  | ⟨2, _⟩ => rfl
theorem vct_at (b : Fin 2) (c : Fin 6) (d : Fin 64) (s : Fin 128) : vcAll ρ ((rVt b c).emb (ix4 0 0 d s)) = vq (F := Ideal) (rowOf ρ b).n (rowOf ρ b).v (ix2 d (⟨c.val * 128 + s.val, by omega⟩ : Fin 768)) := by
  rw [← vcT_at, ← vcAll_at]
  refine congrArg (vcAll ρ) (funext fun a => Fin.ext ?_)
  rw [unit_emb_val, unit_emb_val]
  match a with
  | ⟨0, _⟩ => rfl
  | ⟨1, _⟩ => rfl
  | ⟨2, _⟩ => rfl
  | ⟨3, _⟩ => exact (Nat.zero_add _).symm
theorem corrT_at (b : Fin 2) (j : Fin 6) (h : Fin 5) (g : Fin 12) (i : Fin 64) :
    corrT ρ score b g (ix3 0 i (⟨col b j h, by simp only [col]; omega⟩ : Fin 128)) =
      (∑ d : Fin 64, kq (F := Ideal) (rowOf ρ b).n (rowOf ρ b).k (ix2 d (⟨g.val * 64 + i.val, by omega⟩ : Fin 768)) * qmean (F := Ideal) (rowOf ρ b).n j ((rowOf ρ b).x j h) (ix2 d 0))
        * (kup (F := Ideal) (rowOf ρ b).n (rowOf ρ b).k g (ix2 0 0) * score) := by
  have e : corrT ρ score b g (ix3 0 i (⟨col b j h, by simp only [col]; omega⟩ : Fin 128)) =
      corrOf (F := Ideal) score (corrC ρ b) (kup (rowOf ρ b).n (rowOf ρ b).k) g (ix2 i (⟨col b j h, by simp only [col]; omega⟩ : Fin 128)) := by
    unfold corrT
    generalize corrOf (F := Ideal) score (corrC ρ b) (kup (rowOf ρ b).n (rowOf ρ b).k) g = y
    pointwise []
  rw [e, corrOf_at]
  unfold corrC
  rw [corrAll_at]
  refine congrArg (fun x : EReal => x * (kup (F := Ideal) (rowOf ρ b).n (rowOf ρ b).k g (ix2 0 0) * score)) (Finset.sum_congr rfl fun d _ => ?_)
  rw [ktT_at]
  refine congrArg (fun x : EReal => kq (F := Ideal) (rowOf ρ b).n (rowOf ρ b).k (ix2 d (⟨g.val * 64 + i.val, by omega⟩ : Fin 768)) * x) ?_
  rw [← means_at b j h d (rowOf ρ)]
  unfold means16
  generalize means (F := Ideal) (rowOf ρ) = z
  pointwise []
theorem corr_col (b : Fin 2) (j : Fin 6) (h : Fin 5) (g : Fin 12) (i : Fin 64) :
    corrs ρ score ((rCol b j h g).emb (ix3 0 i 0)) = corrT ρ score b g (ix3 0 i (⟨col b j h, by simp only [col]; omega⟩ : Fin 128)) := by
  rw [← corrs_at]
  refine congrArg (corrs ρ score) (funext fun a => Fin.ext ?_)
  rw [unit_emb_val, unit_emb_val]
  match a with
  | ⟨0, _⟩ => rfl
  | ⟨1, _⟩ => rfl
  | ⟨2, _⟩ => exact (Nat.zero_add _).symm

/-! ## A row of real codes and scales -/

section
variable (b : Fin 2) (j : Fin 6) (h : Fin 5) (l : Fin 128) (d : Fin 64)
variable (K : Fin 64 → Fin 768 → ℝ) (hK : ∀ d s, kq (F := Ideal) (rowOf ρ b).n (rowOf ρ b).k (ix2 d s) = (K d s : EReal))
variable (Qc : Fin 64 → ℝ) (hQ : ∀ d, qq (F := Ideal) (rowOf ρ b).n j ((rowOf ρ b).x j h) (ix2 d l) = (Qc d : EReal))
variable (Mq : Fin 64 → ℝ) (hM : ∀ d, qmean (F := Ideal) (rowOf ρ b).n j ((rowOf ρ b).x j h) (ix2 d 0) = (Mq d : EReal))
variable (ks : Fin 12 → ℝ) (hks : ∀ g, kup (F := Ideal) (rowOf ρ b).n (rowOf ρ b).k g (ix2 0 0) = (ks g : EReal))
variable (qs : ℝ) (hqs : qup (F := Ideal) (rowOf ρ b).n j ((rowOf ρ b).x j h) (ix2 0 0) = (qs : EReal))
variable (V : Fin 768 → ℝ) (hV : ∀ s, vq (F := Ideal) (rowOf ρ b).n (rowOf ρ b).v (ix2 d s) = (V s : EReal))
variable (vs : ℝ) (hvs : up64 (vmax (F := Ideal) (rowOf ρ b).n (rowOf ρ b).v) (ix2 d 0) = (vs : EReal))
variable (hscore : score = (((8 * Real.log 2)⁻¹ : ℝ) : EReal))

/-- The score of a key. -/
def scoreR (K : Fin 64 → Fin 768 → ℝ) (Qc Mq : Fin 64 → ℝ) (ks : Fin 12 → ℝ) (qs : ℝ) (s : Fin 768) : ℝ :=
  ks ⟨s.val / 64, by omega⟩ * (qs * ∑ d, K d s * Qc d + ∑ d, K d s * Mq d) * (1 / 8)

include hK hQ hM hks hqs hscore in
theorem wLog_at (c : Fin 6) (hc : c.val ≤ j.val) (u : Fin 2) (i : Fin 64) :
    wLog ρ score ⊥ b j h c u (ix2 i l) = wE (j.val * 128 + l.val) (scoreR K Qc Mq ks qs) (⟨c.val * 128 + (u.val * 64 + i.val), by omega⟩ : Fin 768) := by
  unfold wLog
  rw [logits_at, rawScore_at, corr_col, corrT_at, hqs, hks, hscore]
  have es : (⟨(grp c u).val * 64 + i.val, by omega⟩ : Fin 768) = ⟨c.val * 128 + (u.val * 64 + i.val), by omega⟩ := Fin.ext (by
    show (c.val * 2 + u.val) * 64 + i.val = c.val * 128 + (u.val * 64 + i.val); omega)
  rw [es]
  have eg : (⟨(c.val * 128 + (u.val * 64 + i.val)) / 64, by omega⟩ : Fin 12) = grp c u := Fin.ext (by
    show (c.val * 128 + (u.val * 64 + i.val)) / 64 = c.val * 2 + u.val; omega)
  have e1 (d : Fin 64) := ktt_at ρ b c ⟨u.val * 64 + i.val, by omega⟩ d
  have e2 (d : Fin 64) := qcT_at ρ b j h d l
  simp only [e1, e2, hK, hQ, hM, ← EReal.coe_mul, ← coe_sum', ← EReal.coe_add]
  unfold wE
  by_cases hd : c.val = j.val ∧ ¬ u.val * 64 + i.val ≤ l.val
  · rw [if_pos ⟨by simpa using hd.1, hd.2⟩, if_neg (by have := hd.1; have := hd.2; dsimp only; omega)]
  · rw [if_neg (by simpa using hd), if_pos (by dsimp only; omega)]
    congr 1
    unfold scoreR
    rw [eg]
    have hl : Real.log 2 ≠ 0 := (Real.log_pos one_lt_two).ne'
    field_simp

include hK hQ hM hks hqs hscore in
theorem top_at : (Finset.univ.fold max ⊥ fun r : Fin 8 => mxT ρ score ⊥ b j h (ix2 r l)) = topE (j.val * 128 + l.val) (scoreR K Qc Mq ks qs) := by
  refine eq_of_forall_ge_iff fun C => ?_
  have e (r : Fin 8) : mxT ρ score ⊥ b j h (ix2 r l) ≤ C ↔ ∀ c ∈ tiles j, ∀ u ∈ ([0, 1] : List (Fin 2)), ∀ a : Fin 8, wLog ρ score ⊥ b j h c u (ix2 (⟨a.val * 8 + r.val, by omega⟩ : Fin 64) l) ≤ C := by
    unfold mxT
    refine (fold_le _ (fun m : FVec Ideal S8x128 .f32 => m (ix2 r l)) (fun c => ∀ u ∈ ([0, 1] : List (Fin 2)), ∀ a : Fin 8, wLog ρ score ⊥ b j h c u (ix2 (⟨a.val * 8 + r.val, by omega⟩ : Fin 64) l) ≤ C) C _ (fun m c _ => ?_) _).trans ?_
    · exact fold_le _ (fun m : FVec Ideal S8x128 .f32 => m (ix2 r l)) (fun u => ∀ a : Fin 8, wLog ρ score ⊥ b j h c u (ix2 (⟨a.val * 8 + r.val, by omega⟩ : Fin 64) l) ≤ C) C _ (fun m u _ => maxStep_le m _ r l C) m
    · exact ⟨fun hh => hh.2, fun hh => ⟨bot_le, hh⟩⟩
  unfold topE
  rw [Finset.fold_max_le, Finset.fold_max_le]
  simp only [e]
  constructor
  · rintro ⟨-, H⟩
    refine ⟨bot_le, fun s _ => ?_⟩
    by_cases hs : s.val / 128 ≤ j.val
    · have := H ⟨s.val % 8, by omega⟩ (Finset.mem_univ _) ⟨s.val / 128, by omega⟩ ((mem_tiles _ _).mpr hs) ⟨s.val / 64 % 2, by omega⟩ (mem2 _) ⟨s.val % 64 / 8, by omega⟩
      rw [wLog_at ρ score b j h l K hK Qc hQ Mq hM ks hks qs hqs hscore _ hs] at this
      refine le_trans (le_of_eq (congrArg _ (Fin.ext ?_))) this
      dsimp only
      omega
    · unfold wE
      rw [if_neg (by omega)]
      exact bot_le
  · rintro ⟨-, H⟩
    refine ⟨bot_le, fun r _ c hc u _ a => ?_⟩
    rw [wLog_at ρ score b j h l K hK Qc hQ Mq hM ks hks qs hqs hscore c ((mem_tiles _ _).mp hc)]
    exact H _ (Finset.mem_univ _)

theorem c8 : Ideal.ofBits .f32 0x41000000#32 = ((8 : ℝ) : EReal) := by
  have e : (8 : ℝ) = 8388608 * ((2 : ℝ) ^ 20)⁻¹ := by norm_num
  rw [e]
  simp [Ideal.ofBits, Ideal.ieee]

include hK hQ hM hks hqs hscore in
theorem pT_at (c : Fin 6) (hc : c.val ≤ j.val) (s : Fin 128) :
    pT ρ score ⊥ b j h c (ix2 s l) = pE (j.val * 128 + l.val) (scoreR K Qc Mq ks qs) (⟨c.val * 128 + s.val, by omega⟩ : Fin 768) := by
  unfold pT
  rw [weights_at, level_at, top_at ρ score b j h l K hK Qc hQ Mq hM ks hks qs hqs hscore, c8]
  have e : wAll ρ score ⊥ b j ((rWt h c).emb (ix3 0 s l)) = wE (j.val * 128 + l.val) (scoreR K Qc Mq ks qs) (⟨c.val * 128 + s.val, by omega⟩ : Fin 768) := by
    have ei : ((rWt h c).emb (ix3 0 s l) : S5x768x128.Idx) = (rW h (grp c ⟨s.val / 64, by omega⟩)).emb (ix3 0 (⟨s.val % 64, by omega⟩ : Fin 64) l) := funext fun a => Fin.ext (by
      rw [unit_emb_val, unit_emb_val]
      match a with
      | ⟨0, _⟩ => rfl
      | ⟨1, _⟩ => show c.val * 128 + s.val = (c.val * 2 + s.val / 64) * 64 + s.val % 64; omega
      | ⟨2, _⟩ => rfl)
    refine (congrArg _ ei).trans ((wAll_at ρ score ⊥ b j h c _ _).trans ?_)
    have ew : wT ρ score ⊥ b j h c ⟨s.val / 64, by omega⟩ (ix3 0 (⟨s.val % 64, by omega⟩ : Fin 64) l) = wLog ρ score ⊥ b j h c ⟨s.val / 64, by omega⟩ (ix2 (⟨s.val % 64, by omega⟩ : Fin 64) l) := by
      unfold wT
      generalize wLog ρ score ⊥ b j h c ⟨s.val / 64, by omega⟩ = y
      pointwise []
    rw [ew, wLog_at ρ score b j h l K hK Qc hQ Mq hM ks hks qs hqs hscore c hc]
    refine congrArg _ (Fin.ext ?_)
    dsimp only
    omega
  exact congrArg (fun x => Ideal.exp2 (x - _)) e

include hK hQ hM hks hqs hscore in
theorem acc_at : ∑ r : Fin 8, (aoT ρ score ⊥ b j h).1 (ix2 r l) = ∑ s, pE (j.val * 128 + l.val) (scoreR K Qc Mq ks qs) s := by
  obtain ⟨s0, h0, h1⟩ := top_score (j.val * 128 + l.val) (scoreR K Qc Mq ks qs)
  have ht : topE (j.val * 128 + l.val) (scoreR K Qc Mq ks qs) ≠ ⊥ := by rw [top_w _ _ s0 h0 h1]; exact EReal.coe_ne_bot _
  have far (c : Fin 6) (hc : ¬ c.val ≤ j.val) (s : Fin 128) := pE_far (j.val * 128 + l.val) (scoreR K Qc Mq ks qs) ⟨c.val * 128 + s.val, by omega⟩ (by dsimp only; omega) ht
  have e (r : Fin 8) : (aoT ρ score ⊥ b j h).1 (ix2 r l) = ∑ c : Fin 6, ∑ i : Fin 16, pE (j.val * 128 + l.val) (scoreR K Qc Mq ks qs) (⟨c.val * 128 + (i.val * 8 + r.val), by omega⟩ : Fin 768) := by
    unfold aoT
    refine (fold_add _ (fun ao : FVec Ideal S8x128 .f32 × FVec Ideal S64x128 .f32 => ao.1 (ix2 r l)) (fun c => ∑ i : Fin 16, pE (j.val * 128 + l.val) (scoreR K Qc Mq ks qs) (⟨c.val * 128 + (i.val * 8 + r.val), by omega⟩ : Fin 768)) _ (fun ao c hc => ?_) _).trans ?_
    · refine (accStep_at _ _ r l).trans ?_
      congr 1
      refine Finset.sum_congr rfl fun i _ => ?_
      exact pT_at ρ score b j h l K hK Qc hQ Mq hM ks hks qs hqs hscore c ((mem_tiles _ _).mp hc) _
    · rw [sum_tiles j _ fun c hc => Finset.sum_eq_zero fun i _ => far c hc ⟨i.val * 8 + r.val, by omega⟩]
      exact (congrArg (· + _) Ideal.ofBits_zero_f32).trans (zero_add _)
  rw [Finset.sum_congr rfl fun r _ => e r, Finset.sum_comm, ← sum_split (A := 6) (B := 128) rfl _ (by omega)]
  refine Finset.sum_congr rfl fun c _ => ?_
  rw [Finset.sum_comm]
  exact sum_split (A := 16) (B := 8) (N := 128) rfl (fun s => pE (j.val * 128 + l.val) (scoreR K Qc Mq ks qs) (⟨c.val * 128 + s.val, by omega⟩ : Fin 768)) (by omega)

include hK hQ hM hks hqs hscore hV in
theorem o_at : (aoT ρ score ⊥ b j h).2 (ix2 d l) = ∑ s, (V s : EReal) * pE (j.val * 128 + l.val) (scoreR K Qc Mq ks qs) s := by
  obtain ⟨s0, h0, h1⟩ := top_score (j.val * 128 + l.val) (scoreR K Qc Mq ks qs)
  have ht : topE (j.val * 128 + l.val) (scoreR K Qc Mq ks qs) ≠ ⊥ := by rw [top_w _ _ s0 h0 h1]; exact EReal.coe_ne_bot _
  unfold aoT
  refine (fold_add _ (fun ao : FVec Ideal S8x128 .f32 × FVec Ideal S64x128 .f32 => ao.2 (ix2 d l)) (fun c => ∑ s : Fin 128, (V (⟨c.val * 128 + s.val, by omega⟩ : Fin 768) : EReal) * pE (j.val * 128 + l.val) (scoreR K Qc Mq ks qs) (⟨c.val * 128 + s.val, by omega⟩ : Fin 768)) _ (fun ao c hc => ?_) _).trans ?_
  · refine (outStep_at _ _ _ d l).trans ?_
    congr 1
    refine Finset.sum_congr rfl fun s _ => ?_
    rw [pT_at ρ score b j h l K hK Qc hQ Mq hM ks hks qs hqs hscore c ((mem_tiles _ _).mp hc) s]
    congr 1
    exact (vct_at ρ b c d s).trans (hV _)
  · rw [sum_tiles j _ fun c hc => Finset.sum_eq_zero fun s _ => by
      rw [pE_far (j.val * 128 + l.val) (scoreR K Qc Mq ks qs) ⟨c.val * 128 + s.val, by omega⟩ (by dsimp only; omega) ht, mul_zero]]
    refine (congrArg (· + _) Ideal.ofBits_zero_f32).trans ((zero_add _).trans ?_)
    exact sum_split (A := 6) (B := 128) rfl (fun s => (V s : EReal) * pE (j.val * 128 + l.val) (scoreR K Qc Mq ks qs) s) (by omega)

include hK hQ hM hks hqs hscore hV hvs in
/-- What a query gets. -/
theorem out_at : outAll ρ score ⊥ ((rX b j h).emb (ix3 0 d l)) = Scalar.select (vb (rowOf ρ b).n (j.val * 128 + l.val))
    (Ideal.div ((∑ s, (V s : EReal) * pE (j.val * 128 + l.val) (scoreR K Qc Mq ks qs) s) * (vs : EReal)) (∑ s, pE (j.val * 128 + l.val) (scoreR K Qc Mq ks qs) s)) 0 := by
  refine (outAll_at ρ score ⊥ b j h _).trans ?_
  split_ifs with hb
  · have e : outT ρ score ⊥ b j h (ix3 0 d l) = finish (F := Ideal) lane128 (rowOf ρ b).n j (up64 (vmax (rowOf ρ b).n (rowOf ρ b).v)) (aoT ρ score ⊥ b j h).1 (aoT ρ score ⊥ b j h).2 (ix2 d l) := by
      unfold outT
      generalize finish (F := Ideal) lane128 (rowOf ρ b).n j (up64 (vmax (rowOf ρ b).n (rowOf ρ b).v)) (aoT ρ score ⊥ b j h).1 (aoT ρ score ⊥ b j h).2 = y
      pointwise []
    rw [e, finish_at, hvs, acc_at ρ score b j h l K hK Qc hQ Mq hM ks hks qs hqs hscore, o_at ρ score b j h l d K hK Qc hQ Mq hM ks hks qs hqs V hV hscore]
  · have hv : vb (rowOf ρ b).n (j.val * 128 + l.val) = 0#1 := by
      rcases vb_cases (rowOf ρ b).n (j.val * 128 + l.val) with e | e
      · exact e
      · have h1 := (vb_iff _ _ (by omega)).mp e
        exact absurd ((busy_iff _ _).mpr (lt_of_le_of_lt (by push_cast; omega) h1)) hb
    rw [hv]
    exact Ideal.ofBits_zero_bf16
end

end Cert.Proof
end
-- ==== Proof.ReadRA.lean ====
module
public import proofs.«01_k».proof.Proof.ReadR
public import proofs.«01_k».proof.Proof.ReadK
public import proofs.«01_k».proof.Proof.AttM

@[expose] public section
set_option maxRecDepth 16384

/-!
# The reference's attention over the reals

The codes, scales and means a query's scores come from, the scores, their softmax, and the output.
-/

noncomputable section
namespace Cert.Proof.RI
open Cert.ReferenceIdeal Cert.ReferenceIdeal.Gen Cert.ReferenceIdeal.Read
open Idealize.ShloMosaic Idealize.SL.Sem Idealize.ShloMosaic.TcCoe
variable (x0 : X0) (x1 x2 : X1) (x3 : X3)

/-- The query head of a head of a group. -/
abbrev hq (t : Fin 9) (h : Fin 5) : Fin 45 := ⟨t.val * 5 + h.val, by omega⟩

variable (b : Fin 2) (t : Fin 9) (h : Fin 5)

theorem a_qc (j : Fin 6) (l : Fin 128) (d : Fin 64) :
    val_main_v121 (F := Ideal) x0 x3 (ix5 b (⟨j.val * 128 + l.val, by omega⟩ : Fin 768) t h d) = val_main_v47 (F := Ideal) x0 x3 (ix5 b j l (hq t h) d) := by
  rw [val_main_v121_apply]
  refine congrArg (val_main_v47 (F := Ideal) x0 x3) (funext fun a => ?_)
  match a with
  | ⟨0, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 2211840 = b.val; omega)
  | ⟨1, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 368640 % 6 = j.val; omega)
  | ⟨2, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 2880 % 128 = l.val; omega)
  | ⟨3, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 64 % 45 = t.val * 5 + h.val; omega)
  | ⟨4, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) % 64 = d.val; omega)
theorem a_kc (s : Fin 768) (d : Fin 64) :
    val_main_v122 (F := Ideal) x1 x3 (ix4 b s t d) = val_main_v91 (F := Ideal) x1 x3 (ix5 b (⟨s.val / 64, by omega⟩ : Fin 12) (⟨s.val % 64, by omega⟩ : Fin 64) t d) := by
  rw [val_main_v122_apply]
  refine congrArg (val_main_v91 (F := Ideal) x1 x3) (funext fun a => ?_)
  match a with
  | ⟨0, _⟩ => exact Fin.ext (by have hb := b.isLt; have ht := t.isLt; have hd := d.isLt; have hs := s.isLt; show ((((b.val * 768 + s.val) * 9 + t.val) * 64 + d.val)) / 442368 = b.val; omega)
  | ⟨1, _⟩ => exact Fin.ext (by have hb := b.isLt; have ht := t.isLt; have hd := d.isLt; have hs := s.isLt; show ((((b.val * 768 + s.val) * 9 + t.val) * 64 + d.val)) / 36864 % 12 = s.val / 64; omega)
  | ⟨2, _⟩ => exact Fin.ext (by have hb := b.isLt; have ht := t.isLt; have hd := d.isLt; have hs := s.isLt; show ((((b.val * 768 + s.val) * 9 + t.val) * 64 + d.val)) / 576 % 64 = s.val % 64; omega)
  | ⟨3, _⟩ => exact Fin.ext (by have hb := b.isLt; have ht := t.isLt; have hd := d.isLt; have hs := s.isLt; show ((((b.val * 768 + s.val) * 9 + t.val) * 64 + d.val)) / 64 % 9 = t.val; omega)
  | ⟨4, _⟩ => exact Fin.ext (by have hb := b.isLt; have ht := t.isLt; have hd := d.isLt; have hs := s.isLt; show ((((b.val * 768 + s.val) * 9 + t.val) * 64 + d.val)) % 64 = d.val; omega)
theorem a_125 (j : Fin 6) (l : Fin 128) :
    val_main_v126 (F := Ideal) x0 x3 (ix4 b t h (⟨j.val * 128 + l.val, by omega⟩ : Fin 768)) = val_main_v124 (F := Ideal) x0 x3 (ix3 b (⟨j.val * 128 + l.val, by omega⟩ : Fin 768) (hq t h)) := by
  rw [val_main_v126_apply, val_main_v125_apply]
  refine congrArg (val_main_v124 (F := Ideal) x0 x3) (funext fun a => ?_)
  match a with
  | ⟨0, _⟩ => exact Fin.ext (by have hb := b.isLt; have ht := t.isLt; have hh := h.isLt; have hj := j.isLt; have hl := l.isLt; show ((((b.val * 768 + (j.val * 128 + l.val)) * 9 + t.val) * 5 + h.val)) / 34560 = b.val; omega)
  | ⟨1, _⟩ => exact Fin.ext (by have hb := b.isLt; have ht := t.isLt; have hh := h.isLt; have hj := j.isLt; have hl := l.isLt; show ((((b.val * 768 + (j.val * 128 + l.val)) * 9 + t.val) * 5 + h.val)) / 45 % 768 = (j.val * 128 + l.val); omega)
  | ⟨2, _⟩ => exact Fin.ext (by have hb := b.isLt; have ht := t.isLt; have hh := h.isLt; have hj := j.isLt; have hl := l.isLt; show ((((b.val * 768 + (j.val * 128 + l.val)) * 9 + t.val) * 5 + h.val)) % 45 = t.val * 5 + h.val; omega)
theorem a_124 (j : Fin 6) (l : Fin 128) (hh : Fin 45) :
    val_main_v124 (F := Ideal) x0 x3 (ix3 b (⟨j.val * 128 + l.val, by omega⟩ : Fin 768) hh) = val_main_v48 (F := Ideal) x0 x3 (ix3 b j hh) := by
  rw [val_main_v124_apply, val_main_v123_apply]
  refine congrArg (val_main_v48 (F := Ideal) x0 x3) (funext fun a => ?_)
  match a with
  | ⟨0, _⟩ => exact Fin.ext (by have hb := b.isLt; have hhh := hh.isLt; have hj := j.isLt; have hl := l.isLt; show (((b.val * 768 + (j.val * 128 + l.val)) * 45 + hh.val)) / 34560 = b.val; omega)
  | ⟨1, _⟩ => exact Fin.ext (by have hb := b.isLt; have hhh := hh.isLt; have hj := j.isLt; have hl := l.isLt; show (((b.val * 768 + (j.val * 128 + l.val)) * 45 + hh.val)) / 5760 % 6 = j.val; omega)
  | ⟨2, _⟩ => exact Fin.ext (by have hb := b.isLt; have hhh := hh.isLt; have hj := j.isLt; have hl := l.isLt; show (((b.val * 768 + (j.val * 128 + l.val)) * 45 + hh.val)) % 45 = hh.val; omega)
theorem a_48 (j : Fin 6) (hh : Fin 45) :
    val_main_v48 (F := Ideal) x0 x3 (ix3 b j hh) = val_main_v44 (F := Ideal) x0 x3 (ix5 b j 0 hh 0) := by
  rw [val_main_v48_apply]
  refine congrArg (val_main_v44 (F := Ideal) x0 x3) (funext fun a => ?_)
  match a with
  | ⟨0, _⟩ => exact Fin.ext (by have hb := b.isLt; have hhh := hh.isLt; have hj := j.isLt; show ((b.val * 6 + j.val) * 45 + hh.val) / 270 = b.val; omega)
  | ⟨1, _⟩ => exact Fin.ext (by have hb := b.isLt; have hhh := hh.isLt; have hj := j.isLt; show ((b.val * 6 + j.val) * 45 + hh.val) / 45 % 6 = j.val; omega)
  | ⟨2, _⟩ => rfl
  | ⟨3, _⟩ => exact Fin.ext (by have hb := b.isLt; have hhh := hh.isLt; have hj := j.isLt; show ((b.val * 6 + j.val) * 45 + hh.val) / 1 % 45 = hh.val; omega)
  | ⟨4, _⟩ => rfl
theorem a_sq (j : Fin 6) (l : Fin 128) : val_main_v126 (F := Ideal) x0 x3 (ix4 b t h (⟨j.val * 128 + l.val, by omega⟩ : Fin 768)) = val_main_v44 (F := Ideal) x0 x3 (ix5 b j 0 (hq t h) 0) := by
  rw [a_125, a_124, a_48]
theorem a_128 (s : Fin 768) :
    val_main_v129 (F := Ideal) x1 x3 (ix3 b t s) = val_main_v92 (F := Ideal) x1 x3 (ix3 b (⟨s.val / 64, by omega⟩ : Fin 12) t) := by
  rw [val_main_v129_apply, val_main_v128_apply, val_main_v127_apply]
  refine congrArg (val_main_v92 (F := Ideal) x1 x3) (funext fun a => ?_)
  match a with
  | ⟨0, _⟩ => exact Fin.ext (by have hb := b.isLt; have ht := t.isLt; have hs := s.isLt; show (((b.val * 768 + s.val) * 9 + t.val)) / 6912 = b.val; omega)
  | ⟨1, _⟩ => exact Fin.ext (by have hb := b.isLt; have ht := t.isLt; have hs := s.isLt; show (((b.val * 768 + s.val) * 9 + t.val)) / 576 % 12 = s.val / 64; omega)
  | ⟨2, _⟩ => exact Fin.ext (by have hb := b.isLt; have ht := t.isLt; have hs := s.isLt; show (((b.val * 768 + s.val) * 9 + t.val)) % 9 = t.val; omega)
theorem a_92 (g : Fin 12) :
    val_main_v92 (F := Ideal) x1 x3 (ix3 b g t) = val_main_v88 (F := Ideal) x1 x3 (ix5 b g 0 t 0) := by
  rw [val_main_v92_apply]
  refine congrArg (val_main_v88 (F := Ideal) x1 x3) (funext fun a => ?_)
  match a with
  | ⟨0, _⟩ => exact Fin.ext (by have hb := b.isLt; have ht := t.isLt; have hg := g.isLt; show ((b.val * 12 + g.val) * 9 + t.val) / 108 = b.val; omega)
  | ⟨1, _⟩ => exact Fin.ext (by have hb := b.isLt; have ht := t.isLt; have hg := g.isLt; show ((b.val * 12 + g.val) * 9 + t.val) / 9 % 12 = g.val; omega)
  | ⟨2, _⟩ => rfl
  | ⟨3, _⟩ => exact Fin.ext (by have hb := b.isLt; have ht := t.isLt; have hg := g.isLt; show ((b.val * 12 + g.val) * 9 + t.val) / 1 % 9 = t.val; omega)
  | ⟨4, _⟩ => rfl
theorem a_ks (s : Fin 768) : val_main_v129 (F := Ideal) x1 x3 (ix3 b t s) = val_main_v88 (F := Ideal) x1 x3 (ix5 b (⟨s.val / 64, by omega⟩ : Fin 12) 0 t 0) := by
  rw [a_128, a_92]
theorem a_133 (j : Fin 6) (l : Fin 128) (d : Fin 64) :
    val_main_v133 (F := Ideal) x0 x3 (ix5 b (⟨j.val * 128 + l.val, by omega⟩ : Fin 768) t h d) = val_main_v132 (F := Ideal) x0 x3 (ix4 b (⟨j.val * 128 + l.val, by omega⟩ : Fin 768) (hq t h) d) := by
  rw [val_main_v133_apply]
  refine congrArg (val_main_v132 (F := Ideal) x0 x3) (funext fun a => ?_)
  match a with
  | ⟨0, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 2211840 = b.val; omega)
  | ⟨1, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 2880 % 768 = (j.val * 128 + l.val); omega)
  | ⟨2, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) / 64 % 45 = t.val * 5 + h.val; omega)
  | ⟨3, _⟩ => exact Fin.ext (by have hb := b.isLt; have ht := t.isLt; have hh := h.isLt; have hd := d.isLt; have hj := j.isLt; have hl := l.isLt; show (((((b.val * 768 + (j.val * 128 + l.val)) * 9 + t.val) * 5 + h.val) * 64 + d.val)) % 64 = d.val; omega)
theorem a_132 (j : Fin 6) (l : Fin 128) (hh : Fin 45) (d : Fin 64) :
    val_main_v132 (F := Ideal) x0 x3 (ix4 b (⟨j.val * 128 + l.val, by omega⟩ : Fin 768) hh d) = val_main_v130 (F := Ideal) x0 x3 (ix4 b j hh d) := by
  rw [val_main_v132_apply, val_main_v131_apply]
  refine congrArg (val_main_v130 (F := Ideal) x0 x3) (funext fun a => ?_)
  match a with
  | ⟨0, _⟩ => exact Fin.ext (by have hb := b.isLt; have hhh := hh.isLt; have hd := d.isLt; have hj := j.isLt; have hl := l.isLt; show ((((b.val * 768 + (j.val * 128 + l.val)) * 45 + hh.val) * 64 + d.val)) / 2211840 = b.val; omega)
  | ⟨1, _⟩ => exact Fin.ext (by have hb := b.isLt; have hhh := hh.isLt; have hd := d.isLt; have hj := j.isLt; have hl := l.isLt; show ((((b.val * 768 + (j.val * 128 + l.val)) * 45 + hh.val) * 64 + d.val)) / 368640 % 6 = j.val; omega)
  | ⟨2, _⟩ => exact Fin.ext (by have hb := b.isLt; have hhh := hh.isLt; have hd := d.isLt; have hj := j.isLt; have hl := l.isLt; show ((((b.val * 768 + (j.val * 128 + l.val)) * 45 + hh.val) * 64 + d.val)) / 64 % 45 = hh.val; omega)
  | ⟨3, _⟩ => exact Fin.ext (by have hb := b.isLt; have hhh := hh.isLt; have hd := d.isLt; have hj := j.isLt; have hl := l.isLt; show ((((b.val * 768 + (j.val * 128 + l.val)) * 45 + hh.val) * 64 + d.val)) % 64 = d.val; omega)
theorem a_mq (j : Fin 6) (l : Fin 128) (d : Fin 64) : val_main_v133 (F := Ideal) x0 x3 (ix5 b (⟨j.val * 128 + l.val, by omega⟩ : Fin 768) t h d) = val_main_v18 (F := Ideal) x0 x3 (ix4 b j (hq t h) d) := by
  rw [a_133, a_132, val_main_v130_apply]
  rfl
theorem a_vs (d : Fin 64) :
    val_main_v120 (F := Ideal) x2 x3 (ix3 b t d) = val_main_v116 (F := Ideal) x2 x3 (ix4 b 0 t d) := by
  rw [val_main_v120_apply]
  refine congrArg (val_main_v116 (F := Ideal) x2 x3) (funext fun a => ?_)
  match a with
  | ⟨0, _⟩ => exact Fin.ext (by have hb := b.isLt; have ht := t.isLt; have hd := d.isLt; show ((b.val * 9 + t.val) * 64 + d.val) / 576 = b.val; omega)
  | ⟨1, _⟩ => rfl
  | ⟨2, _⟩ => exact Fin.ext (by have hb := b.isLt; have ht := t.isLt; have hd := d.isLt; show ((b.val * 9 + t.val) * 64 + d.val) / 64 % 9 = t.val; omega)
  | ⟨3, _⟩ => exact Fin.ext (by have hb := b.isLt; have ht := t.isLt; have hd := d.isLt; show ((b.val * 9 + t.val) * 64 + d.val) % 64 = d.val; omega)
theorem a_dot135 (p s : Fin 768) : val_main_v135 (F := Ideal) x0 x1 x3 (ix5 b t h p s) = ∑ d : Fin 64, val_main_v122 (F := Ideal) x1 x3 (ix4 b s t d) * val_main_v121 (F := Ideal) x0 x3 (ix5 b p t h d) := by
  rw [val_main_v135_apply, val_main_v134_apply]
  refine Finset.sum_congr rfl fun d _ => ?_
  have e1 : lidx_main_v134 (idx_main_v135 (ix5 b t h p s)) d = ix4 b s t d := funext fun a => match a with
    | ⟨0, _⟩ => rfl
    | ⟨1, _⟩ => rfl
    | ⟨2, _⟩ => rfl
    | ⟨3, _⟩ => rfl
  have e2 : ridx_main_v134 (idx_main_v135 (ix5 b t h p s)) d = ix5 b p t h d := funext fun a => match a with
    | ⟨0, _⟩ => rfl
    | ⟨1, _⟩ => rfl
    | ⟨2, _⟩ => rfl
    | ⟨3, _⟩ => rfl
    | ⟨4, _⟩ => rfl
  rw [e1, e2]
theorem a_dot137 (p s : Fin 768) : val_main_v137 (F := Ideal) x0 x1 x3 (ix5 b t h p s) = ∑ d : Fin 64, val_main_v122 (F := Ideal) x1 x3 (ix4 b s t d) * val_main_v133 (F := Ideal) x0 x3 (ix5 b p t h d) := by
  rw [val_main_v137_apply, val_main_v136_apply]
  refine Finset.sum_congr rfl fun d _ => ?_
  have e1 : lidx_main_v136 (idx_main_v137 (ix5 b t h p s)) d = ix4 b s t d := funext fun a => match a with
    | ⟨0, _⟩ => rfl
    | ⟨1, _⟩ => rfl
    | ⟨2, _⟩ => rfl
    | ⟨3, _⟩ => rfl
  have e2 : ridx_main_v136 (idx_main_v137 (ix5 b t h p s)) d = ix5 b p t h d := funext fun a => match a with
    | ⟨0, _⟩ => rfl
    | ⟨1, _⟩ => rfl
    | ⟨2, _⟩ => rfl
    | ⟨3, _⟩ => rfl
    | ⟨4, _⟩ => rfl
  rw [e1, e2]
theorem a_143 (p s : Fin 768) : val_main_v143 (F := Ideal) x1 x3 (ix5 b t h p s) = val_main_v129 (F := Ideal) x1 x3 (ix3 b t s) := by
  rw [val_main_v143_apply, val_main_v138_apply]
  refine congrArg (val_main_v129 (F := Ideal) x1 x3) (funext fun a => ?_)
  match a with
  | ⟨0, _⟩ => rfl
  | ⟨1, _⟩ => rfl
  | ⟨2, _⟩ => rfl
theorem a_140 (p s : Fin 768) : val_main_v140 (F := Ideal) x0 x3 (ix5 b t h p s) = val_main_v126 (F := Ideal) x0 x3 (ix4 b t h p) := by
  rw [val_main_v140_apply, val_main_v139_apply]
  refine congrArg (val_main_v126 (F := Ideal) x0 x3) (funext fun a => ?_)
  match a with
  | ⟨0, _⟩ => rfl
  | ⟨1, _⟩ => rfl
  | ⟨2, _⟩ => rfl
  | ⟨3, _⟩ => rfl
theorem a_m14 (p s : Fin 768) : val_main_call14_v1 (F := Ideal) x3 (ix5 b t h p s) = val_main_v155 (F := Ideal) x3 (ix3 b p s) := by
  rw [val_main_call14_v1_apply, val_main_v156_apply]
  refine congrArg (val_main_v155 (F := Ideal) x3) (funext fun a => ?_)
  match a with
  | ⟨0, _⟩ => rfl
  | ⟨1, _⟩ => rfl
  | ⟨2, _⟩ => rfl
theorem a_m15 (p s : Fin 768) : val_main_call15_v1 (F := Ideal) x3 (ix5 b t h p s) = val_main_v155 (F := Ideal) x3 (ix3 b p s) := by
  rw [val_main_call15_v1_apply, val_main_v156_apply]
  refine congrArg (val_main_v155 (F := Ideal) x3) (funext fun a => ?_)
  match a with
  | ⟨0, _⟩ => rfl
  | ⟨1, _⟩ => rfl
  | ⟨2, _⟩ => rfl
theorem a_m17 (p : Fin 768) (d : Fin 64) : val_main_call17_v1 (F := Ideal) x3 (ix5 b t h p d) = val_main_v5 (F := Ideal) x3 (ix2 b p) := by
  rw [val_main_call17_v1_apply, val_main_v177_apply]
  refine congrArg (val_main_v5 (F := Ideal) x3) (funext fun a => ?_)
  match a with
  | ⟨0, _⟩ => rfl
  | ⟨1, _⟩ => rfl
theorem a_160 (p s : Fin 768) : val_main_v160 (F := Ideal) x0 x1 x3 (ix5 b t h p s) = val_main_v158 (F := Ideal) x0 x1 x3 (ix4 b t h p) := by
  rw [val_main_v160_apply, val_main_v159_apply]
  refine congrArg (val_main_v158 (F := Ideal) x0 x1 x3) (funext fun a => ?_)
  match a with
  | ⟨0, _⟩ => rfl
  | ⟨1, _⟩ => rfl
  | ⟨2, _⟩ => rfl
  | ⟨3, _⟩ => rfl
theorem a_172 (p : Fin 768) (d : Fin 64) : val_main_v172 (F := Ideal) x2 x3 (ix5 b t h p d) = val_main_v170 (F := Ideal) x2 x3 (ix3 b t d) := by
  rw [val_main_v172_apply, val_main_v171_apply]
  refine congrArg (val_main_v170 (F := Ideal) x2 x3) (funext fun a => ?_)
  match a with
  | ⟨0, _⟩ => rfl
  | ⟨1, _⟩ => rfl
  | ⟨2, _⟩ => rfl
theorem a_175 (p : Fin 768) (d : Fin 64) : val_main_v175 (F := Ideal) x0 x1 x3 (ix5 b t h p d) = val_main_v164 (F := Ideal) x0 x1 x3 (ix4 b t h p) := by
  rw [val_main_v175_apply, val_main_v174_apply]
  refine congrArg (val_main_v164 (F := Ideal) x0 x1 x3) (funext fun a => ?_)
  match a with
  | ⟨0, _⟩ => rfl
  | ⟨1, _⟩ => rfl
  | ⟨2, _⟩ => rfl
  | ⟨3, _⟩ => rfl
theorem a_180 (p : Fin 768) (d : Fin 64) :
    val_main_v180 (F := Ideal) x0 x1 x2 x3 (ix3 b (⟨(t.val * 5 + h.val) * 64 + d.val, by omega⟩ : Fin 2880) p) = val_main_v178 (F := Ideal) x0 x1 x2 x3 (ix5 b t h p d) := by
  rw [val_main_v180_apply, val_main_v179_apply]
  refine congrArg (val_main_v178 (F := Ideal) x0 x1 x2 x3) (funext fun a => ?_)
  match a with
  | ⟨0, _⟩ => exact Fin.ext (by have hb := b.isLt; have ht := t.isLt; have hh := h.isLt; have hd := d.isLt; have hp := p.isLt; show (((b.val * 2880 + ((t.val * 5 + h.val) * 64 + d.val)) * 768 + p.val)) / 2211840 = b.val; omega)
  | ⟨1, _⟩ => exact Fin.ext (by have hb := b.isLt; have ht := t.isLt; have hh := h.isLt; have hd := d.isLt; have hp := p.isLt; show (((b.val * 2880 + ((t.val * 5 + h.val) * 64 + d.val)) * 768 + p.val)) / 245760 % 9 = t.val; omega)
  | ⟨2, _⟩ => exact Fin.ext (by have hb := b.isLt; have ht := t.isLt; have hh := h.isLt; have hd := d.isLt; have hp := p.isLt; show (((b.val * 2880 + ((t.val * 5 + h.val) * 64 + d.val)) * 768 + p.val)) / 49152 % 5 = h.val; omega)
  | ⟨3, _⟩ => exact Fin.ext (by have hb := b.isLt; have ht := t.isLt; have hh := h.isLt; have hd := d.isLt; have hp := p.isLt; show (((b.val * 2880 + ((t.val * 5 + h.val) * 64 + d.val)) * 768 + p.val)) % 768 = p.val; omega)
  | ⟨4, _⟩ => exact Fin.ext (by have hb := b.isLt; have ht := t.isLt; have hh := h.isLt; have hd := d.isLt; have hp := p.isLt; show (((b.val * 2880 + ((t.val * 5 + h.val) * 64 + d.val)) * 768 + p.val)) / 768 % 64 = d.val; omega)

/-! ## The scores -/

theorem a_v5 (s : Fin 768) : val_main_v5 (F := Ideal) x3 (ix2 b s) = vb (len x3 b) s.val := by
  pointwise [val_main_v5, val_main_v4, val_main_v3, val_main_v2, val_main_v1, val_main_v0]
  rfl
theorem a_mask (p s : Fin 768) : val_main_v155 (F := Ideal) x3 (ix3 b p s) = IntOp.andi (IntOp.cmpi .sle (BitVec.ofNat 32 s.val) (BitVec.ofNat 32 p.val)) (vb (len x3 b) s.val) := by
  rw [val_main_v155_apply, val_main_v153_apply, val_main_v151_apply, val_main_v149_apply, val_main_v150_apply, val_main_v147_apply, val_main_v148_apply, val_main_v154_apply, val_main_v152_apply, ← a_v5]
  refine congrArg (IntOp.andi (IntOp.cmpi .sle (BitVec.ofNat 32 s.val) (BitVec.ofNat 32 p.val))) (congrArg (val_main_v5 (F := Ideal) x3) (funext fun a => ?_))
  match a with
  | ⟨0, _⟩ => rfl
  | ⟨1, _⟩ => rfl
/-- Which keys a valid query attends to. -/
theorem mask_at (p s : Fin 768) (hp : vb (len x3 b) p.val = 1#1) (u w : EReal) :
    Scalar.select (val_main_v155 (F := Ideal) x3 (ix3 b p s)) u w = if s.val ≤ p.val then u else w := by
  rw [a_mask]
  have hle : IntOp.cmpi .sle (BitVec.ofNat 32 s.val) (BitVec.ofNat 32 p.val) = BitVec.ofBool (decide (s.val ≤ p.val)) := by
    have e1 := toInt_small s.val (by omega)
    have e2 := toInt_small p.val (by omega)
    unfold IntOp.cmpi
    simp only [BitVec.sle, e1, e2, Nat.cast_le]
  rw [hle]
  by_cases h : s.val ≤ p.val
  · have hs : vb (len x3 b) s.val = 1#1 := (vb_iff _ _ (by omega)).mpr (lt_of_le_of_lt (by exact_mod_cast h) ((vb_iff _ _ (by omega)).mp hp))
    rw [hs, if_pos h, decide_eq_true h]
    rfl
  · rw [if_neg h, decide_eq_false h]
    generalize vb (len x3 b) s.val = y
    have : IntOp.andi (BitVec.ofBool false) y = 0#1 := by revert y; decide
    rw [this]
    rfl
theorem a_sc (p s : Fin 768) : val_main_v146 (F := Ideal) x0 x1 x3 (ix5 b t h p s) =
    val_main_v129 (F := Ideal) x1 x3 (ix3 b t s) * (val_main_v126 (F := Ideal) x0 x3 (ix4 b t h p) * (∑ d : Fin 64, val_main_v122 (F := Ideal) x1 x3 (ix4 b s t d) * val_main_v121 (F := Ideal) x0 x3 (ix5 b p t h d))
      + ∑ d : Fin 64, val_main_v122 (F := Ideal) x1 x3 (ix4 b s t d) * val_main_v133 (F := Ideal) x0 x3 (ix5 b p t h d)) * Ideal.ofBits .f32 0x3E000000#32 := by
  rw [val_main_v146_apply, val_main_v144_apply, val_main_v142_apply, val_main_v141_apply, val_main_v145_apply, val_main_cst_39_apply, a_143, a_140, a_dot135, a_dot137]
  rfl

/-! ## The softmax -/

theorem a_max (p : Fin 768) : val_main_v158 (F := Ideal) x0 x1 x3 (ix4 b t h p) = Finset.univ.fold max ⊥ fun s : Fin 768 => val_main_v157 (F := Ideal) x0 x1 x3 (ix5 b t h p s) := by
  unfold val_main_v158
  refine (host_max_eq _ _ _ _ _ (fun s : Fin 768 => ix5 b t h p s) (fun i hi => ?_) (fun k => ?_)).trans ?_
  · idx_vars i
    have e0 := congrFun hi (0 : Fin 4)
    have e1 := congrFun hi (1 : Fin 4)
    have e2 := congrFun hi (2 : Fin 4)
    have e3 := congrFun hi (3 : Fin 4)
    exact ⟨_, by rw [← (show _ = b from e0), ← (show _ = t from e1), ← (show _ = h from e2), ← (show _ = p from e3)]; rfl⟩
  · funext a
    match a with
    | ⟨0, _⟩ => rfl
    | ⟨1, _⟩ => rfl
    | ⟨2, _⟩ => rfl
    | ⟨3, _⟩ => rfl
  · rw [show val_main_cst_41 (F := Ideal) (Shape.Idx.first h_S_) = (⊥ : EReal) from neg_inf]

theorem c256 : Ideal.ofBits .f32 0x43800000#32 = ((256 : ℝ) : EReal) := by
  have e : (256 : ℝ) = 8388608 * ((2 : ℝ) ^ 15)⁻¹ := by norm_num
  rw [e]
  simp [Ideal.ofBits, Ideal.ieee]
theorem c1_256 : Ideal.ofBits .f32 0x3B800000#32 = ((1 / 256 : ℝ) : EReal) := by
  have e : (1 / 256 : ℝ) = 8388608 * ((2 : ℝ) ^ 31)⁻¹ := by norm_num
  rw [e]
  simp [Ideal.ofBits, Ideal.ieee]
theorem c1_8 : Ideal.ofBits .f32 0x3E000000#32 = ((1 / 8 : ℝ) : EReal) := by
  have e : (1 / 8 : ℝ) = 8388608 * ((2 : ℝ) ^ 26)⁻¹ := by norm_num
  rw [e]
  simp [Ideal.ofBits, Ideal.ieee]

section
variable (p : Fin 768) (hp : vb (len x3 b) p.val = 1#1) (z : Fin 768 → ℝ)
  (hz : ∀ s, val_main_v146 (F := Ideal) x0 x1 x3 (ix5 b t h p s) = (z s : EReal))
include hp hz

theorem a_top : val_main_v158 (F := Ideal) x0 x1 x3 (ix4 b t h p) = Finset.univ.fold max ⊥ (zE p.val z) := by
  rw [a_max]
  refine congrArg (fun F : Fin 768 → EReal => Finset.univ.fold max ⊥ F) (funext fun s => ?_)
  rw [val_main_v157_apply, a_m14, mask_at x3 b p s hp, hz]
  unfold zE
  refine congrArg (fun w : EReal => if s.val ≤ p.val then (z s : EReal) else w) ?_
  rw [val_main_call14_v2_apply]
  exact neg_inf
theorem a_p (s : Fin 768) : val_main_v163 (F := Ideal) x0 x1 x3 (ix5 b t h p s) = rE p.val z s := by
  rw [val_main_v163_apply, a_m15, mask_at x3 b p s hp, val_main_v162_apply, val_main_v161_apply, a_160, a_top x0 x1 x3 b t h p hp z hz, hz]
  unfold rE
  refine congrArg (fun w : EReal => if s.val ≤ p.val then Ideal.exp ((z s : EReal) - Finset.univ.fold max ⊥ (zE p.val z)) else w) ?_
  rw [val_main_call15_v2_apply]
  exact Ideal.ofBits_zero_f32
theorem a_l : val_main_v164 (F := Ideal) x0 x1 x3 (ix4 b t h p) = ∑ s, rE p.val z s := by
  rw [val_main_v164_apply, show val_main_cst_43 (F := Ideal) (Shape.Idx.first h_S_) = (0 : EReal) from Ideal.ofBits_zero_f32, zero_add]
  refine Finset.sum_congr rfl fun s _ => ?_
  have e : idx_main_v164 (ix4 b t h p) s = ix5 b t h p s := funext fun a => match a with
    | ⟨0, _⟩ => rfl
    | ⟨1, _⟩ => rfl
    | ⟨2, _⟩ => rfl
    | ⟨3, _⟩ => rfl
    | ⟨4, _⟩ => rfl
  rw [e, a_p x0 x1 x3 b t h p hp z hz]
theorem a_c (s : Fin 768) : val_main_v167 (F := Ideal) x0 x1 x3 (ix5 b t h p s) = cE p.val z s := by
  rw [val_main_v167_apply, val_main_call16_v4_apply, val_main_call16_v2_apply, val_main_call16_v1_apply, val_main_v166_apply, a_p x0 x1 x3 b t h p hp z hz, val_main_v165_apply, val_main_cst_44_apply]
  unfold cE
  rw [← c256, ← Ideal.ofBits_zero_f32]
  rfl
theorem a_o (d : Fin 64) : val_main_v168 (F := Ideal) x0 x1 x2 x3 (ix5 b t h p d) = ∑ s, cE p.val z s * val_main_v119 (F := Ideal) x2 x3 (ix4 b s t d) := by
  rw [val_main_v168_apply]
  refine Finset.sum_congr rfl fun s _ => ?_
  have e1 : lidx_main_v168 (ix5 b t h p d) s = ix5 b t h p s := funext fun a => match a with
    | ⟨0, _⟩ => rfl
    | ⟨1, _⟩ => rfl
    | ⟨2, _⟩ => rfl
    | ⟨3, _⟩ => rfl
    | ⟨4, _⟩ => rfl
  have e2 : ridx_main_v168 (ix5 b t h p d) s = ix4 b s t d := funext fun a => match a with
    | ⟨0, _⟩ => rfl
    | ⟨1, _⟩ => rfl
    | ⟨2, _⟩ => rfl
    | ⟨3, _⟩ => rfl
  rw [e1, e2, a_c x0 x1 x3 b t h p hp z hz]
/-- What the reference gives a valid query. -/
theorem a_out (d : Fin 64) : val_main_v176 (F := Ideal) x0 x1 x2 x3 (ix5 b t h p d) =
    Ideal.div ((∑ s, cE p.val z s * val_main_v119 (F := Ideal) x2 x3 (ix4 b s t d)) * (val_main_v116 (F := Ideal) x2 x3 (ix4 b 0 t d) * ((1 / 256 : ℝ) : EReal))) (∑ s, rE p.val z s) := by
  rw [val_main_v176_apply, val_main_v173_apply, a_o x0 x1 x2 x3 b t h p hp z hz, a_172, a_175, a_l x0 x1 x3 b t h p hp z hz, val_main_v170_apply, a_vs, val_main_v169_apply, val_main_cst_47_apply, ← c1_256]
  rfl
end

theorem a_res (p : Fin 768) (d : Fin 64) : val_main_v181 (F := Ideal) x0 x1 x2 x3 (ix3 b (⟨(t.val * 5 + h.val) * 64 + d.val, by omega⟩ : Fin 2880) p) =
    Scalar.select (vb (len x3 b) p.val) (val_main_v176 (F := Ideal) x0 x1 x2 x3 (ix5 b t h p d)) 0 := by
  rw [val_main_v181_apply, a_180, val_main_v178_apply, a_m17, a_v5, val_main_call17_v2_apply, ← Ideal.ofBits_zero_f32]
  rfl

end Cert.Proof.RI
end
-- ==== Proof.ReadO.lean ====
module
public import proofs.«01_k».proof.Proof.ReadF
public import proofs.«01_k».proof.Proof.ReadB
public import proofs.«01_k».proof.Proof.ReadRA

@[expose] public section
set_option maxRecDepth 16384

/-!
# The kernel's attention is the reference's
-/

noncomputable section
namespace Cert.Proof
open Idealize.ShloMosaic

theorem clip_real (x : EReal) : ∃ r : ℝ, clipE x = r := by
  have e1 : Ideal.ofBits .f32 0x43E00000#32 = ((448 : ℝ) : EReal) := c448
  have e2 : Ideal.ofBits .f32 0xC3E00000#32 = ((-448 : ℝ) : EReal) := by
    have e : (-448 : ℝ) = -(14680064 * ((2 : ℝ) ^ 15)⁻¹) := by norm_num
    rw [e]
    simp [Ideal.ofBits, Ideal.ieee]
  have h1 : clipE x ≠ ⊤ := ne_top_of_le_ne_top (EReal.coe_ne_top 448) (by unfold clipE; rw [e1]; exact min_le_left _ _)
  have h2 : clipE x ≠ ⊥ := ne_bot_of_le_ne_bot (EReal.coe_ne_bot (-448)) (by
    unfold clipE
    rw [e1, e2]
    exact le_min (by exact_mod_cast (by norm_num : (-448 : ℝ) ≤ 448)) (le_max_left _ _))
  exact ⟨(clipE x).toReal, (EReal.coe_toReal h1 h2).symm⟩
theorem scale_real {ι : Type} [Fintype ι] [Nonempty ι] (g : ι → EReal) (h : ∀ i, ∃ r : ℝ, g i = r ∧ |r| ≤ 2 ^ 129) : ∃ s : ℝ, refE (supE g) = s := by
  obtain ⟨s, -, -, -, e⟩ := scale_main _ (sup_range g h)
  exact ⟨s, e⟩

namespace KI

open Cert.KernelIdeal Cert.KernelIdeal.Gen
open Cert.ReferenceIdeal.Read
open Idealize.ShloMosaic
open Idealize.ShloMosaic.TcCoe
open Idealize.SL Idealize.SL.RA Idealize.SL.Sem

theorem score_val : scoreC (F := Ideal) = (((8 * Real.log 2)⁻¹ : ℝ) : EReal) := IdealRules.named_const.ideal_named_scalar _ _ _ _ rfl
theorem mask_val : maskC (F := Ideal) = (⊥ : EReal) := IdealRules.named_const.ideal_named_scalar _ _ _ _ rfl

variable (m : (ℓ : Loc nD τ sig) → Buf (Elt Ideal) ℓ) (c : Dev nD)
variable (hn : ∀ b, (RI.len (a3 m c) b).toInt ≤ 768)
variable (hx : ∀ i, Fin' (a0 m c i)) (hk : ∀ i, Fin' (a1 m c i)) (hv : ∀ i, Fin' (a2 m c i))

/-! ## The codes, scales and means are the reference's -/

include hn hk in
theorem k_code (t : Fin 9) (b : Fin 2) (d : Fin 64) (s : Fin 768) :
    kq (F := Ideal) (rowAt m c t b).n (rowAt m c t b).k (ix2 d s) = val_main_v122 (F := Ideal) (a1 m c) (a3 m c) (ix4 b s t d) := by
  have hn' : (rowAt m c t b).n.toInt ≤ 768 := by rw [row_n m c t b]; exact hn b
  have hF : ∀ d s, Fin' (lin (rowAt m c t b).k d s) := fun d s => by rw [row_k]; exact hk _
  obtain ⟨g, l, rfl⟩ := k_split s
  have e1 : (⟨(RI.kpos g l).val / 64, by omega⟩ : Fin 12) = g := Fin.ext (by show (g.val * 64 + l.val) / 64 = g.val; omega)
  have e2 : (⟨(RI.kpos g l).val % 64, by omega⟩ : Fin 64) = l := Fin.ext (by show (g.val * 64 + l.val) % 64 = l.val; omega)
  rw [RI.a_kc, e1, e2, RI.kcode_at, RI.kg_at, RI.kmax_at, kq_at _ _ hF hn', ← row_n m c t b]
  simp only [← row_k m c t b]
include hn hk in
theorem k_scale (t : Fin 9) (b : Fin 2) (g : Fin 12) :
    kup (F := Ideal) (rowAt m c t b).n (rowAt m c t b).k g (ix2 0 0) = val_main_v88 (F := Ideal) (a1 m c) (a3 m c) (ix5 b g 0 t 0) := by
  have hn' : (rowAt m c t b).n.toInt ≤ 768 := by rw [row_n m c t b]; exact hn b
  have hF : ∀ d s, Fin' (lin (rowAt m c t b).k d s) := fun d s => by rw [row_k]; exact hk _
  rw [RI.ks_at, RI.kmax_at, kup_at _ _ hF hn', ← row_n m c t b]
  simp only [← row_k m c t b]
include hx in
theorem q_code (t : Fin 9) (b : Fin 2) (j : Fin 6) (h' : Fin 5) (d : Fin 64) (l : Fin 128) :
    qq (F := Ideal) (rowAt m c t b).n j ((rowAt m c t b).x j h') (ix2 d l) = val_main_v121 (F := Ideal) (a0 m c) (a3 m c) (ix5 b (⟨j.val * 128 + l.val, by omega⟩ : Fin 768) t h' d) := by
  have hF : ∀ d s, Fin' (lin1 ((rowAt m c t b).x j h') d s) := fun d s => by rw [row_x]; exact hx _
  rw [RI.a_qc, RI.qcode_at, RI.qd_at, RI.qmax_at, qq_at _ _ _ hF, ← row_n m c t b]
  simp only [← row_x m c t b]
include hx in
theorem q_scale (t : Fin 9) (b : Fin 2) (j : Fin 6) (h' : Fin 5) (l : Fin 128) :
    qup (F := Ideal) (rowAt m c t b).n j ((rowAt m c t b).x j h') (ix2 0 0) = val_main_v126 (F := Ideal) (a0 m c) (a3 m c) (ix4 b t h' (⟨j.val * 128 + l.val, by omega⟩ : Fin 768)) := by
  rw [RI.a_sq, RI.qs_at, RI.qmax_at]
  exact qup_val m c hx t b j h'
theorem q_mean (t : Fin 9) (b : Fin 2) (j : Fin 6) (h' : Fin 5) (d : Fin 64) (l : Fin 128) :
    qmean (F := Ideal) (rowAt m c t b).n j ((rowAt m c t b).x j h') (ix2 d 0) = val_main_v133 (F := Ideal) (a0 m c) (a3 m c) (ix5 b (⟨j.val * 128 + l.val, by omega⟩ : Fin 768) t h' d) := by
  rw [RI.a_mq, RI.mq_at, qmean_at, row_n m c t b, row_x m c t b]
include hv in
theorem v_code (t : Fin 9) (b : Fin 2) (d : Fin 64) (s : Fin 768) :
    vq (F := Ideal) (rowAt m c t b).n (rowAt m c t b).v (ix2 d s) = val_main_v119 (F := Ideal) (a2 m c) (a3 m c) (ix4 b s t d) := by
  have hF : ∀ d s, Fin' (lin (rowAt m c t b).v d s) := fun d s => by rw [row_v]; exact hv _
  rw [RI.vcode_at, RI.vd_at, RI.vmax_at, vq_at _ _ hF, ← row_n m c t b]
  simp only [← row_v m c t b]
include hv in
theorem v_scale (t : Fin 9) (b : Fin 2) (d : Fin 64) :
    up64 (vmax (F := Ideal) (rowAt m c t b).n (rowAt m c t b).v) (ix2 d 0) = val_main_v116 (F := Ideal) (a2 m c) (a3 m c) (ix4 b 0 t d) := by
  have hF : ∀ d s, Fin' (lin (rowAt m c t b).v d s) := fun d s => by rw [row_v]; exact hv _
  rw [RI.vs_at, RI.vmax_at, vup_at _ _ hF, ← row_n m c t b]
  simp only [← row_v m c t b]

/-! ## They are real -/

theorem k_code_real (t : Fin 9) (b : Fin 2) (d : Fin 64) (s : Fin 768) : ∃ r : ℝ, val_main_v122 (F := Ideal) (a1 m c) (a3 m c) (ix4 b s t d) = r := by
  rw [RI.a_kc, RI.kcode_at]
  exact clip_real _
include hk in
theorem k_scale_real (t : Fin 9) (b : Fin 2) (g : Fin 12) : ∃ r : ℝ, val_main_v88 (F := Ideal) (a1 m c) (a3 m c) (ix5 b g 0 t 0) = r := by
  rw [RI.ks_at, RI.kmax_at]
  exact scale_real _ fun p => dev_real _ _ _ (fun s => hk _) _
theorem q_code_real (t : Fin 9) (b : Fin 2) (j : Fin 6) (h' : Fin 5) (d : Fin 64) (l : Fin 128) : ∃ r : ℝ, val_main_v121 (F := Ideal) (a0 m c) (a3 m c) (ix5 b (⟨j.val * 128 + l.val, by omega⟩ : Fin 768) t h' d) = r := by
  rw [RI.a_qc, RI.qcode_at]
  exact clip_real _
include hx in
theorem q_scale_real (t : Fin 9) (b : Fin 2) (j : Fin 6) (h' : Fin 5) (l : Fin 128) : ∃ r : ℝ, val_main_v126 (F := Ideal) (a0 m c) (a3 m c) (ix4 b t h' (⟨j.val * 128 + l.val, by omega⟩ : Fin 768)) = r := by
  rw [RI.a_sq, RI.qs_at, RI.qmax_at]
  exact scale_real _ fun p => dev_real _ _ _ (fun s => hx _) _
include hx in
theorem q_mean_real (t : Fin 9) (b : Fin 2) (j : Fin 6) (h' : Fin 5) (d : Fin 64) (l : Fin 128) : ∃ r : ℝ, val_main_v133 (F := Ideal) (a0 m c) (a3 m c) (ix5 b (⟨j.val * 128 + l.val, by omega⟩ : Fin 768) t h' d) = r := by
  rw [RI.a_mq, RI.mq_at]
  obtain ⟨r, hr, -⟩ := mean_fin (RI.len (a3 m c) b) (RI.qpos j) (RI.xq (a0 m c) b j (RI.hq t h') d) fun s => hx _
  exact ⟨r, hr⟩
theorem v_code_real (t : Fin 9) (b : Fin 2) (d : Fin 64) (s : Fin 768) : ∃ r : ℝ, val_main_v119 (F := Ideal) (a2 m c) (a3 m c) (ix4 b s t d) = r := by
  rw [RI.vcode_at]
  exact clip_real _
include hv in
theorem v_scale_real (t : Fin 9) (b : Fin 2) (d : Fin 64) : ∃ r : ℝ, val_main_v116 (F := Ideal) (a2 m c) (a3 m c) (ix4 b 0 t d) = r := by
  rw [RI.vs_at, RI.vmax_at]
  exact scale_real _ fun s => fin_big (mskE_fin (hv _))

/-! ## The output -/

/-- A row of the output by its kv head, its place in the group and its dimension. -/
theorem row_split (x : Fin 2880) : ∃ (t : Fin 9) (h : Fin 5) (d : Fin 64), x = ⟨(t.val * 5 + h.val) * 64 + d.val, by omega⟩ :=
  ⟨⟨x.val / 320, by omega⟩, ⟨x.val / 64 % 5, by omega⟩, ⟨x.val % 64, by omega⟩, Fin.ext (by show x.val = (x.val / 320 * 5 + x.val / 64 % 5) * 64 + x.val % 64; omega)⟩

include hn hx hk hv in
theorem out_eq (t : Fin 9) (b : Fin 2) (j : Fin 6) (h' : Fin 5) (d : Fin 64) (l : Fin 128) :
    outAll (env m c (pt m t)) (scoreC (F := Ideal)) (maskC (F := Ideal)) ((rX b j h').emb (ix3 0 d l)) =
    val_main_v181 (F := Ideal) (a0 m c) (a1 m c) (a2 m c) (a3 m c) (ix3 b (⟨(t.val * 5 + h'.val) * 64 + d.val, by omega⟩ : Fin 2880) (⟨j.val * 128 + l.val, by omega⟩ : Fin 768)) := by
  choose K hK using k_code_real m c t b
  choose ks hks using k_scale_real m c hk t b
  choose Qc hQ using fun d => q_code_real m c t b j h' d l
  obtain ⟨qs, hqs⟩ := q_scale_real m c hx t b j h' l
  choose Mq hM using fun d => q_mean_real m c hx t b j h' d l
  choose V hV using v_code_real m c t b d
  obtain ⟨vs, hvs⟩ := v_scale_real m c hv t b d
  rw [mask_val, out_at (env m c (pt m t)) (scoreC (F := Ideal)) b j h' l d K (fun d s => (k_code m c hn hk t b d s).trans (hK d s))
    Qc (fun d => (q_code m c hx t b j h' d l).trans (hQ d)) Mq (fun d => (q_mean m c t b j h' d l).trans (hM d))
    ks (fun g => (k_scale m c hn hk t b g).trans (hks g)) qs ((q_scale m c hx t b j h' l).trans hqs)
    V (fun s => (v_code m c hv t b d s).trans (hV s)) vs ((v_scale m c hv t b d).trans hvs) score_val, RI.a_res]
  have en : (rowOf (env m c (pt m t)) b).n = RI.len (a3 m c) b := row_n m c t b
  rw [en]
  rcases vb_cases (RI.len (a3 m c) b) (j.val * 128 + l.val) with e | e
  · have e' : vb (RI.len (a3 m c) b) (⟨j.val * 128 + l.val, by omega⟩ : Fin 768).val = 0#1 := e
    rw [e']
    rfl
  · have hz (s : Fin 768) : val_main_v146 (F := Ideal) (a0 m c) (a1 m c) (a3 m c) (ix5 b t h' (⟨j.val * 128 + l.val, by omega⟩ : Fin 768) s) = (scoreR K Qc Mq ks qs s : EReal) := by
      rw [RI.a_sc, RI.a_ks, hks, hqs, RI.c1_8]
      simp only [hK, hQ, hM, ← EReal.coe_mul, ← coe_sum', ← EReal.coe_add]
      rfl
    have e' : vb (RI.len (a3 m c) b) (⟨j.val * 128 + l.val, by omega⟩ : Fin 768).val = 1#1 := e
    rw [RI.a_out (a0 m c) (a1 m c) (a2 m c) (a3 m c) b t h' _ e' (scoreR K Qc Mq ks qs) hz d, att_eq, hvs]
    simp only [hV]

variable {r : PUnit × MemSt nD τ sig (Elt Ideal)} (h : Pipeline.RDat.FramePost (cf m) (rdat m) (fun c b => V m c b) r)
include h hn hx hk hv

theorem res_out : r.2.mem ((c.tc : Thread nD τ).loc main_v3_0) = val_main_v181 (F := Ideal) (a0 m c) (a1 m c) (a2 m c) (a3 m c) := by
  funext i
  idx_vars i
  obtain ⟨t, h', d, rfl⟩ := row_split i1
  obtain ⟨j, l, rfl⟩ := q_split i2
  refine (out_read m h c (pt m t) ((rX i0 j h').emb (ix3 0 d l)) _ (by rw [unit_emb_val]; rfl) (by
    rw [unit_emb_val]
    show (t.val * 5 + h'.val) * 64 + d.val = t.val * 320 + (h'.val * 64 + d.val)
    omega) (by rw [unit_emb_val]; rfl)).trans ?_
  exact out_eq m c hn hx hk hv t i0 j h' d l

end KI
end Cert.Proof
end
-- ==== Proof.lean ====
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_range
public import proofs.«01_k».proof.Proof.LaunchKI
public import proofs.«01_k».proof.Proof.LaunchK
public import proofs.«01_k».proof.Proof.ReadF
public import proofs.«01_k».proof.Proof.ReadP
public import proofs.«01_k».proof.Proof.ReadO

public import Idealize.ShloMosaic.Adequacy
public import Idealize.ShloMosaic.Init

@[expose] public section

noncomputable section

namespace Cert.Proof

open Idealize.ShloMosaic Idealize.SL.Sem

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2.2.2.2.2.2, sem_eq_zero_of_no_sems (by decide) r.2⟩) (Cert.ReferenceIdeal.Value.run m g)

theorem preserves : Cert.preserves_Kernel_KernelIdeal :=
  ⟨IdealRules.named_const.statement Cert.KernelIdeal.κ "score" .f32 0x3E38AA3B#32 _ rfl,
   IdealRules.named_const.statement Cert.KernelIdeal.κ "masked" .f32 0xF149F2CA#32 _ rfl⟩

theorem out_congr {x0 y0 : (⟨Cert.ReferenceIdeal.S2x768x2880, .bf16⟩ : BufTy).Contents (Elt Ideal)} {x1 y1 x2 y2 : (⟨Cert.ReferenceIdeal.S2x768x576, .bf16⟩ : BufTy).Contents (Elt Ideal)}
    {x3 y3 : (⟨Cert.ReferenceIdeal.S2, .i32⟩ : BufTy).Contents (Elt Ideal)} (e0 : x0 = y0) (e1 : x1 = y1) (e2 : x2 = y2) (e3 : x3 = y3) :
    Cert.ReferenceIdeal.Read.val_main_v181 (F := Ideal) x0 x1 x2 x3 = Cert.ReferenceIdeal.Read.val_main_v181 (F := Ideal) y0 y1 y2 y3 := by
  rw [e0, e1, e2, e3]

/-- The value claim: each result the kernel leaves is the reference's of the same arguments. -/
theorem algebraic : Cert.algebraic_KernelIdeal_ReferenceIdeal_pre_in_range := by
  intro m g m' g' hpre hargs
  have hp := fun c => pre_all _ _ _ _ (hpre c)
  have hn := fun c => (fun b : Fin 2 => (hp c).2.2.2 (ix1 b) : ∀ b, (RI.len (KI.a3 m c) b).toInt ≤ 768)
  refine ⟨fun c => Cert.ReferenceIdeal.Read.val_main_v181 (F := Ideal) (KI.a0 m c) (KI.a1 m c) (KI.a2 m c) (KI.a3 m c), fun c => Cert.ReferenceIdeal.Read.val_main_v184 (F := Ideal) (KI.a0 m c) (KI.a3 m c), fun c => Cert.ReferenceIdeal.Read.val_main_v185 (F := Ideal) (KI.a0 m c) (KI.a3 m c), fun c => Cert.ReferenceIdeal.Read.val_main_v186 (F := Ideal) (KI.a0 m c) (KI.a3 m c), fun c => Cert.ReferenceIdeal.Read.val_main_v189 (F := Ideal) (KI.a1 m c) (KI.a3 m c), fun c => Cert.ReferenceIdeal.Read.val_main_v190 (F := Ideal) (KI.a1 m c) (KI.a3 m c), fun c => Cert.ReferenceIdeal.Read.val_main_v191 (F := Ideal) (KI.a1 m c) (KI.a3 m c), fun c => Cert.ReferenceIdeal.Read.val_main_v193 (F := Ideal) (KI.a2 m c) (KI.a3 m c), fun c => Cert.ReferenceIdeal.Read.val_main_v194 (F := Ideal) (KI.a2 m c) (KI.a3 m c), ?_, ?_⟩
  · refine (θ_run _ _ _).mono (fun r h c => ⟨KI.res_out m c (hn c) (hp c).1 (hp c).2.1 (hp c).2.2.1 h.1, KI.res_qc m c (hp c).1 h.1, KI.res_qs m c (hp c).1 h.1, KI.res_mq m c h.1, KI.res_kc m c (hn c) (hp c).2.1 h.1, KI.res_ks m c (hn c) (hp c).2.1 h.1, KI.res_mk m c (hn c) h.1, KI.res_vc m c (hp c).2.2.1 h.1, KI.res_vs m c (hp c).2.2.1 h.1,
      KI.arg_eq m Cert.KernelIdeal.main_arg0 (by decide) (by decide) (by decide) r h.1 c, KI.arg_eq m Cert.KernelIdeal.main_arg1 (by decide) (by decide) (by decide) r h.1 c, KI.arg_eq m Cert.KernelIdeal.main_arg2 (by decide) (by decide) (by decide) r h.1 c, KI.arg_eq m Cert.KernelIdeal.main_arg3 (by decide) (by decide) (by decide) r h.1 c⟩) (KI.run_main m g)
  · refine (θ_run _ _ _).mono (fun r h c => ?_) (Cert.ReferenceIdeal.Value.run m' g')
    obtain ⟨h0, h1, h2, h3, h4, h5, h6, h7, h8, ha⟩ := h c
    obtain ⟨e0, e1, e2, e3⟩ := hargs c
    refine ⟨h0.trans ?_, h1.trans ?_, h2.trans ?_, h3.trans ?_, h4.trans ?_, h5.trans ?_, h6.trans ?_, h7.trans ?_, h8.trans ?_, ha⟩
    · refine (Cert.ReferenceIdeal.Read.val_main_v181_eq _).trans ?_
      exact out_congr e0 e1 e2 e3
    · refine (Cert.ReferenceIdeal.Read.val_main_v184_eq _).trans ?_
      exact congrArg₂ _ e0 e3
    · refine (Cert.ReferenceIdeal.Read.val_main_v185_eq _).trans ?_
      exact congrArg₂ _ e0 e3
    · refine (Cert.ReferenceIdeal.Read.val_main_v186_eq _).trans ?_
      exact congrArg₂ _ e0 e3
    · refine (Cert.ReferenceIdeal.Read.val_main_v189_eq _).trans ?_
      exact congrArg₂ _ e1 e3
    · refine (Cert.ReferenceIdeal.Read.val_main_v190_eq _).trans ?_
      exact congrArg₂ _ e1 e3
    · refine (Cert.ReferenceIdeal.Read.val_main_v191_eq _).trans ?_
      exact congrArg₂ _ e1 e3
    · refine (Cert.ReferenceIdeal.Read.val_main_v193_eq _).trans ?_
      exact congrArg₂ _ e2 e3
    · refine (Cert.ReferenceIdeal.Read.val_main_v194_eq _).trans ?_
      exact congrArg₂ _ e2 e3

theorem claim : Cert.Claim :=
  ⟨Cert.Kernel.Gen.facts, Cert.KernelIdeal.Gen.facts, Cert.ReferenceIdeal.Gen.facts, Cert.Pre_in_range.Gen.facts,
    fun m g _ => K.frame m g, fun m g _ => KI.frame m g, fun m g _ => KI.frame m g, fun m g _ => frame_reference m g, fun m g _ => frame_reference m g, preserves, algebraic⟩

end Cert.Proof

end
